-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_in_vocab_finite [hPre_in_vocab_finite : Cert.Pre_in_vocab_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_in_vocab_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_finite [hPre_in_vocab_finite : Cert.Pre_in_vocab_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_in_vocab_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_vocab_finite [hKernelIdeal : Cert.KernelIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_vocab_finite [hReferenceIdeal : Cert.ReferenceIdeal.Facts] [hPre_in_vocab_finite : Cert.Pre_in_vocab_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_vocab_finite [hKernelIdeal : Cert.KernelIdeal.Facts] [hReferenceIdeal : Cert.ReferenceIdeal.Facts] [hPre_in_vocab_finite : Cert.Pre_in_vocab_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_in_vocab_finite : Cert.Pre_in_vocab_finite.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_in_vocab_finite (hKernelIdeal := hKernelIdeal) (hPre_in_vocab_finite := hPre_in_vocab_finite)
    ∧ quiescent_ReferenceIdeal (hReferenceIdeal := hReferenceIdeal)
    ∧ quiescent_ReferenceIdeal_pre_in_vocab_finite (hReferenceIdeal := hReferenceIdeal) (hPre_in_vocab_finite := hPre_in_vocab_finite)
    ∧ preserves_Kernel_KernelIdeal
    ∧ algebraic_KernelIdeal_ReferenceIdeal_pre_in_vocab_finite (hKernelIdeal := hKernelIdeal) (hReferenceIdeal := hReferenceIdeal) (hPre_in_vocab_finite := hPre_in_vocab_finite)
-- ==== Pre_in_vocab.lean ====
abbrev S1024x200 : Shape := ⟨2, ![1024, 200]⟩
abbrev S100000x128 : Shape := ⟨2, ![100000, 128]⟩
abbrev S128 : Shape := ⟨1, ![128]⟩
abbrev S128x1024 : Shape := ⟨2, ![128, 1024]⟩
abbrev S256x1024 : Shape := ⟨2, ![256, 1024]⟩
abbrev S1024 : Shape := ⟨1, ![1024]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S100000x128 .f32) (main_arg2 : FVec F S128 .f32) (main_arg3 : FVec F S128 .f32) (main_arg4 : FVec F S128x1024 .f32) (main_arg5 : FVec F S256x1024 .f32) (main_arg6 : FVec F S1024 .f32) (main_arg7 : FVec F S128x1024 .f32) (main_arg8 : FVec F S256x1024 .f32) (main_arg9 : FVec F S1024 .f32) (main_arg10 : FVec F S512 .f32) (main_arg11 : FVec F S512 .f32) (main_arg12 : FVec F S512x64 .f32) (main_arg13 : FVec F S64 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Pre_in_vocab_finite.lean ====
abbrev S1024x200 : Shape := ⟨2, ![1024, 200]⟩
abbrev S100000x128 : Shape := ⟨2, ![100000, 128]⟩
abbrev S128 : Shape := ⟨1, ![128]⟩
abbrev S128x1024 : Shape := ⟨2, ![128, 1024]⟩
abbrev S256x1024 : Shape := ⟨2, ![256, 1024]⟩
abbrev S1024 : Shape := ⟨1, ![1024]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S1024x200 : S_.BroadcastsInDim S1024x200 (![] : Fin 0 → Fin S1024x200.rank)
  bcast_S_S100000x128 : S_.BroadcastsInDim S100000x128 (![] : Fin 0 → Fin S100000x128.rank)
  bcast_S_S128 : S_.BroadcastsInDim S128 (![] : Fin 0 → Fin S128.rank)
  bcast_S_S128x1024 : S_.BroadcastsInDim S128x1024 (![] : Fin 0 → Fin S128x1024.rank)

variable [Facts]

def fn {F : FTy → Type} [FloatOps F] (main_arg0 : IVec S1024x200 32) (main_arg1 : FVec F S100000x128 .f32) (main_arg2 : FVec F S128 .f32) (main_arg3 : FVec F S128 .f32) (main_arg4 : FVec F S128x1024 .f32) (main_arg5 : FVec F S256x1024 .f32) (main_arg6 : FVec F S1024 .f32) (main_arg7 : FVec F S128x1024 .f32) (main_arg8 : FVec F S256x1024 .f32) (main_arg9 : FVec F S1024 .f32) (main_arg10 : FVec F S512 .f32) (main_arg11 : FVec F S512 .f32) (main_arg12 : FVec F S512x64 .f32) (main_arg13 : FVec F S64 .f32) : IVec S1024x200 1 × IVec S100000x128 1 × IVec S128 1 × IVec S128x1024 1 × IVec S128x1024 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_v5 : FVec F S100000x128 .f32 := Host.absf main_arg1
  let main_cst : FVec F S_ .f32 := constant S_ .f32 0x7F800000#32
  let main_v6 : FVec F S100000x128 .f32 := broadcastInDim S100000x128 ![] bcast_S_S100000x128 main_cst
  let main_v7 : IVec S100000x128 1 := cmpf .olt main_v5 main_v6
  let main_v8 : FVec F S128 .f32 := Host.absf main_arg2
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S128x1024 .f32 := Host.absf main_arg4
  let main_cst_2 : FVec F S_ .f32 := constant S_ .f32 0x7F800000#32
  let main_v12 : FVec F S128x1024 .f32 := broadcastInDim S128x1024 ![] bcast_S_S128x1024 main_cst_2
  let main_v13 : IVec S128x1024 1 := cmpf .olt main_v11 main_v12
  let main_v14 : FVec F S128x1024 .f32 := Host.absf main_arg7
  let main_cst_3 : FVec F S_ .f32 := constant S_ .f32 0x7F800000#32
  let main_v15 : FVec F S128x1024 .f32 := broadcastInDim S128x1024 ![] bcast_S_S128x1024 main_cst_3
  let main_v16 : IVec S128x1024 1 := cmpf .olt main_v14 main_v15
  (main_v4, main_v7, main_v10, main_v13, main_v16)
-- ==== Kernel.lean ====
abbrev S1024x200 : Shape := ⟨2, ![1024, 200]⟩
abbrev S100000x128 : Shape := ⟨2, ![100000, 128]⟩
abbrev S128 : Shape := ⟨1, ![128]⟩
abbrev S128x1024 : Shape := ⟨2, ![128, 1024]⟩
abbrev S256x1024 : Shape := ⟨2, ![256, 1024]⟩
abbrev S1024 : Shape := ⟨1, ![1024]⟩
abbrev S512 : Shape := ⟨1, ![512]⟩
abbrev S512x64 : Shape := ⟨2, ![512, 64]⟩
abbrev S64 : Shape := ⟨1, ![64]⟩
abbrev S200x1024 : Shape := ⟨2, ![200, 1024]⟩
abbrev S204800 : Shape := ⟨1, ![204800]⟩
abbrev S204800x128 : Shape := ⟨2, ![204800, 128]⟩
abbrev S128x128 : Shape := ⟨2, ![128, 128]⟩
abbrev S_ : Shape := ⟨0, ![]⟩
abbrev S2x128 : Shape := ⟨2, ![2, 128]⟩
abbrev S4096x128 : Shape := ⟨2, ![4096, 128]⟩
abbrev S1x128 : Shape := ⟨2, ![1, 128]⟩
abbrev S128x1 : Shape := ⟨2, ![128, 1]⟩
abbrev S1x1024 : Shape := ⟨2, ![1, 1024]⟩
abbrev S200x1024x128 : Shape := ⟨3, ![200, 1024, 128]⟩
abbrev S200x1024x1 : Shape := ⟨3, ![200, 1024, 1]⟩
abbrev S1x512 : Shape := ⟨2, ![1, 512]⟩
abbrev S1x64 : Shape := ⟨2, ![1, 64]⟩
abbrev S1024x64 : Shape := ⟨2, ![1024, 64]⟩
abbrev S1x1024x128 : Shape := ⟨3, ![1, 1024, 128]⟩
abbrev S1x1024x1 : Shape := ⟨3, ![1, 1024, 1]⟩
abbrev S1024x256 : Shape := ⟨2, ![1024, 256]⟩
abbrev S1024x128 : Shape := ⟨2, ![1024, 128]⟩
abbrev S1024x1 : Shape := ⟨2, ![1024, 1]⟩
abbrev S1024x1024 : Shape := ⟨2, ![1024, 1024]⟩
abbrev S1024x512 : Shape := ⟨2, ![1024, 512]⟩

abbrev nBuf : Table → Nat
  | .hbm => 60
  | .local .tc .vmem => 26
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S128, .f32⟩
  | .hbm, ⟨3, _⟩ => ⟨S128, .f32⟩
  | .hbm, ⟨4, _⟩ => ⟨S128x1024, .f32⟩
  | .hbm, ⟨5, _⟩ => ⟨S256x1024, .f32⟩
  | .hbm, ⟨6, _⟩ => ⟨S1024, .f32⟩
  | .hbm, ⟨7, _⟩ => ⟨S128x1024, .f32⟩
  | .hbm, ⟨8, _⟩ => ⟨S256x1024, .f32⟩
  | .hbm, ⟨9, _⟩ => ⟨S1024, .f32⟩
  | .hbm, ⟨10, _⟩ => ⟨S512, .f32⟩
  | .hbm, ⟨11, _⟩ => ⟨S512, .f32⟩
  | .hbm, ⟨12, _⟩ => ⟨S512x64, .f32⟩
  | .hbm, ⟨13, _⟩ => ⟨S64, .f32⟩
  | .hbm, ⟨14, _⟩ => ⟨S200x1024, .i32⟩
  | .hbm, ⟨15, _⟩ => ⟨S204800, .i32⟩
  | .hbm, ⟨16, _⟩ => ⟨S204800x128, .f32⟩
  | .hbm, ⟨17, _⟩ => ⟨S2x128, .f32⟩
  | .hbm, ⟨18, _⟩ => ⟨S1x128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128x1, .f32⟩
  | .hbm, ⟨38, _⟩ => ⟨S128x1024, .f32⟩
  | .hbm, ⟨39, _⟩ => ⟨S128x1024, .f32⟩
  | .hbm, ⟨40, _⟩ => ⟨S128x1, .f32⟩
  | .hbm, ⟨41, _⟩ => ⟨S128x1024, .f32⟩
  | .hbm, ⟨42, _⟩ => ⟨S128x1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S200x1024x128, .f32⟩
  | .hbm, ⟨50, _⟩ => ⟨S_, .i32⟩
  | .hbm, ⟨51, _⟩ => ⟨S1024x200, .i32⟩
  | .hbm, ⟨52, _⟩ => ⟨S1024x200, .i1⟩
  | .hbm, ⟨53, _⟩ => ⟨S1024x200, .f32⟩
  | .hbm, ⟨54, _⟩ => ⟨S200x1024, .f32⟩
  | .hbm, ⟨55, _⟩ => ⟨S200x1024x1, .f32⟩
  | .hbm, ⟨56, _⟩ => ⟨S1x512, .f32⟩
  | .hbm, ⟨57, _⟩ => ⟨S1x512, .f32⟩
  | .hbm, ⟨58, _⟩ => ⟨S1x64, .f32⟩
  | .hbm, ⟨59, _⟩ => ⟨S1024x64, .f32⟩
  | .local .tc .vmem, ⟨0, _⟩ => ⟨S4096x128, .f32⟩
  | .local .tc .vmem, ⟨1, _⟩ => ⟨S4096x128, .f32⟩
  | .local .tc .vmem, ⟨2, _⟩ => ⟨S2x128, .f32⟩
  | .local .tc .vmem, ⟨3, _⟩ => ⟨S1x1024x128, .f32⟩
  | .local .tc .vmem, ⟨4, _⟩ => ⟨S1x1024x128, .f32⟩
  | .local .tc .vmem, ⟨5, _⟩ => ⟨S1x1024x128, .f32⟩
  | .local .tc .vmem, ⟨6, _⟩ => ⟨S1x1024x128, .f32⟩
  | .local .tc .vmem, ⟨7, _⟩ => ⟨S1x1024x1, .f32⟩
  | .local .tc .vmem, ⟨8, _⟩ => ⟨S1x1024x1, .f32⟩
  | .local .tc .vmem, ⟨9, _⟩ => ⟨S1x1024x1, .f32⟩
  | .local .tc .vmem, ⟨10, _⟩ => ⟨S1x1024x1, .f32⟩
  | .local .tc .vmem, ⟨11, _⟩ => ⟨S128x1024, .f32⟩
  | .local .tc .vmem, ⟨12, _⟩ => ⟨S256x1024, .f32⟩
  | .local .tc .vmem, ⟨13, _⟩ => ⟨S1x1024, .f32⟩
  | .local .tc .vmem, ⟨14, _⟩ => ⟨S128x1024, .f32⟩
  | .local .tc .vmem, ⟨15, _⟩ => ⟨S256x1024, .f32⟩
  | .local .tc .vmem, ⟨16, _⟩ => ⟨S1x1024, .f32⟩
  | .local .tc .vmem, ⟨17, _⟩ => ⟨S1x512, .f32⟩
  | .local .tc .vmem, ⟨18, _⟩ => ⟨S1x512, .f32⟩
  | .local .tc .vmem, ⟨19, _⟩ => ⟨S512x64, .f32⟩
  | .local .tc .vmem, ⟨20, _⟩ => ⟨S1x64, .f32⟩
  | .local .tc .vmem, ⟨21, _⟩ => ⟨S1024x64, .f32⟩
  | .local .tc .vmem, ⟨22, _⟩ => ⟨S1024x256, .f32⟩
  | .local .tc .vmem, ⟨23, _⟩ => ⟨S1024x256, .f32⟩
  | .local .tc .vmem, ⟨24, _⟩ => ⟨S1024x256, .f32⟩
  | .local .tc .vmem, ⟨25, _⟩ => ⟨S1024x256, .f32⟩
  | .local .scVector .vmem, ⟨0, _⟩ => ⟨S128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_arg1_scv : Ref sig .scVector := ⟨.hbm, 1, rfl⟩
abbrev main_v1_scv : Ref sig .scVector := ⟨.hbm, 15, rfl⟩
abbrev main_v2_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg8_0 : Ref sig .tc := ⟨.vmem, 15, rfl⟩
abbrev cc2_stg9_0 : Ref sig .tc := ⟨.vmem, 16, rfl⟩
abbrev cc2_stg10_0 : Ref sig .tc := ⟨.vmem, 17, rfl⟩
abbrev cc2_stg11_0 : Ref sig .tc := ⟨.vmem, 18, rfl⟩
abbrev cc2_stg12_0 : Ref sig .tc := ⟨.vmem, 19, rfl⟩
abbrev cc2_stg13_0 : Ref sig .tc := ⟨.vmem, 20, rfl⟩
abbrev cc2_stg14_0 : Ref sig .tc := ⟨.vmem, 21, rfl⟩
abbrev cc2_scratch0 : Ref sig .tc := ⟨.vmem, 22, rfl⟩
abbrev cc2_scratch1 : Ref sig .tc := ⟨.vmem, 23, rfl⟩
abbrev cc2_scratch2 : Ref sig .tc := ⟨.vmem, 24, rfl⟩
abbrev cc2_scratch3 : Ref sig .tc := ⟨.vmem, 25, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem3_1 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21
abbrev cc2_sem12_0 : DmaSem sig := 22
abbrev cc2_sem13_0 : DmaSem sig := 23
abbrev cc2_sem14_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![200], ![false]⟩

def k2_cond2 (i : grid2.Coords) : BitVec 1 :=
  let arg0 : BitVec 32 := BitVec.ofNat 32 (i 0).val
  let c199_i32 : BitVec 32 := 199#32
  let v89 : BitVec 1 := Scalar.cmpi .eq arg0 c199_i32
  let v90 : BitVec 32 := Scalar.extui v89
  let c0_i32_43 : BitVec 32 := 0#32
  let v91 : BitVec 1 := Scalar.cmpi .ne v90 c0_i32_43
  v91

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1024x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S128 : Shape := ⟨1, ![128]⟩
abbrev S128x1024 : Shape := ⟨2, ![128, 1024]⟩
abbrev S256x1024 : Shape := ⟨2, ![256, 1024]⟩
abbrev S1024 : Shape := ⟨1, ![1024]⟩
abbrev S512 : Shape := ⟨1, ![512]⟩
abbrev S512x64 : Shape := ⟨2, ![512, 64]⟩
abbrev S64 : Shape := ⟨1, ![64]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩
abbrev S200x1024x128 : Shape := ⟨3, ![200, 1024, 128]⟩
abbrev S200x1024 : Shape := ⟨2, ![200, 1024]⟩
abbrev S1024x256 : Shape := ⟨2, ![1024, 256]⟩
abbrev S1x1024x128 : Shape := ⟨3, ![1, 1024, 128]⟩
abbrev S1024x128 : Shape := ⟨2, ![1024, 128]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S1x512 : Shape := ⟨2, ![1, 512]⟩
abbrev S1024x64 : Shape := ⟨2, ![1024, 64]⟩
abbrev S1x64 : Shape := ⟨2, ![1, 64]⟩

abbrev nBuf : Space → Nat
  | .hbm => 291
  | .vmem => 0
  | .smem => 0
  | _ => 0

abbrev hbmTy0_0 (i : Nat) : BufTy := match i % 128 with
  | 0 => ⟨S1024x200, .i32⟩
  | 1 => ⟨S100000x128, .f32⟩
  | 2 => ⟨S128, .f32⟩
  | 3 => ⟨S128, .f32⟩
  | 4 => ⟨S128x1024, .f32⟩
  | 5 => ⟨S256x1024, .f32⟩
  | 6 => ⟨S1024, .f32⟩
  | 7 => ⟨S128x1024, .f32⟩
  | 8 => ⟨S256x1024, .f32⟩
  | 9 => ⟨S1024, .f32⟩
  | 10 => ⟨S512, .f32⟩
  | 11 => ⟨S512, .f32⟩
  | 12 => ⟨S512x64, .f32⟩
  | 13 => ⟨S64, .f32⟩
  | 14 => ⟨S_, .i32⟩
  | 15 => ⟨S1024x200, .i32⟩
  | 16 => ⟨S1024x200, .i1⟩
  | 17 => ⟨S_, .i32⟩
  | 18 => ⟨S1024x200, .i32⟩
  | 19 => ⟨S1024x200, .i1⟩
  | 20 => ⟨S_, .i32⟩
  | 21 => ⟨S1024x200, .i32⟩
  | 22 => ⟨S1024x200, .i32⟩
  | 23 => ⟨S1024x200, .i32⟩
  | 24 => ⟨S1024x200x1, .i32⟩
  | 25 => ⟨S1, .i32⟩
  | 26 => ⟨S_, .i32⟩
  | 27 => ⟨S1024x200x1, .i32⟩
  | 28 => ⟨S1024x200x1, .i1⟩
  | 29 => ⟨S1x1x1, .i32⟩
  | 30 => ⟨S1024x200x1, .i32⟩
  | 31 => ⟨S1024x200x1, .i1⟩
  | 32 => ⟨S1024x200x1, .i1⟩
  | 33 => ⟨S_, .i1⟩
  | 34 => ⟨S1024x200, .i1⟩
  | 35 => ⟨S1024x200x128, .f32⟩
  | 36 => ⟨S1024x200x128, .i1⟩
  | 37 => ⟨S_, .f32⟩
  | 38 => ⟨S1024x200x128, .f32⟩
  | 39 => ⟨S1024x200x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x1x128, .f32⟩
  | 49 => ⟨S_, .f32⟩
  | 50 => ⟨S1x1x128, .f32⟩
  | 51 => ⟨S1x1x128, .f32⟩
  | 52 => ⟨S1024x200x128, .f32⟩
  | 53 => ⟨S1024x200x128, .f32⟩
  | 54 => ⟨S1024x200x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x1x128, .f32⟩
  | 69 => ⟨S1024x200x128, .f32⟩
  | 70 => ⟨S1024x200x128, .f32⟩
  | 71 => ⟨S1x1x128, .f32⟩
  | 72 => ⟨S1024x200x128, .f32⟩
  | 73 => ⟨S1024x200x128, .f32⟩
  | 74 => ⟨S_, .f32⟩
  | 75 => ⟨S128, .f32⟩
  | 76 => ⟨S128, .f32⟩
  | 77 => ⟨S128, .f32⟩
  | 78 => ⟨S1x1x128, .f32⟩
  | 79 => ⟨S1024x200x128, .f32⟩
  | 80 => ⟨S1024x200x128, .f32⟩
  | 81 => ⟨S1x1x128, .f32⟩
  | 82 => ⟨S1024x200x128, .f32⟩
  | 83 => ⟨S1024x200x128, .f32⟩
  | 84 => ⟨S200x1024x128, .f32⟩
  | 85 => ⟨S200x1024, .i1⟩
  | 86 => ⟨S_, .f32⟩
  | 87 => ⟨S1024x256, .f32⟩
  | 88 => ⟨S_, .f32⟩
  | 89 => ⟨S1024x256, .f32⟩
  | 90 => ⟨S_, .i32⟩
  | 91 => ⟨S200x1024x128, .f32⟩
  | 92 => ⟨S200x1024, .i1⟩
  | 93 => ⟨S128x1024, .f32⟩
  | 94 => ⟨S256x1024, .f32⟩
  | 95 => ⟨S1024, .f32⟩
  | 96 => ⟨S_, .i32⟩
  | 97 => ⟨S1024x256, .f32⟩
  | 98 => ⟨S1024x256, .f32⟩
  | 99 => ⟨S_, .i32⟩
  | 100 => ⟨S_, .i1⟩
  | 101 => ⟨S_, .i32⟩
  | 102 => ⟨S_, .i32⟩
  | 103 => ⟨S1x1024x128, .f32⟩
  | 104 => ⟨S1024x128, .f32⟩
  | 105 => ⟨S_, .i32⟩
  | 106 => ⟨S1x1024, .i1⟩
  | 107 => ⟨S1024, .i1⟩
  | 108 => ⟨S1024x1024, .f32⟩
  | 109 => ⟨S1024x1024, .f32⟩
  | 110 => ⟨S1024x1024, .f32⟩
  | 111 => ⟨S1x1024, .f32⟩
  | 112 => ⟨S1024x1024, .f32⟩
  | 113 => ⟨S1024x1024, .f32⟩
  | 114 => ⟨S1024x256, .f32⟩
  | 115 => ⟨S1024x256, .f32⟩
  | 116 => ⟨S1024x256, .f32⟩
  | 117 => ⟨S1024x256, .f32⟩
  | 118 => ⟨S1024x256, .f32⟩
  | 119 => ⟨S1024x256, .f32⟩
  | 120 => ⟨S_, .f32⟩
  | 121 => ⟨S1024x256, .f32⟩
  | 122 => ⟨S1024x256, .f32⟩
  | 123 => ⟨S_, .f32⟩
  | 124 => ⟨S1024x256, .f32⟩
  | 125 => ⟨S1024x256, .f32⟩
  | 126 => ⟨S1024x256, .f32⟩
  | 127 => ⟨S1024x256, .f32⟩
  | _ => ⟨S1024x200, .i32⟩

abbrev hbmTy0_1 (i : Nat) : BufTy := match i % 128 with
  | 0 => ⟨S_, .f32⟩
  | 1 => ⟨S1024x256, .f32⟩
  | 2 => ⟨S1024x256, .f32⟩
  | 3 => ⟨S_, .f32⟩
  | 4 => ⟨S1024x256, .f32⟩
  | 5 => ⟨S1024x256, .f32⟩
  | 6 => ⟨S1024x256, .f32⟩
  | 7 => ⟨S1024x256, .f32⟩
  | 8 => ⟨S1024x256, .f32⟩
  | 9 => ⟨S_, .f32⟩
  | 10 => ⟨S1024x256, .f32⟩
  | 11 => ⟨S1024x256, .f32⟩
  | 12 => ⟨S_, .f32⟩
  | 13 => ⟨S1024x256, .f32⟩
  | 14 => ⟨S1024x256, .f32⟩
  | 15 => ⟨S1024x256, .f32⟩
  | 16 => ⟨S1024x256, .f32⟩
  | 17 => ⟨S1024x256, .f32⟩
  | 18 => ⟨S1024x256, .f32⟩
  | 19 => ⟨S1024x256, .f32⟩
  | 20 => ⟨S1024x1, .i1⟩
  | 21 => ⟨S1024x256, .i1⟩
  | 22 => ⟨S1024x256, .f32⟩
  | 23 => ⟨S1024x256, .i1⟩
  | 24 => ⟨S1024x256, .f32⟩
  | 25 => ⟨S_, .i32⟩
  | 26 => ⟨S_, .i32⟩
  | 27 => ⟨S_, .f32⟩
  | 28 => ⟨S1024x256, .f32⟩
  | 29 => ⟨S_, .f32⟩
  | 30 => ⟨S1024x256, .f32⟩
  | 31 => ⟨S_, .i32⟩
  | 32 => ⟨S200x1024x128, .f32⟩
  | 33 => ⟨S200x1024, .i1⟩
  | 34 => ⟨S128x1024, .f32⟩
  | 35 => ⟨S256x1024, .f32⟩
  | 36 => ⟨S1024, .f32⟩
  | 37 => ⟨S_, .i32⟩
  | 38 => ⟨S1024x256, .f32⟩
  | 39 => ⟨S1024x256, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S1x1024x128, .f32⟩
  | 49 => ⟨S1024x128, .f32⟩
  | 50 => ⟨S_, .i32⟩
  | 51 => ⟨S1x1024, .i1⟩
  | 52 => ⟨S1024, .i1⟩
  | 53 => ⟨S1024x1024, .f32⟩
  | 54 => ⟨S1024x1024, .f32⟩
  | 55 => ⟨S1024x1024, .f32⟩
  | 56 => ⟨S1x1024, .f32⟩
  | 57 => ⟨S1024x1024, .f32⟩
  | 58 => ⟨S1024x1024, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S_, .f32⟩
  | 66 => ⟨S1024x256, .f32⟩
  | 67 => ⟨S1024x256, .f32⟩
  | 68 => ⟨S_, .f32⟩
  | 69 => ⟨S1024x256, .f32⟩
  | 70 => ⟨S1024x256, .f32⟩
  | 71 => ⟨S1024x256, .f32⟩
  | 72 => ⟨S1024x256, .f32⟩
  | 73 => ⟨S_, .f32⟩
  | 74 => ⟨S1024x256, .f32⟩
  | 75 => ⟨S1024x256, .f32⟩
  | 76 => ⟨S_, .f32⟩
  | 77 => ⟨S1024x256, .f32⟩
  | 78 => ⟨S1024x256, .f32⟩
  | 79 => ⟨S1024x256, .f32⟩
  | 80 => ⟨S1024x256, .f32⟩
  | 81 => ⟨S1024x256, .f32⟩
  | 82 => ⟨S_, .f32⟩
  | 83 => ⟨S1024x256, .f32⟩
  | 84 => ⟨S1024x256, .f32⟩
  | 85 => ⟨S_, .f32⟩
  | 86 => ⟨S1024x256, .f32⟩
  | 87 => ⟨S1024x256, .f32⟩
  | 88 => ⟨S1024x256, .f32⟩
  | 89 => ⟨S1024x256, .f32⟩
  | 90 => ⟨S1024x256, .f32⟩
  | 91 => ⟨S1024x256, .f32⟩
  | 92 => ⟨S1024x256, .f32⟩
  | 93 => ⟨S1024x1, .i1⟩
  | 94 => ⟨S1024x256, .i1⟩
  | 95 => ⟨S1024x256, .f32⟩
  | 96 => ⟨S1024x256, .i1⟩
  | 97 => ⟨S1024x256, .f32⟩
  | 98 => ⟨S_, .i32⟩
  | 99 => ⟨S_, .i32⟩
  | 100 => ⟨S1024x512, .f32⟩
  | 101 => ⟨S_, .f32⟩
  | 102 => ⟨S512, .f32⟩
  | 103 => ⟨S_, .f32⟩
  | 104 => ⟨S512, .f32⟩
  | 105 => ⟨S512, .f32⟩
  | 106 => ⟨S_, .i32⟩
  | 107 => ⟨S_, .f32⟩
  | 108 => ⟨S512, .f32⟩
  | 109 => ⟨S1x512, .f32⟩
  | 110 => ⟨S_, .f32⟩
  | 111 => ⟨S1x512, .f32⟩
  | 112 => ⟨S1x512, .f32⟩
  | 113 => ⟨S1024x512, .f32⟩
  | 114 => ⟨S1024x512, .f32⟩
  | 115 => ⟨S1024x512, .f32⟩
  | 116 => ⟨S_, .f32⟩
  | 117 => ⟨S_, .f32⟩
  | 118 => ⟨S_, .f32⟩
  | 119 => ⟨S_, .f32⟩
  | 120 => ⟨S512, .f32⟩
  | 121 => ⟨S512, .f32⟩
  | 122 => ⟨S512, .f32⟩
  | 123 => ⟨S_, .f32⟩
  | 124 => ⟨S_, .i1⟩
  | 125 => ⟨S_, .f32⟩
  | 126 => ⟨S_, .f32⟩
  | 127 => ⟨S512, .f32⟩
  | _ => ⟨S1024x200, .i32⟩

abbrev hbmTy0_2 (i : Nat) : BufTy := match i % 128 with
  | 0 => ⟨S512, .f32⟩
  | 1 => ⟨S1x512, .f32⟩
  | 2 => ⟨S1024x512, .f32⟩
  | 3 => ⟨S1024x512, .f32⟩
  | 4 => ⟨S1x512, .f32⟩
  | 5 => ⟨S1024x512, .f32⟩
  | 6 => ⟨S1024x512, .f32⟩
  | 7 => ⟨S_, .f32⟩
  | 8 => ⟨S512, .f32⟩
  | 9 => ⟨S512, .f32⟩
  | 10 => ⟨S512, .f32⟩
  | 11 => ⟨S1x512, .f32⟩
  | 12 => ⟨S1024x512, .f32⟩
  | 13 => ⟨S1024x512, .f32⟩
  | 14 => ⟨S1x512, .f32⟩
  | 15 => ⟨S1024x512, .f32⟩
  | 16 => ⟨S1024x512, .f32⟩
  | 17 => ⟨S1024x64, .f32⟩
  | 18 => ⟨S1x64, .f32⟩
  | 19 => ⟨S1024x64, .f32⟩
  | 20 => ⟨S1024x64, .f32⟩
  | 21 => ⟨S_, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024x64, .f32⟩
  | 28 => ⟨S1024x64, .f32⟩
  | 29 => ⟨S1024x64, .f32⟩
  | 30 => ⟨S_, .f32⟩
  | 31 => ⟨S1024, .f32⟩
  | 32 => ⟨S1024x1, .f32⟩
  | 33 => ⟨S1024x64, .f32⟩
  | 34 => ⟨S1024x64, .f32⟩
  | _ => ⟨S1024x200, .i32⟩

abbrev hbmTy (i : Nat) : BufTy := match i / 128 with
  | 0 => hbmTy0_0 i
  | 1 => hbmTy0_1 i
  | 2 => hbmTy0_2 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_cst : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_v5 : Ref sig .tc := ⟨.hbm, 44, rfl⟩
abbrev main_c_1 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_cst_2 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst_3 : Ref sig .tc := ⟨.hbm, 86, rfl⟩
abbrev main_v24 : Ref sig .tc := ⟨.hbm, 87, rfl⟩
abbrev main_cst_4 : Ref sig .tc := ⟨.hbm, 88, rfl⟩
abbrev main_v25 : Ref sig .tc := ⟨.hbm, 89, rfl⟩
abbrev main_c_5 : Ref sig .tc := ⟨.hbm, 90, rfl⟩
abbrev main_v26_0 : Ref sig .tc := ⟨.hbm, 91, rfl⟩
abbrev main_v26_1 : Ref sig .tc := ⟨.hbm, 92, rfl⟩
abbrev main_v26_2 : Ref sig .tc := ⟨.hbm, 93, rfl⟩
abbrev main_v26_3 : Ref sig .tc := ⟨.hbm, 94, rfl⟩
abbrev main_v26_4 : Ref sig .tc := ⟨.hbm, 95, rfl⟩
abbrev main_v26_5 : Ref sig .tc := ⟨.hbm, 96, rfl⟩
abbrev main_v26_6 : Ref sig .tc := ⟨.hbm, 97, rfl⟩
abbrev main_v26_7 : Ref sig .tc := ⟨.hbm, 98, rfl⟩
abbrev main_while0c_c_23 : Ref sig .tc := ⟨.hbm, 99, rfl⟩
abbrev main_while0c_v65 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_v0 : Ref sig .tc := ⟨.hbm, 103, rfl⟩
abbrev main_while0b_v65 : Ref sig .tc := ⟨.hbm, 104, rfl⟩
abbrev main_while0b_call3_c : Ref sig .tc := ⟨.hbm, 105, rfl⟩
abbrev main_while0b_call3_v0 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_cst_23 : Ref sig .tc := ⟨.hbm, 120, rfl⟩
abbrev main_while0b_v79 : Ref sig .tc := ⟨.hbm, 121, rfl⟩
abbrev main_while0b_v80 : Ref sig .tc := ⟨.hbm, 122, rfl⟩
abbrev main_while0b_cst_24 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_cst_25 : Ref sig .tc := ⟨.hbm, 128, rfl⟩
abbrev main_while0b_v85 : Ref sig .tc := ⟨.hbm, 129, rfl⟩
abbrev main_while0b_v86 : Ref sig .tc := ⟨.hbm, 130, rfl⟩
abbrev main_while0b_cst_26 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_cst_27 : Ref sig .tc := ⟨.hbm, 137, rfl⟩
abbrev main_while0b_v92 : Ref sig .tc := ⟨.hbm, 138, rfl⟩
abbrev main_while0b_v93 : Ref sig .tc := ⟨.hbm, 139, rfl⟩
abbrev main_while0b_cst_28 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_call4_v0 : Ref sig .tc := ⟨.hbm, 149, rfl⟩
abbrev main_while0b_v102 : Ref sig .tc := ⟨.hbm, 150, rfl⟩
abbrev main_while0b_call5_v0 : Ref sig .tc := ⟨.hbm, 151, rfl⟩
abbrev main_while0b_v103 : Ref sig .tc := ⟨.hbm, 152, rfl⟩
abbrev main_while0b_c_29 : Ref sig .tc := ⟨.hbm, 153, rfl⟩
abbrev main_while0b_v104 : Ref sig .tc := ⟨.hbm, 154, rfl⟩
abbrev main_cst_6 : Ref sig .tc := ⟨.hbm, 155, rfl⟩
abbrev main_v27 : Ref sig .tc := ⟨.hbm, 156, rfl⟩
abbrev main_cst_7 : Ref sig .tc := ⟨.hbm, 157, rfl⟩
abbrev main_v28 : Ref sig .tc := ⟨.hbm, 158, rfl⟩
abbrev main_c_8 : Ref sig .tc := ⟨.hbm, 159, rfl⟩
abbrev main_v29_0 : Ref sig .tc := ⟨.hbm, 160, rfl⟩
abbrev main_v29_1 : Ref sig .tc := ⟨.hbm, 161, rfl⟩
abbrev main_v29_2 : Ref sig .tc := ⟨.hbm, 162, rfl⟩
abbrev main_v29_3 : Ref sig .tc := ⟨.hbm, 163, rfl⟩
abbrev main_v29_4 : Ref sig .tc := ⟨.hbm, 164, rfl⟩
abbrev main_v29_5 : Ref sig .tc := ⟨.hbm, 165, rfl⟩
abbrev main_v29_6 : Ref sig .tc := ⟨.hbm, 166, rfl⟩
abbrev main_v29_7 : Ref sig .tc := ⟨.hbm, 167, rfl⟩
abbrev main_while1c_c_23 : Ref sig .tc := ⟨.hbm, 168, rfl⟩
abbrev main_while1c_v65 : Ref sig .tc := ⟨.hbm, 169, rfl⟩
abbrev main_while1b_c_23 : Ref sig .tc := ⟨.hbm, 170, rfl⟩
abbrev main_while1b_v65 : Ref sig .tc := ⟨.hbm, 171, rfl⟩
abbrev main_while1b_c_24 : Ref sig .tc := ⟨.hbm, 172, rfl⟩
abbrev main_while1b_v66 : Ref sig .tc := ⟨.hbm, 173, rfl⟩
abbrev main_while1b_call6_c : Ref sig .tc := ⟨.hbm, 174, rfl⟩
abbrev main_while1b_call6_c_0 : Ref sig .tc := ⟨.hbm, 175, rfl⟩
abbrev main_while1b_call6_v0 : Ref sig .tc := ⟨.hbm, 176, rfl⟩
abbrev main_while1b_v67 : Ref sig .tc := ⟨.hbm, 177, rfl⟩
abbrev main_while1b_call7_c : Ref sig .tc := ⟨.hbm, 178, rfl⟩
abbrev main_while1b_call7_v0 : Ref sig .tc := ⟨.hbm, 179, rfl⟩
abbrev main_while1b_v68 : Ref sig .tc := ⟨.hbm, 180, rfl⟩
abbrev main_while1b_v69 : Ref sig .tc := ⟨.hbm, 181, rfl⟩
abbrev main_while1b_v70 : Ref sig .tc := ⟨.hbm, 182, rfl⟩
abbrev main_while1b_v71 : Ref sig .tc := ⟨.hbm, 183, rfl⟩
abbrev main_while1b_v72 : Ref sig .tc := ⟨.hbm, 184, rfl⟩
abbrev main_while1b_v73 : Ref sig .tc := ⟨.hbm, 185, rfl⟩
abbrev main_while1b_v74 : Ref sig .tc := ⟨.hbm, 186, rfl⟩
abbrev main_while1b_v75 : Ref sig .tc := ⟨.hbm, 187, rfl⟩
abbrev main_while1b_v76 : Ref sig .tc := ⟨.hbm, 188, rfl⟩
abbrev main_while1b_v77 : Ref sig .tc := ⟨.hbm, 189, rfl⟩
abbrev main_while1b_v78 : Ref sig .tc := ⟨.hbm, 190, rfl⟩
abbrev main_while1b_v79 : Ref sig .tc := ⟨.hbm, 191, rfl⟩
abbrev main_while1b_v80 : Ref sig .tc := ⟨.hbm, 192, rfl⟩
abbrev main_while1b_cst_25 : Ref sig .tc := ⟨.hbm, 193, rfl⟩
abbrev main_while1b_v81 : Ref sig .tc := ⟨.hbm, 194, rfl⟩
abbrev main_while1b_v82 : Ref sig .tc := ⟨.hbm, 195, rfl⟩
abbrev main_while1b_cst_26 : Ref sig .tc := ⟨.hbm, 196, rfl⟩
abbrev main_while1b_v83 : Ref sig .tc := ⟨.hbm, 197, rfl⟩
abbrev main_while1b_v84 : Ref sig .tc := ⟨.hbm, 198, rfl⟩
abbrev main_while1b_v85 : Ref sig .tc := ⟨.hbm, 199, rfl⟩
abbrev main_while1b_v86 : Ref sig .tc := ⟨.hbm, 200, rfl⟩
abbrev main_while1b_cst_27 : Ref sig .tc := ⟨.hbm, 201, rfl⟩
abbrev main_while1b_v87 : Ref sig .tc := ⟨.hbm, 202, rfl⟩
abbrev main_while1b_v88 : Ref sig .tc := ⟨.hbm, 203, rfl⟩
abbrev main_while1b_cst_28 : Ref sig .tc := ⟨.hbm, 204, rfl⟩
abbrev main_while1b_v89 : Ref sig .tc := ⟨.hbm, 205, rfl⟩
abbrev main_while1b_v90 : Ref sig .tc := ⟨.hbm, 206, rfl⟩
abbrev main_while1b_v91 : Ref sig .tc := ⟨.hbm, 207, rfl⟩
abbrev main_while1b_v92 : Ref sig .tc := ⟨.hbm, 208, rfl⟩
abbrev main_while1b_v93 : Ref sig .tc := ⟨.hbm, 209, rfl⟩
abbrev main_while1b_cst_29 : Ref sig .tc := ⟨.hbm, 210, rfl⟩
abbrev main_while1b_v94 : Ref sig .tc := ⟨.hbm, 211, rfl⟩
abbrev main_while1b_v95 : Ref sig .tc := ⟨.hbm, 212, rfl⟩
abbrev main_while1b_cst_30 : Ref sig .tc := ⟨.hbm, 213, rfl⟩
abbrev main_while1b_v96 : Ref sig .tc := ⟨.hbm, 214, rfl⟩
abbrev main_while1b_v97 : Ref sig .tc := ⟨.hbm, 215, rfl⟩
abbrev main_while1b_v98 : Ref sig .tc := ⟨.hbm, 216, rfl⟩
abbrev main_while1b_v99 : Ref sig .tc := ⟨.hbm, 217, rfl⟩
abbrev main_while1b_v100 : Ref sig .tc := ⟨.hbm, 218, rfl⟩
abbrev main_while1b_v101 : Ref sig .tc := ⟨.hbm, 219, rfl⟩
abbrev main_while1b_v102 : Ref sig .tc := ⟨.hbm, 220, rfl⟩
abbrev main_while1b_v103 : Ref sig .tc := ⟨.hbm, 221, rfl⟩
abbrev main_while1b_call8_v0 : Ref sig .tc := ⟨.hbm, 222, rfl⟩
abbrev main_while1b_v104 : Ref sig .tc := ⟨.hbm, 223, rfl⟩
abbrev main_while1b_call9_v0 : Ref sig .tc := ⟨.hbm, 224, rfl⟩
abbrev main_while1b_v105 : Ref sig .tc := ⟨.hbm, 225, rfl⟩
abbrev main_while1b_c_31 : Ref sig .tc := ⟨.hbm, 226, rfl⟩
abbrev main_while1b_v106 : Ref sig .tc := ⟨.hbm, 227, rfl⟩
abbrev main_v30 : Ref sig .tc := ⟨.hbm, 228, rfl⟩
abbrev main_cst_9 : Ref sig .tc := ⟨.hbm, 229, rfl⟩
abbrev main_v31 : Ref sig .tc := ⟨.hbm, 230, rfl⟩
abbrev main_cst_10 : Ref sig .tc := ⟨.hbm, 231, rfl⟩
abbrev main_v32 : Ref sig .tc := ⟨.hbm, 232, rfl⟩
abbrev main_v33 : Ref sig .tc := ⟨.hbm, 233, rfl⟩
abbrev main_c_11 : Ref sig .tc := ⟨.hbm, 234, rfl⟩
abbrev main_call10_cst : Ref sig .tc := ⟨.hbm, 235, rfl⟩
abbrev main_call10_v0 : Ref sig .tc := ⟨.hbm, 236, rfl⟩
abbrev main_call10_v1 : Ref sig .tc := ⟨.hbm, 237, rfl⟩
abbrev main_call10_cst_0 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_v5 : Ref sig .tc := ⟨.hbm, 242, rfl⟩
abbrev main_call10_v6 : Ref sig .tc := ⟨.hbm, 243, rfl⟩
abbrev main_call10_v7 : Ref sig .tc := ⟨.hbm, 244, rfl⟩
abbrev main_call10_cst_1 : Ref sig .tc := ⟨.hbm, 245, rfl⟩
abbrev main_call10_v8 : Ref sig .tc := ⟨.hbm, 246, rfl⟩
abbrev main_call10_cst_2 : Ref sig .tc := ⟨.hbm, 247, rfl⟩
abbrev main_call10_v9 : Ref sig .tc := ⟨.hbm, 248, rfl⟩
abbrev main_call10_v10 : Ref sig .tc := ⟨.hbm, 249, rfl⟩
abbrev main_call10_v11 : Ref sig .tc := ⟨.hbm, 250, rfl⟩
abbrev main_call10_cst_3 : Ref sig .tc := ⟨.hbm, 251, rfl⟩
abbrev main_call10_v12 : Ref sig .tc := ⟨.hbm, 252, rfl⟩
abbrev main_call10_cst_4 : Ref sig .tc := ⟨.hbm, 253, rfl⟩
abbrev main_call10_call0_v0 : Ref sig .tc := ⟨.hbm, 254, rfl⟩
abbrev main_call10_call0_v1 : Ref sig .tc := ⟨.hbm, 255, rfl⟩
abbrev main_v34 : Ref sig .tc := ⟨.hbm, 256, rfl⟩
abbrev main_v35 : Ref sig .tc := ⟨.hbm, 257, rfl⟩
abbrev main_v36 : Ref sig .tc := ⟨.hbm, 258, rfl⟩
abbrev main_v37 : Ref sig .tc := ⟨.hbm, 259, rfl⟩
abbrev main_v38 : Ref sig .tc := ⟨.hbm, 260, rfl⟩
abbrev main_v39 : Ref sig .tc := ⟨.hbm, 261, rfl⟩
abbrev main_v40 : Ref sig .tc := ⟨.hbm, 262, rfl⟩
abbrev main_cst_12 : Ref sig .tc := ⟨.hbm, 263, rfl⟩
abbrev main_v41 : Ref sig .tc := ⟨.hbm, 264, rfl⟩
abbrev main_v42 : Ref sig .tc := ⟨.hbm, 265, rfl⟩
abbrev main_v43 : Ref sig .tc := ⟨.hbm, 266, rfl⟩
abbrev main_v44 : Ref sig .tc := ⟨.hbm, 267, rfl⟩
abbrev main_v45 : Ref sig .tc := ⟨.hbm, 268, rfl⟩
abbrev main_v46 : Ref sig .tc := ⟨.hbm, 269, rfl⟩
abbrev main_v47 : Ref sig .tc := ⟨.hbm, 270, rfl⟩
abbrev main_v48 : Ref sig .tc := ⟨.hbm, 271, rfl⟩
abbrev main_v49 : Ref sig .tc := ⟨.hbm, 272, rfl⟩
abbrev main_v50 : Ref sig .tc := ⟨.hbm, 273, rfl⟩
abbrev main_v51 : Ref sig .tc := ⟨.hbm, 274, rfl⟩
abbrev main_v52 : Ref sig .tc := ⟨.hbm, 275, rfl⟩
abbrev main_v53 : Ref sig .tc := ⟨.hbm, 276, rfl⟩
abbrev main_cst_13 : Ref sig .tc := ⟨.hbm, 277, rfl⟩
abbrev main_v54 : Ref sig .tc := ⟨.hbm, 278, rfl⟩
abbrev main_cst_14 : Ref sig .tc := ⟨.hbm, 279, rfl⟩
abbrev main_v55 : Ref sig .tc := ⟨.hbm, 280, rfl⟩
abbrev main_v56 : Ref sig .tc := ⟨.hbm, 281, rfl⟩
abbrev main_v57 : Ref sig .tc := ⟨.hbm, 282, rfl⟩
abbrev main_v58 : Ref sig .tc := ⟨.hbm, 283, rfl⟩
abbrev main_v59 : Ref sig .tc := ⟨.hbm, 284, rfl⟩
abbrev main_v60 : Ref sig .tc := ⟨.hbm, 285, rfl⟩
abbrev main_cst_15 : Ref sig .tc := ⟨.hbm, 286, rfl⟩
abbrev main_v61 : Ref sig .tc := ⟨.hbm, 287, rfl⟩
abbrev main_v62 : Ref sig .tc := ⟨.hbm, 288, rfl⟩
abbrev main_v63 : Ref sig .tc := ⟨.hbm, 289, rfl⟩
abbrev main_v64 : Ref sig .tc := ⟨.hbm, 290, rfl⟩

abbrev nD : Nat := 1
abbrev τ : Topo := Topo.v7x

variable {F : FTy → Type} [FloatOps F]

abbrev main_while0_count : Scf.Loop 32 := ⟨0#32, 200#32, 1#32⟩

abbrev main_while1_count : Scf.Loop 32 := ⟨0#32, 200#32, 1#32⟩
-- ==== Proof.Gather.lean ====
/-
  The SparseCore call of the kernel: thirty-two tasks, two cores of sixteen vector subcores each. Task `w` owns the rows
  `6400 w ..< 6400 (w + 1)` of the output and fills them 128 at a time, fifty trips: it fetches the trip's 128 row numbers,
  gathers those rows of the table into its scratch by the indirect stream, and copies the scratch out.

  The table and the row numbers are read by every task at once and go out as read shares. The loop's invariant carries the
  contents: after `t` trips the first `128 t` rows of the task's block are the table's rows the numbers name (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The gathered rows -/

/-- The row number of output row `r`, as an index of the list of row numbers. -/
def at1 (r : Fin 204800) : S204800.Idx := fun a => ⟨r.val, by match a with | ⟨0, _⟩ => exact r.isLt⟩
/-- Row `r`, column `c` of the table. -/
def at2 (r : Fin 100000) (c : Fin 128) : S100000x128.Idx := Shape.pair (d := ![100000, 128]) r c

/-- The table's rows the numbers name, one after the other. -/
def gath {α : Type} (x : S100000x128.Idx → α) (ix : S204800.Idx → BitVec 32) : S204800x128.Idx → α :=
  fun j => x (at2 ⟨(ix (at1 (j 0))).toNat % 100000, Nat.mod_lt _ (by decide)⟩ (j 1))

/-! ## The buffers -/

abbrev xLoc (d : Dev nD) : Loc nD τ sig := (SparseCore.T d).loc main_arg1
abbrev iLoc (d : Dev nD) : Loc nD τ sig := (SparseCore.T d).loc main_v1
abbrev oLoc (d : Dev nD) : Loc nD τ sig := (SparseCore.T d).loc main_v2

local notation "xV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S204800 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- The number of the task on core `c`, subcore `i`. -/
def task (c : Fin 2) (i : Fin 16) : ℕ := 2 * i.val + c.val
/-- The output rows of task `w`. -/
def rowsOf (w : ℕ) : Finset S204800x128.Idx := Finset.univ.filter fun j => 6400 * w ≤ (j 0).val ∧ (j 0).val < 6400 * w + 6400
theorem mem_rowsOf {w : ℕ} {j : S204800x128.Idx} : j ∈ rowsOf w ↔ 6400 * w ≤ (j 0).val ∧ (j 0).val < 6400 * w + 6400 := by
  simp [rowsOf]
/-- The output rows of core `c`: its sixteen tasks'. -/
def coreRows (c : Fin 2) : Finset S204800x128.Idx := Finset.univ.biUnion fun i : Fin 16 => rowsOf (task c i)

theorem rowsOf_disjoint {w w' : ℕ} (h : w ≠ w') : Disjoint (rowsOf w) (rowsOf w') :=
  Finset.disjoint_left.mpr fun j hj hj' => by rw [mem_rowsOf] at hj hj'; omega
theorem tasks_disjoint (c : Fin 2) : ∀ i ∈ (Finset.univ : Finset (Fin 16)), ∀ j ∈ (Finset.univ : Finset (Fin 16)), i ≠ j →
    Disjoint (rowsOf (task c i)) (rowsOf (task c j)) :=
  fun i _ j _ h => rowsOf_disjoint fun e => h (Fin.ext (by unfold task at e; omega))
theorem mem_coreRows {c : Fin 2} {j : S204800x128.Idx} : j ∈ coreRows c ↔ (j 0).val / 6400 % 2 = c.val := by
  have hj : (j 0).val < 204800 := (j 0).isLt
  have hc := c.isLt
  unfold coreRows
  simp only [Finset.mem_biUnion, Finset.mem_univ, true_and, mem_rowsOf, task]
  constructor
  · rintro ⟨i, h1, h2⟩
    have : (j 0).val / 6400 = 2 * i.val + c.val := by omega
    omega
  · intro h
    refine ⟨⟨(j 0).val / 6400 / 2, by omega⟩, ?_, ?_⟩ <;> simp only <;> omega
theorem cores_disjoint : ∀ c ∈ (Finset.univ : Finset (Fin 2)), ∀ c' ∈ (Finset.univ : Finset (Fin 2)), c ≠ c' → Disjoint (coreRows c) (coreRows c') :=
  fun c _ c' _ h => Finset.disjoint_left.mpr fun j hj hj' => h (Fin.ext (by rw [mem_coreRows] at hj hj'; omega))
theorem cores_cover : (Finset.univ : Finset (Fin 2)).biUnion coreRows = Finset.univ := by
  ext j
  simp only [Finset.mem_biUnion, Finset.mem_univ, true_and, iff_true]
  exact ⟨⟨(j 0).val / 6400 % 2, Nat.mod_lt _ (by decide)⟩, mem_coreRows.mpr rfl⟩

/-! ## The read shares: one of two for a core, one of sixteen of those for a task -/

abbrev qc (c : Fin 2) : PosShare TreeShare := pieceOf fullShare 2 (by decide) c
abbrev qt (c : Fin 2) (i : Fin 16) : PosShare TreeShare := pieceOf (qc c) 16 (by decide) i

section Call

variable (x : (d : Dev nD) → Buf (Elt F) (xLoc d)) (ix : (d : Dev nD) → Buf (Elt F) (iLoc d)) (o : (d : Dev nD) → Buf (Elt F) (oLoc d))

/-- What the call leaves in the output. -/
abbrev out (d : Dev nD) : Buf (Elt F) (oLoc d) := gath (x d) (ix d)

/-- What a core (`q`, `I` its share and its rows) or a task is handed: the table and the numbers at a share, its output rows. -/
abbrev held (d : Dev nD) (q : PosShare TreeShare) (I : Finset S204800x128.Idx) (f : Buf (Elt F) (oLoc d)) : sProp 𝕄 :=
  iprop((xLoc d ↦{q} x d) ∗ (iLoc d ↦{q} ix d) ∗ oLoc d ↦[I]{fullShare} f)

variable [FloatOps F]

/-- What the handshakes carry. -/
def P : (K (F := F)).Pay (nD := nD) (Val := Elt F) (Name := ℕ) (U := UU) where
  st := fun q d c => match q with | 0 => held x ix d (qc (Fin.cast nCore_zero c)) (coreRows (Fin.cast nCore_zero c)) (o d)
  dn := fun q d c => match q with | 0 => held x ix d (qc (Fin.cast nCore_zero c)) (coreRows (Fin.cast nCore_zero c)) (out x ix d)
  go := fun q d c i => match q with
    | 0 => held x ix d (qt (Fin.cast nCore_zero c) (Fin.cast nSub_zero i)) (rowsOf (task (Fin.cast nCore_zero c) (Fin.cast nSub_zero i))) (o d)
  td := fun q d c i => match q with
    | 0 => held x ix d (qt (Fin.cast nCore_zero c) (Fin.cast nSub_zero i)) (rowsOf (task (Fin.cast nCore_zero c) (Fin.cast nSub_zero i))) (out x ix d)
  x := fun _ _ => iprop(emp)

instance P_storable : (P (F := F) x ix o).IsStorable where
  st q d c := match q with
    | 0 => (inferInstance : BI.Storable (upEmb : UEmb _ 𝕄) (held x ix d (qc (Fin.cast nCore_zero c)) (coreRows (Fin.cast nCore_zero c)) (o d)))
  dn q d c := match q with
    | 0 => (inferInstance : BI.Storable (upEmb : UEmb _ 𝕄) (held x ix d (qc (Fin.cast nCore_zero c)) (coreRows (Fin.cast nCore_zero c)) (out x ix d)))
  go q d c i := match q with
    | 0 => (inferInstance : BI.Storable (upEmb : UEmb _ 𝕄)
      (held x ix d (qt (Fin.cast nCore_zero c) (Fin.cast nSub_zero i)) (rowsOf (task (Fin.cast nCore_zero c) (Fin.cast nSub_zero i))) (o d)))
  td q d c i := match q with
    | 0 => (inferInstance : BI.Storable (upEmb : UEmb _ 𝕄)
      (held x ix d (qt (Fin.cast nCore_zero c) (Fin.cast nSub_zero i)) (rowsOf (task (Fin.cast nCore_zero c) (Fin.cast nSub_zero i))) (out x ix d)))

/-- Every row number names a row of the table. -/
def InRange : Prop := ∀ (d : Dev nD) (j : S204800.Idx), (ix d j).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := Fin.cast (show grid0.bound 0 = 2 from rfl) (L 0)
abbrev iL (L : grid0.Coords) : Fin 16 := Fin.cast (show grid0.bound 1 = 16 from rfl) (L 1)
abbrev wL (L : grid0.Coords) : ℕ := task (cL L) (iL L)
abbrev thr (d : Dev nD) (L : grid0.Coords) : Thread nD τ := V d (cV L) (jV L)

/-- The trip's numbers, the trip's output rows and all of the table, as the task addresses them. -/
abbrev iCh (L : grid0.Coords) (t : Fin k0_t1_loop.trips) : Memref sig .scVector .hbm S128 .i32 :=
  (iV).slice (Rect.unit (s := S204800) (k0_off1 L t) S128.size (k0_off1_inb L t)) (fun _ => rfl)
abbrev oCh (L : grid0.Coords) (t : Fin k0_t1_loop.trips) : Memref sig .scVector .hbm S128x128 .f32 :=
  (oV).slice (Rect.unit (s := S204800x128) (k0_off2 L t) S128x128.size (k0_off2_inb L t)) (fun _ => rfl)
abbrev xAll : Memref sig .scVector .hbm S100000x128 .f32 :=
  (xV).slice (Rect.unit (s := S100000x128) ![0, 0] S100000x128.size inb_S100000x128_S100000x128_0_0) (fun _ => rfl)

omit [FloatOps F] in
theorem off1_zero (t : Fin k0_t1_loop.trips) : k0_off1 L t 0 = 6400 * wL L + 128 * t.val := by
  rw [k0_off1_eq]; simp [task]; omega
omit [FloatOps F] in
theorem off2_zero (t : Fin k0_t1_loop.trips) : k0_off2 L t 0 = 6400 * wL L + 128 * t.val := by
  rw [k0_off2_eq]; simp [task]; omega
omit [FloatOps F] in
theorem off2_one (t : Fin k0_t1_loop.trips) : k0_off2 L t 1 = 0 := by
  rw [k0_off2_eq]; simp

omit [FloatOps F] in
theorem trip_lt (t : Fin k0_t1_loop.trips) : t.val < 50 := t.isLt

omit [FloatOps F] in
theorem set_oCh (t : Fin k0_t1_loop.trips) :
    (oCh L t).view.set = Finset.univ.filter fun j : S204800x128.Idx => 6400 * wL L + 128 * t.val ≤ (j 0).val ∧ (j 0).val < 6400 * wL L + 128 * t.val + 128 := by
  have h : (oCh L t).view.set = (Rect.unit (s := S204800x128) (k0_off2 L t) S128x128.size (k0_off2_inb L t)).set := by
    show ((View.whole (main_v2_scv : Ref sig .scVector)).slice _).set = _
    rw [View.set_slice]; exact Finset.map_refl
  rw [h]
  ext j
  have hj : (j 1).val < 128 := (j 1).isLt
  rw [Rect.mem_set_unit, Finset.mem_filter]
  simp only [Finset.mem_univ, true_and]
  constructor
  · intro h; have := h 0; rw [off2_zero] at this; exact this
  · intro h a
    match a with
    | ⟨0, _⟩ => exact (off2_zero L t).symm ▸ h
    | ⟨1, _⟩ =>
      show k0_off2 L t 1 ≤ (j 1).val ∧ (j 1).val < k0_off2 L t 1 + 128
      rw [off2_one]; omega

omit [FloatOps F] in
theorem oCh_subset (t : Fin k0_t1_loop.trips) : (oCh L t).view.set ⊆ rowsOf (wL L) := by
  have ht := trip_lt t
  rw [set_oCh]
  intro j hj
  rw [Finset.mem_filter] at hj
  rw [mem_rowsOf]
  omega

omit [FloatOps F] in
theorem emb_iCh (t : Fin k0_t1_loop.trips) (k : S128.Idx) (h : 6400 * wL L + 128 * t.val + (k 0).val < 204800) :
    (iCh L t).view.emb k = at1 ⟨6400 * wL L + 128 * t.val + (k 0).val, h⟩ := by
  funext a
  match a with
  | ⟨0, _⟩ =>
    apply Fin.ext
    show k0_off1 L t 0 + 1 * (k 0).val = 6400 * wL L + 128 * t.val + (k 0).val
    rw [off1_zero]; omega

omit [FloatOps F] in
theorem emb_oCh_zero (t : Fin k0_t1_loop.trips) (y : S128x128.Idx) : ((oCh L t).view.emb y 0).val = 6400 * wL L + 128 * t.val + (y 0).val := by
  show k0_off2 L t 0 + 1 * (y 0).val = _
  rw [off2_zero]; omega
omit [FloatOps F] in
theorem emb_oCh_one (t : Fin k0_t1_loop.trips) (y : S128x128.Idx) : ((oCh L t).view.emb y 1).val = (y 1).val := by
  show k0_off2 L t 1 + 1 * (y 1).val = _
  rw [off2_one]; omega

omit [FloatOps F] in
/-- All of the table, as the task addresses it, is the table. -/
theorem read_xAll (f : Buf (Elt F) (xLoc d)) (j : S100000x128.Idx) : (xAll).view.read (Elt F) f j = f j := by
  refine ((View.read_apply _ _).trans (cast_eq _ _)).trans (congrArg f ?_)
  funext a
  apply Fin.ext
  match a with
  | ⟨0, _⟩ => show 0 + 1 * (j 0).val = (j 0).val; omega
  | ⟨1, _⟩ => show 0 + 1 * (j 1).val = (j 1).val; omega

/-- The trip's numbers, as the fetch lands them. -/
abbrev nums (f : Buf (Elt F) (iLoc d)) (t : Fin k0_t1_loop.trips) : S128.Idx → Elt F .i32 := (iCh L t).view.read (Elt F) f
omit [FloatOps F] in
theorem nums_eq (f : Buf (Elt F) (iLoc d)) (t : Fin k0_t1_loop.trips) (k : S128.Idx) : nums d L f t k = f ((iCh L t).view.emb k) :=
  (View.read_apply _ _).trans (cast_eq _ _)

omit [FloatOps F] in
theorem nums_inb (hix : InRange ix) (t : Fin k0_t1_loop.trips) (fs : Buf (Elt F) ((thr d L).loc cc0_scratch0)) (pay : S128.Idx → Elt F .i32)
    (hpay : pay = nums d L (ix d) t) :
    ∀ k, ((sV).view.read (Elt F) (View.write (Elt F) (sV).view fs pay Finset.univ) k).toNat < S100000x128.size gathers_S100000x128_S128x128.axis := by
  subst hpay; intro k
  rw [View.write_whole_univ]
  simp only [Memref.view_whole, View.read_whole]
  rw [nums_eq]
  exact hix d _

/-- The first `n` rows of the task's block hold what they should. -/
def Done (n : ℕ) (f : Buf (Elt F) (oLoc d)) : Prop := ∀ j ∈ rowsOf (wL L), (j 0).val < 6400 * wL L + n → f j = out x ix d j

omit [FloatOps F] in
/-- The gathered rows at an index of the scratch are the output's at the index of the trip's block. -/
theorem gather_eq (hix : InRange ix) (t : Fin k0_t1_loop.trips) (r : Fin 128 → Fin 100000)
    (hr : ∀ k : S128.Idx, (r (k 0)).val = (nums d L (ix d) t k).toNat) (y : S128x128.Idx) :
    SparseCore.gatherPayload (F := F) (e := .f32) gathers_S100000x128_S128x128 ((xAll).view.read (Elt F) (x d)) r y = out x ix d ((oCh L t).view.emb y) := by
  have ht := trip_lt t
  have hw : wL L < 32 := by
    have h1 : (cL L).val < 2 := (cL L).isLt
    have h2 : (iL L).val < 16 := (iL L).isLt
    unfold wL task; omega
  have hy : (y 0).val < 128 := (y 0).isLt
  have hb : 6400 * wL L + 128 * t.val + (y 0).val < 204800 := by omega
  show (xAll).view.read (Elt F) (x d) _ = _
  rw [read_xAll]
  refine congrArg (x d) ?_
  have hk := hr (fun a => ⟨(y 0).val, by match a with | ⟨0, _⟩ => exact hy⟩)
  rw [nums_eq, emb_iCh L t _ hb] at hk
  funext a
  match a with
  | ⟨0, _⟩ =>
    apply Fin.ext
    refine (congrArg Fin.val (Shape.Gathers.idx_axis gathers_S100000x128_S128x128 r y)).trans ?_
    refine hk.trans ?_
    show _ = (ix d (at1 ((oCh L t).view.emb y 0))).toNat % 100000
    rw [Nat.mod_eq_of_lt (hix d _)]
    exact congrArg (fun z => (ix d (at1 z)).toNat) (Fin.ext (emb_oCh_zero L t y).symm)
  | ⟨1, _⟩ =>
    apply Fin.ext
    refine (Shape.Gathers.idx_of_ne gathers_S100000x128_S128x128 r y 1 (by decide)).trans ?_
    exact (emb_oCh_one L t y).symm

omit [FloatOps F] in
/-- A trip's copy out adds its 128 rows. -/
theorem done_step (t : Fin k0_t1_loop.trips) (f : Buf (Elt F) (oLoc d)) (hf : Done x ix d L (128 * t.val) f) (pay : S128x128.Idx → Elt F .f32)
    (hpay : ∀ y, pay y = out x ix d ((oCh L t).view.emb y)) :
    Done x ix d L (128 * (t.val + 1)) ((oCh L t).view.write (Elt F) f pay Finset.univ) := by
  intro j hj hlt
  by_cases hm : j ∈ (oCh L t).view.set
  · obtain ⟨y, -, rfl⟩ := Finset.mem_map.mp hm
    rw [View.write_emb_of_mem _ _ (Finset.mem_univ y)]
    exact (cast_eq _ _).trans (hpay y)
  · rw [View.write_of_not_mem _ _ _ (by rw [View.setOn_univ]; exact hm)]
    refine hf j hj ?_
    rw [set_oCh, Finset.mem_filter] at hm
    rw [mem_rowsOf] at hj
    simp only [Finset.mem_univ, true_and] at hm
    omega

omit [FloatOps F] in
theorem write_off (t : Fin k0_t1_loop.trips) (f : Buf (Elt F) (oLoc d)) (pay : S128x128.Idx → Elt F .f32) :
    ∀ j ∈ rowsOf (wL L) \ (oCh L t).view.set, f j = (oCh L t).view.write (Elt F) f pay Finset.univ j := by
  intro j hj
  rw [View.write_of_not_mem _ _ _ (by rw [View.setOn_univ]; exact (Finset.mem_sdiff.mp hj).2)]

omit [FloatOps F] in
/-- The rows the stream reads are the fetched numbers'. -/
theorem rows_val (hix : InRange ix) (t : Fin k0_t1_loop.trips) (fs : Buf (Elt F) ((thr d L).loc cc0_scratch0)) (pay : S128.Idx → Elt F .i32)
    (hpay : pay = nums d L (ix d) t) (hn : S128.numel = S128x128.size gathers_S100000x128_S128x128.axis') (k : S128.Idx) :
    (SparseCore.rows (F := F) ((sV).view.read (Elt F) (View.write (Elt F) (sV).view fs pay Finset.univ)) hn (nums_inb ix d L hix t fs pay hpay) (k 0)).val
      = (nums d L (ix d) t k).toNat := by
  subst hpay
  show ((sV).view.read (Elt F) (View.write (Elt F) (sV).view fs (nums d L (ix d) t) Finset.univ) (S128.rowMajor.symm _)).toNat = _
  rw [View.write_whole_univ]
  simp only [Memref.view_whole, View.read_whole]
  refine congrArg (fun z => (nums d L (ix d) t z).toNat) ?_
  rw [Equiv.symm_apply_eq]
  apply Fin.ext
  exact (Shape.rowMajor_val_one k).symm

abbrev cA (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped0.sem)
abbrev cC (d : Dev nD) (c : Fin τ.nSC) (i : Fin τ.nSub) : GSem nD τ sig := (V d c i, .dma cc0_scoped1.sem)

omit [FloatOps F] in
theorem ownSems0_V :
    (ownSems0 (thr d L) : sProp 𝕄)
      = iprop(semVal (cA d (cV L) (jV L)) 0 ∗ semVal (cB d (cV L) (jV L)) 0 ∗ semVal (cC d (cV L) (jV L)) 0
          ∗ bigSep ((((ownCells (thr d L)).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The loop's invariant: the shares of the table and the numbers, the scratch at some contents, the task's rows done up to
    the trip's, the counters at zero, the waits recorded. -/
def inv (q : PosShare TreeShare) (O : CellTallies nD τ sig (HIx 1)) (W : Waits sig (HIx 1)) (t : Nat) (_ : PUnit) : sProp 𝕄 :=
  iprop(Transfers.MayWaits (thr d L) (none : HIx 1) O
    ∗ ((xV).view.loc (thr d L) ↦{q} x d)
    ∗ ((iV).view.loc (thr d L) ↦{q} ix d)
    ∗ (∃ f, (sV).view.loc (thr d L) ↦{fullShare} f)
    ∗ (∃ f, (rV).view.loc (thr d L) ↦{fullShare} f)
    ∗ (∃ f, ⌜Done x ix d L (128 * t) f⌝ ∗ (oV).view.loc (thr d L) ↦[rowsOf (wL L)]{fullShare} f)
    ∗ semVal (thr d L, SemLoc.dma cc0_scratch2.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

set_option maxHeartbeats 4000000 in
/-- The task on vector subcore `(L 0, L 1)` of device `d`. -/
theorem tile_body (hF : (K (F := F)).Facts) (hix : InRange ix) (O : CellTallies nD τ sig (HIx 1)) (W : Waits sig (HIx 1)) (hO : ∀ g, O g none = 0) :
    iprop(levAts (K (F := F)).L (K (F := F)).lev ∗ emp
        ∗ held x ix d (qt (cL L) (iL L)) (rowsOf (wL L)) (o d)
        ∗ scopedBufs (thr d L) ∗ scopedSems0 (thr d L) ∗ owes (thr d L) O W)
      ⊢ wp frame (wpE (defs₀ (F := F)) 𝒱₀ (thr d L) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(held x ix d (qt (cL L) (iL L)) (rowsOf (wL L)) (out x ix d)
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (none : HIx 1) O from
    (K (F := F)).mayWaits_none (thr := thr d L) hO) $$ Hlv
  have hrs : (rV).view.set = Finset.univ := View.set_whole _
  have hss : (sV).view.set = Finset.univ := View.set_whole _
  have hN : ∀ h : S100000x128.Gathers 0 S128x128, ∑ j, ((rV).slice (S128x128.rowRect h.axis' j) (S128x128.stride_rowRect h.axis' j)).view.dmaCredit
      = (rV).view.dmaCredit := by decide
  sl_exec
  sl_for (inv x ix d L (qt (cL L) (iL L)) O W) $$ [Hmw Hx Hi Ho Hs Hr HsemA HsemB HsemC HO]
  case region =>
    intro t _
    unfold inv
    iintro ⟨#Hmw, Hx, Hi, ⟨%fs, Hs⟩, ⟨%fr, Hr⟩, ⟨%f, %hf, Ho⟩, HsemA, HsemB, HsemC, %W', %hW', HO⟩
    ihave Ho' := (pointsTo_split_subset (q := fullShare) (f := f) (ℓ := (oV).view.loc (thr d L)) (oCh_subset L t)).1 $$ Ho
    icases Ho' with ⟨Hoc, Hor⟩
    ihave Hoc' := (Entails.of_eq (show ((oV).view.loc (thr d L) ↦[(oCh L t).view.set]{fullShare} f : sProp 𝕄)
      = (oCh L t).view.loc (thr d L) ↦[(oCh L t).view.set]{fullShare} f from rfl)) $$ Hoc
    sl_exec (disch := exact View.amount_pos _ _ (show 0 < S128.numel by decide))
    have hp0 : tile_body.sl.dma0 ix d L t = nums d L (ix d) t := by
      unfold tile_body.sl.dma0; exact ReadAs.apply_same _
    ihave Hxs := (pointsTo_split_subset (q := qt (cL L) (iL L)) (f := x d) (ℓ := (xV).view.loc (thr d L)) (S := Finset.univ) (Finset.subset_univ (xAll).view.set)).1 $$ Hx
    icases Hxs with ⟨Hxs, Hxr⟩
    ihave Hr' := (Entails.of_eq (show ((rV).view.loc (thr d L) ↦{fullShare} fr : sProp 𝕄)
        = (rV).view.loc (thr d L) ↦[(rV).view.set]{fullShare} fr by rw [hrs])) $$ Hr
    ihave Hs' := (Entails.of_eq (show ((sV).view.loc (thr d L) ↦{fullShare} View.write (Elt F) (sV).view fs (tile_body.sl.dma0 ix d L t) Finset.univ : sProp 𝕄)
        = (sV).view.loc (thr d L) ↦[(sV).view.set]{fullShare} View.write (Elt F) (sV).view fs (tile_body.sl.dma0 ix d L t) Finset.univ
        by rw [hss])) $$ Hs
    iapply (SparseCore.wp_indirectGatherLocal countersEmb 𝒱₀ (thr d L) none (hg := gathers_S100000x128_S128x128) (default : HIx 1)
        (rV).view.dmaCredit (hN _) (by decide) (nums_inb ix d L hix t fs _ hp0)) $$ [Hxs Hr' Hs' HsemA]
    · isplitl [Hxs]; · iexact Hxs
      isplitl [Hr']; · iexact Hr'
      isplitl [Hs']; · iexact Hs'
      iexact HsemA
    iintro Hfl
    sl_exec
    iapply (Transfers.wp_waitLocalO countersEmb 𝒱₀ (thr d L) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Hxs, Hs⟩, HsemA, HO⟩
    ihave Hx := (pointsTo_split_subset (q := qt (cL L) (iL L)) (f := x d) (ℓ := (xV).view.loc (thr d L)) (S := Finset.univ) (Finset.subset_univ (xAll).view.set)).2 $$ [Hxs Hxr]
    · isplitl [Hxs] <;> iassumption
    ihave Hr := (Entails.of_eq (show ((rV).view.loc (thr d L) ↦[(rV).view.set]{fullShare} _ : sProp 𝕄)
        = (rV).view.loc (thr d L) ↦{fullShare} _ by rw [hrs])) $$ Hr
    ihave Hs := (Entails.of_eq (show ((sV).view.loc (thr d L) ↦[(sV).view.set]{fullShare} _ : sProp 𝕄)
        = (sV).view.loc (thr d L) ↦{fullShare} _ by rw [hss])) $$ Hs
    sl_exec (disch := exact View.amount_pos _ _ (show 0 < S128x128.numel by decide))
    sl_step
    have hpay : ∀ y, tile_body.sl.dma0_1 x ix d L hix t fs fr hp0 y = out x ix d ((oCh L t).view.emb y) := by
      intro y
      refine Eq.trans ?_ (gather_eq x ix d L hix t _ (rows_val ix d L hix t fs _ hp0 k0_t1_body._proof_8) y)
      unfold tile_body.sl.dma0_1
      refine (congrFun (ReadAs.apply_same _) y).trans ?_
      rw [View.write_whole_univ]
      rfl
    have hwr := View.write_univ_eq_writes_whole (Val := Elt F) (oCh L t).view f [] (tile_body.sl.dma0_1 x ix d L hix t fs fr hp0)
    ihave Hoc := (Entails.of_eq (show ((oCh L t).view.loc (thr d L) ↦[(oCh L t).view.set]{fullShare}
          (oCh L t).view.writes (Elt F) f [⟨Rect.whole S128x128, tile_body.sl.dma0_1 x ix d L hix t fs fr hp0⟩] : sProp 𝕄)
        = (oV).view.loc (thr d L) ↦[(oCh L t).view.set]{fullShare}
          (oCh L t).view.write (Elt F) f (tile_body.sl.dma0_1 x ix d L hix t fs fr hp0) Finset.univ by rw [← hwr]; rfl)) $$ Hoc'
    ihave Hor := (Entails.of_eq (pointsTo_congr (ℓ := (oV).view.loc (thr d L)) (q := fullShare)
      (write_off d L t f (tile_body.sl.dma0_1 x ix d L hix t fs fr hp0)))) $$ Hor
    ihave Ho := (pointsTo_split_subset (q := fullShare) (ℓ := (oV).view.loc (thr d L)) (oCh_subset L t)).2 $$ [Hoc Hor]
    · isplitl [Hoc]; · iexact Hoc
      iexact Hor
    isplitr; · iexact Hmw
    isplitl [Hx]; · iexact Hx
    isplitl [Hi]; · iexact Hi
    isplitl [Hs]; · iexists _; iexact Hs
    isplitl [Hr]; · iexists _; iexact Hr
    isplitl [Ho]
    · iexists _; isplitr
      swap; · iexact Ho
      ipureintro
      exact done_step x ix d L t f hf _ hpay
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hx]; · iexact Hx
    isplitl [Hi]; · iexact Hi
    isplitl [Hs]; · iexists _; iexact Hs
    isplitl [Hr]; · iexists _; iexact Hr
    isplitl [Ho]
    · iexists (o d); isplitr
      · ipureintro; intro j hj hlt; rw [mem_rowsOf] at hj; omega
      · iexact Ho
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hx, Hi, Hs, Hr, ⟨%f, %hf, Ho⟩, HsemA, HsemB, HsemC, %W', %hW', HO⟩
  have hfo : ∀ j ∈ rowsOf (wL L), f j = out x ix d j := fun j hj => hf j hj (by
    rw [mem_rowsOf] at hj; rw [show Scf.trips k0_t1_loop.lb k0_t1_loop.ub k0_t1_loop.st = 50 by decide]; omega)
  ihave Ho := (Entails.of_eq (pointsTo_congr (ℓ := oLoc d) (q := fullShare) hfo)) $$ Ho
  sl_exec
  sl_step
  isplitl [Hx Hi Ho]
  · isplitl [Hx]; · iexact Hx
    isplitl [Hi]; · iexact Hi
    iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

/-! ## The launch's obligations of the tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : InRange ix) : (K (F := F)).TileObl (D (F := F)) 𝒱 (P x ix o) v₀ 0 := by
  intro d c i O W hO _ _
  simp only [show (P x ix o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body x ix o d (coordsV ⟨_, hci.1⟩ ⟨_, hci.2⟩) hF hix O W hO).trans (wp_mono frame _ _ fun _ => obl_post)

end Tile

/-! ## The operands split among the cores and the tasks, and joined again -/

omit [FloatOps F] in
theorem held_cores (d : Dev nD) (f : Buf (Elt F) (oLoc d)) :
    (held x ix d fullShare Finset.univ f : sProp 𝕄) = bigSep Finset.univ fun c : Fin 2 => held x ix d (qc c) (coreRows c) f := by
  have ho : (oLoc d ↦[Finset.univ]{fullShare} f : sProp 𝕄) = bigSep Finset.univ fun c : Fin 2 => oLoc d ↦[coreRows c]{fullShare} f := by
    rw [← pointsTo_biUnion Finset.univ (ℓ := oLoc d) coreRows cores_disjoint, cores_cover]
  unfold held
  rw [bigSep_sep', bigSep_sep', ← pointsTo_piecesOf Finset.univ (x d) (by decide) fullShare, ← pointsTo_piecesOf Finset.univ (ix d) (by decide) fullShare, ← ho]

omit [FloatOps F] in
theorem held_tasks (d : Dev nD) (c : Fin 2) (f : Buf (Elt F) (oLoc d)) :
    (held x ix d (qc c) (coreRows c) f : sProp 𝕄) = bigSep Finset.univ fun i : Fin 16 => held x ix d (qt c i) (rowsOf (task c i)) f := by
  have ho : (oLoc d ↦[coreRows c]{fullShare} f : sProp 𝕄) = bigSep Finset.univ fun i : Fin 16 => oLoc d ↦[rowsOf (task c i)]{fullShare} f := by
    rw [← pointsTo_biUnion Finset.univ (ℓ := oLoc d) (fun i => rowsOf (task c i)) (tasks_disjoint c)]; rfl
  unfold held
  rw [bigSep_sep', bigSep_sep', ← pointsTo_piecesOf Finset.univ (x d) (by decide) (qc c), ← pointsTo_piecesOf Finset.univ (ix d) (by decide) (qc c), ← ho]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P x ix o) 0 := by
  intro d c
  show held x ix d (qc (Fin.cast nCore_zero c)) (coreRows (Fin.cast nCore_zero c)) (o d) ⊢ |={Set.univ}=> iprop(
      (bigSep Finset.univ fun i : Fin ((K (F := F)).nSub 0) =>
        held x ix d (qt (Fin.cast nCore_zero c) (Fin.cast nSub_zero i)) (rowsOf (task (Fin.cast nCore_zero c) (Fin.cast nSub_zero i))) (o d))
      ∗ ((bigSep Finset.univ fun i : Fin ((K (F := F)).nSub 0) =>
          held x ix d (qt (Fin.cast nCore_zero c) (Fin.cast nSub_zero i)) (rowsOf (task (Fin.cast nCore_zero c) (Fin.cast nSub_zero i))) (out x ix d))
          -∗ held x ix d (qc (Fin.cast nCore_zero c)) (coreRows (Fin.cast nCore_zero c)) (out x ix d)))
  rw [bigSep_tasks (F := F) (fun i => held x ix d (qt (Fin.cast nCore_zero c) i) (rowsOf (task (Fin.cast nCore_zero c) i)) (o d)),
    bigSep_tasks (F := F) (fun i => held x ix d (qt (Fin.cast nCore_zero c) i) (rowsOf (task (Fin.cast nCore_zero c) i)) (out x ix d)),
    ← held_tasks, ← held_tasks]
  iintro H; imodintro
  isplitl [H]; · iexact H
  iintro H; iexact H

/-- What the call takes from @main and what it brings back. -/
theorem st_eq (d : Dev nD) : (bigSep Finset.univ fun c : Fin ((K (F := F)).nCore 0) => (P x ix o).st 0 d c) = held x ix d fullShare Finset.univ (o d) := by
  rw [held_cores]; exact bigSep_cores (F := F) (fun c => held x ix d (qc c) (coreRows c) (o d))
theorem dn_eq (d : Dev nD) : (bigSep Finset.univ fun c : Fin ((K (F := F)).nCore 0) => (P x ix o).dn 0 d c) = held x ix d fullShare Finset.univ (out x ix d) := by
  rw [held_cores]; exact bigSep_cores (F := F) (fun c => held x ix d (qc c) (coreRows c) (out x ix d))

end Call

end Cert.Proof.Gather

end
-- ==== Proof.Stats.lean ====
/-
  The statistics pass: a grid of fifty points, each adding to a resident pair of rows the column sums of its block of 4096
  gathered rows and the column sums of their squares. The proof data carry the pair after every point (`acc`), so the run
  leaves the result array at the last of them.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import Idealize.ShloMosaic.Lib.WordCmp

@[expose] public section

set_option maxRecDepth 16384

noncomputable section

namespace Cert.Proof.Stats

open Cert.KernelIdeal Cert.KernelIdeal.Gen Cert.Proof.Gather
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- The branch of the body: the first point of the grid. -/
abbrev first (i : grid1.Coords) : Prop :=
  Scalar.cmpi .ne (Scalar.extui (Scalar.cmpi .eq (BitVec.ofNat 32 (i 0).val) 0#32)) 0#32 = 1#1

theorem first_iff (t : Fin cfg1.N) : first (grid1.coords t) ↔ t.val % 50 = 0 := by
  have ht : t.val < 50 := Nat.lt_of_lt_of_eq t.isLt N_1
  have e0 : (grid1.coords t 0).val = t.val / 1 % 50 := Pipeline.Grid.coords_val t 0 (by decide) rfl
  simp only [first, e0]
  word_cmp

/-- At the first point the body sets the pair to zero, then adds the block's. -/
theorem body_first (c : Dev nD) (i : grid1.Coords) (a1 : Memref sig .tc .vmem S4096x128 .f32) (h1 : a1.IsWhole)
    (a2 : Memref sig .tc .vmem S2x128 .f32) (h2 : a2.IsWhole) (hc : first i) (x : Vec F S4096x128 .f32) (E : Set ℕ) (Φ : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k1_pay2 x (k1_pay1 (F := F)))) -∗ Φ ⟨⟩))
      ⊢ wp frame (wpE (defs₀ (F := F)) Variants.none c none) E (cc1__stats_body i a1 h1 a2 h2) Φ := by
  simp only [cc1__stats_body_eq_skeleton]; unfold cc1__stats_body_skel
  unfold owns
  iintro ⟨⟨%f0, %hf0, H0⟩, ⟨%d1, %f1, -, H1⟩, Hk⟩
  obtain rfl := h1.eq_unread hf0
  sl_exec (disch := first | sl_exact hc)
  sl_step
  iapply Hk
  isplitl [H0]
  · iexists _; isplitr; · ipureintro; exact h1.read_unread _
    iexact H0
  iexists _
  isplitr
  swap; · iexact H1
  ipureintro
  rw [View.read_writes_full, View.readAt_full, h1.read_unread]
  unfold body_first.sl.v10 body_first.sl.H1_1
  rw [View.readCov_full]

/-- At a later point it adds the block's to what the point before left. -/
theorem body_later (c : Dev nD) (i : grid1.Coords) (a1 : Memref sig .tc .vmem S4096x128 .f32) (h1 : a1.IsWhole)
    (a2 : Memref sig .tc .vmem S2x128 .f32) (h2 : a2.IsWhole) (hc : ¬ first i) (x : Vec F S4096x128 .f32) (y : Vec F S2x128 .f32)
    (E : Set ℕ) (Φ : PUnit → sProp 𝕄) :
    iprop(owns (c : Thread nD τ) a1 fullShare x ∗ owns (c : Thread nD τ) a2 fullShare y
        ∗ (iprop(owns (c : Thread nD τ) a1 fullShare x ∗ owns (c : Thread nD τ) a2 fullShare (k1_pay2 x y)) -∗ Φ ⟨⟩))
      ⊢ wp frame (wpE (defs₀ (F := F)) Variants.none c none) E (cc1__stats_body i a1 h1 a2 h2) Φ := by
  simp only [cc1__stats_body_eq_skeleton]; unfold cc1__stats_body_skel
  unfold owns
  iintro ⟨⟨%f0, %hf0, H0⟩, ⟨%f1, %hf1, H1⟩, Hk⟩
  obtain rfl := h1.eq_unread hf0
  obtain rfl := h2.eq_unread hf1
  sl_exec (disch := first | sl_exact hc)
  sl_step
  iapply Hk
  isplitl [H0]
  · iexists _; isplitr; · ipureintro; exact h1.read_unread _
    iexact H0
  iexists _
  isplitr
  swap; · iexact H1
  ipureintro
  rw [View.read_writes_full, View.readAt_full, View.readAt_full, h1.read_unread, h2.read_unread]

/-! ## The blocks and the running pair -/

/-- Rows `4096 n ..< 4096 (n + 1)` of the gathered rows. -/
def rows (x : Vec F S204800x128 .f32) (n : ℕ) : Vec F S4096x128 .f32 :=
  fun j => x (Shape.pair (d := ![204800, 128]) ⟨(n * 4096 + (j 0).val) % 204800, Nat.mod_lt _ (by decide)⟩ (j 1))

/-- The pair after point `n`. -/
def acc (x : Vec F S204800x128 .f32) : ℕ → Vec F S2x128 .f32
  | 0 => k1_pay2 (rows x 0) k1_pay1
  | n + 1 => k1_pay2 (rows x (n + 1)) (acc x n)

/-- The contents the buffers have when the region is entered, per device. -/
abbrev Vals (F : FTy → Type) : Type := (c : Dev nD) → (b : Ref sig .tc) → Buf (Elt F) ((c : Thread nD τ).loc b)

variable (V : Vals F)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem index_0 : ∀ t : Fin cfg1.N, win1_0.index t 0 = t.val := (by decide +kernel : ∀ t : Fin grid1.N, win1_0.index t 0 = t.val)
theorem index_1 : ∀ t : Fin cfg1.N, win1_0.index t 1 = 0 := (by decide +kernel : ∀ t : Fin grid1.N, win1_0.index t 1 = 0)

theorem iblk_rows (c : Dev nD) (t : Fin cfg1.N) : iblk V c 0 t = rows (V c main_v2) t.val := by
  have ht : t.val < 50 := Nat.lt_of_lt_of_eq t.isLt N_1
  have e0 : (grid1.coords t 0).val = t.val / 1 % 50 := Pipeline.Grid.coords_val t 0 (by decide) rfl
  funext j
  unfold iblk rows
  rw [View.read_apply, cast_eq]
  refine congrArg (V c main_v2) (funext fun a => Fin.ext ?_)
  match a with
  | ⟨0, h⟩ =>
    blk_simp
    rw [index_0]
    show t.val * 4096 + (j 0).val = (t.val * 4096 + (j 0).val) % 204800
    have hj : (j 0).val < 4096 := (j 0).isLt
    omega
  | ⟨1, h⟩ =>
    blk_simp
    rw [index_1]
    show 0 * 128 + (j 1).val = (j 1).val
    omega

/-- The pairs of own semaphores and indices a core's earlier waits stay within. -/
def low (c : Dev nD) : Set (SemLoc sig × HIx 1) := {p | (K (F := F)).lev ((c : Thread nD τ), p.1) p.2 ≤ 8}

/-- The proof data of the region on core `c`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => acc (V c main_v2) t.val
  Φ _ := Pipeline.scopedRest spec1 c
  q _ := fullShare
  owed _ := 0
  recorded _ := low (F := F) c

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = acc (V c main_v2) t.val := by dsimp only [dat]

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)

theorem before_1 (c : Dev nD) (t : Fin cfg1.N) (h0 : ¬t.val % 50 = 0) (d) :
    (dat V c).before 1 t d = acc (V c main_v2) (t.val - 1) := by
  have hN : t.val < 50 := lt_of_lt_of_eq t.isLt N_1
  rw [Dat.before_out_kept _ 1 rfl t (by omega) (Bool.eq_false_iff.mpr fun h => by have := (flush1_1 _).mp h; dsimp only at this; omega)
    (fun _ => rfl) (fun _ _ => rfl)]
  dsimp only [dat]

/-! ## The body at a point -/

def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d)))

def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt none t.succ = (dat V c).owesAt none t.castSucc from rfl, after_0, after_1]
  have hN : t.val < 50 := lt_of_lt_of_eq t.isLt N_1
  by_cases h0 : t.val % 50 = 0
  · rw [show acc (V c main_v2) t.val = k1_pay2 (iblk V c 0 t) (k1_pay1 (F := F)) from by
      rw [iblk_rows, show t.val = 0 by omega]; rfl]
    iintro ⟨HΦ, Ho, ⟨%d0, H0⟩, ⟨%d1, H1⟩⟩
    iapply (body_first c (grid1.coords t) _ _ _ _ ((first_iff t).mpr h0) (iblk V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [before_1 V c t h0]
    rw [show acc (V c main_v2) t.val = k1_pay2 (iblk V c 0 t) (acc (V c main_v2) (t.val - 1)) from by
      rw [iblk_rows]
      obtain ⟨n, hn⟩ : ∃ n, t.val = n + 1 := ⟨t.val - 1, by omega⟩
      rw [hn]; rfl]
    iintro ⟨HΦ, Ho, ⟨%d0, H0⟩, ⟨%d1, H1⟩⟩
    iapply (body_later c (grid1.coords t) _ _ _ _ (fun h => h0 ((first_iff t).mp h)) (iblk V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

theorem defs₀_at (t : Fin cfg1.N) : defs₀ (F := F) .tc cfg1.body (cfg1.bodyArgs t (cfg1.slots t)) = bodyAt1 t := rfl

/-- The body obligation of the region. -/
theorem body_obligation (c : Dev nD) : BodyObligation (dat (F := F) V c) (defs₀ (F := F)) Variants.none none Set.univ := fun t => by
  rw [bigSep_W1, bigSep_W1, defs₀_at]
  exact triple_restated (sound_body V c t) rfl .rfl fun _ => .rfl

/-- The result array after the region: the pair after the last point. -/
theorem result (c : Dev nD) : (dat V c).arrAt 1 cfg1.N = acc (V c main_v2) 49 := by
  refine (dat V c).arrAt_eq_of_after_last 1 ⟨49, by rw [show cfg1.N = 50 from N_1]; decide⟩ (by decide +kernel) _ fun j => ?_
  rw [after_1, cast_eq]
  exact congrArg (acc (V c main_v2) 49) (funext fun a => Fin.ext rfl)

end Cert.Proof.Stats

end
-- ==== Proof.RecBody.lean ====
/-
  The recurrence pass: a grid of two hundred points, each taking the forward state through its block and the backward state
  through the block as far from the end, with the two states in scratch buffers; the last point also forms the result from
  the two hidden states. This module has the body's triples, by the branches it takes.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import Idealize.ShloMosaic.Lib.WordCmp

@[expose] public section

set_option maxRecDepth 16384

noncomputable section

namespace Cert.Proof.Rec

open Cert.KernelIdeal Cert.KernelIdeal.Gen Cert.Proof.Gather
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- The branches of the body: the first point of the grid, and the last. -/
abbrev first (i : grid2.Coords) : Prop :=
  Scalar.cmpi .ne (Scalar.extui (Scalar.cmpi .eq (BitVec.ofNat 32 (i 0).val) 0#32)) 0#32 = 1#1
abbrev last (i : grid2.Coords) : Prop := k2_cond2 i = 1#1

theorem first_iff (t : Fin cfg2.N) : first (grid2.coords t) ↔ t.val % 200 = 0 := by
  have ht : t.val < 200 := Nat.lt_of_lt_of_eq t.isLt N_2
  have e0 : (grid2.coords t 0).val = t.val / 1 % 200 := Pipeline.Grid.coords_val t 0 (by decide) rfl
  simp only [first, e0]
  word_cmp

theorem last_iff (t : Fin cfg2.N) : last (grid2.coords t) ↔ t.val % 200 = 199 := by
  have ht : t.val < 200 := Nat.lt_of_lt_of_eq t.isLt N_2
  have e0 : (grid2.coords t 0).val = t.val / 1 % 200 := Pipeline.Grid.coords_val t 0 (by decide) rfl
  simp only [last, k2_cond2, e0]
  word_cmp

/-- A hidden state and a cell state. -/
abbrev HC (F : FTy → Type) : Type := Vec F S1024x256 .f32 × Vec F S1024x256 .f32

/-- The forward cell over one block. -/
def stepF (kf : Vec F S128x1024 .f32) (rf : Vec F S256x1024 .f32) (bf : Vec F S1x1024 .f32)
    (x : Vec F S1x1024x128 .f32) (k : Vec F S1x1024x1 .f32) (s : HC F) : HC F :=
  (k2_pay13 (k2_pay12 x k s.1 s.2 kf rf bf), k2_pay14 (k2_pay9 k) s.2 (k2_pay11 x s.1 s.2 kf rf bf))

/-- The backward cell over one block. -/
def stepB (kb : Vec F S128x1024 .f32) (rb : Vec F S256x1024 .f32) (bb : Vec F S1x1024 .f32)
    (x : Vec F S1x1024x128 .f32) (k : Vec F S1x1024x1 .f32) (s : HC F) : HC F :=
  (k2_pay1 (k2_pay15 k) s.1 (k2_pay17 x s.1 kb rb bb) (k2_pay19 x s.1 s.2 kb rb bb),
    k2_pay2 (k2_pay15 k) s.2 (k2_pay18 x s.1 s.2 kb rb bb))

/-- The states the first point sets. -/
def zeroF : HC F := (k2_pay5, k2_pay6)
def zeroB : HC F := (k2_pay7, k2_pay8)

/-- The result formed from the two hidden states. -/
def head (hf hb : Vec F S1024x256 .f32) (g2 b2 : Vec F S1x512 .f32) (w : Vec F S512x64 .f32) (bd : Vec F S1x64 .f32) :
    Vec F S1024x64 .f32 := k2_pay3 (k2_pay4 hf hb g2 b2 w bd)

set_option maxHeartbeats 1600000 in
/-- At the first point the body sets the states to zero, then takes each through its block. -/
theorem body_first (c : Dev nD) (i : grid2.Coords)
    (a1 : Memref sig .tc .vmem S1x1024x128 .f32) (h1 : a1.IsWhole) (a2 : Memref sig .tc .vmem S1x1024x128 .f32) (h2 : a2.IsWhole) (a3 : Memref sig .tc .vmem S1x1024x1 .f32) (h3 : a3.IsWhole) (a4 : Memref sig .tc .vmem S1x1024x1 .f32) (h4 : a4.IsWhole) (a5 : Memref sig .tc .vmem S128x1024 .f32) (h5 : a5.IsWhole) (a6 : Memref sig .tc .vmem S256x1024 .f32) (h6 : a6.IsWhole) (a7 : Memref sig .tc .vmem S1x1024 .f32) (h7 : a7.IsWhole) (a8 : Memref sig .tc .vmem S128x1024 .f32) (h8 : a8.IsWhole) (a9 : Memref sig .tc .vmem S256x1024 .f32) (h9 : a9.IsWhole) (a10 : Memref sig .tc .vmem S1x1024 .f32) (h10 : a10.IsWhole) (a11 : Memref sig .tc .vmem S1x512 .f32) (h11 : a11.IsWhole) (a12 : Memref sig .tc .vmem S1x512 .f32) (h12 : a12.IsWhole) (a13 : Memref sig .tc .vmem S512x64 .f32) (h13 : a13.IsWhole) (a14 : Memref sig .tc .vmem S1x64 .f32) (h14 : a14.IsWhole) (a15 : Memref sig .tc .vmem S1024x64 .f32) (h15 : a15.IsWhole) (a16 : Memref sig .tc .vmem S1024x256 .f32) (h16 : a16.IsWhole) (a17 : Memref sig .tc .vmem S1024x256 .f32) (h17 : a17.IsWhole) (a18 : Memref sig .tc .vmem S1024x256 .f32) (h18 : a18.IsWhole) (a19 : Memref sig .tc .vmem S1024x256 .f32) (h19 : a19.IsWhole)
    (hc0 : first i) (hc1 : ¬ last i)
    (x1 : Vec F S1x1024x128 .f32) (x2 : Vec F S1x1024x128 .f32) (x3 : Vec F S1x1024x1 .f32) (x4 : Vec F S1x1024x1 .f32) (x5 : Vec F S128x1024 .f32) (x6 : Vec F S256x1024 .f32) (x7 : Vec F S1x1024 .f32) (x8 : Vec F S128x1024 .f32) (x9 : Vec F S256x1024 .f32) (x10 : Vec F S1x1024 .f32) (x11 : Vec F S1x512 .f32) (x12 : Vec F S1x512 .f32) (x13 : Vec F S512x64 .f32) (x14 : Vec F S1x64 .f32) (xo : Vec F S1024x64 .f32)
    (E : Set ℕ) (Φ : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ owns (c : Thread nD τ) a16 fullShare (stepF x5 x6 x7 x1 x3 zeroF).1 ∗ owns (c : Thread nD τ) a17 fullShare (stepF x5 x6 x7 x1 x3 zeroF).2 ∗ owns (c : Thread nD τ) a18 fullShare (stepB x8 x9 x10 x2 x4 zeroB).1 ∗ owns (c : Thread nD τ) a19 fullShare (stepB x8 x9 x10 x2 x4 zeroB).2) -∗ Φ ⟨⟩))
      ⊢ wp frame (wpE (defs₀ (F := F)) Variants.none c none) E (cc2__rec_body i a1 h1 a2 h2 a3 h3 a4 h4 a5 h5 a6 h6 a7 h7 a8 h8 a9 h9 a10 h10 a11 h11 a12 h12 a13 h13 a14 h14 a15 h15 a16 h16 a17 h17 a18 h18 a19 h19) Φ := by
  simp only [cc2__rec_body_eq_skeleton]; unfold cc2__rec_body_skel
  simp only [k2_part2_eq_skeleton, k2_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h15.eq_unread hf15
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  isplitl [H16]
  · iexists _
    isplitr
    swap; · iexact H16
    ipureintro
    delta body_first.sl.H16_1 body_first.sl.H17_1 body_first.sl.H18_1 body_first.sl.H19_1 body_first.sl.r body_first.sl.r_1 body_first.sl.r_2 body_first.sl.r_3 body_first.sl.r_4 body_first.sl.r_5 body_first.sl.r_6 body_first.sl.v50 body_first.sl.v51 body_first.sl.v7 body_first.sl.v8
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread,
      stepF, stepB, zeroF, zeroB, head]
  isplitl [H17]
  · iexists _
    isplitr
    swap; · iexact H17
    ipureintro
    delta body_first.sl.H16_1 body_first.sl.H17_1 body_first.sl.H18_1 body_first.sl.H19_1 body_first.sl.r body_first.sl.r_1 body_first.sl.r_2 body_first.sl.r_3 body_first.sl.r_4 body_first.sl.r_5 body_first.sl.r_6 body_first.sl.v50 body_first.sl.v51 body_first.sl.v7 body_first.sl.v8
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread,
      stepF, stepB, zeroF, zeroB, head]
  isplitl [H18]
  · iexists _
    isplitr
    swap; · iexact H18
    ipureintro
    delta body_first.sl.H16_1 body_first.sl.H17_1 body_first.sl.H18_1 body_first.sl.H19_1 body_first.sl.r body_first.sl.r_1 body_first.sl.r_2 body_first.sl.r_3 body_first.sl.r_4 body_first.sl.r_5 body_first.sl.r_6 body_first.sl.v50 body_first.sl.v51 body_first.sl.v7 body_first.sl.v8
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread,
      stepF, stepB, zeroF, zeroB, head]
  iexists _
  isplitr
  swap; · iexact H19
  ipureintro
  delta body_first.sl.H16_1 body_first.sl.H17_1 body_first.sl.H18_1 body_first.sl.H19_1 body_first.sl.r body_first.sl.r_1 body_first.sl.r_2 body_first.sl.r_3 body_first.sl.r_4 body_first.sl.r_5 body_first.sl.r_6 body_first.sl.v50 body_first.sl.v51 body_first.sl.v7 body_first.sl.v8
  rw [View.read_writes_full]
  repeat rw [View.readAt_full]
  repeat rw [View.readCov_full]
  simp only [h1.read_unread, h2.read_unread, h3.read_unread, h4.read_unread, h5.read_unread, h6.read_unread, h7.read_unread, h8.read_unread, h9.read_unread, h10.read_unread, h11.read_unread, h12.read_unread, h13.read_unread, h14.read_unread, h15.read_unread,
    stepF, stepB, zeroF, zeroB, head]

set_option maxHeartbeats 1600000 in
/-- At a point that is neither first nor last it takes the states it finds through their blocks. -/
theorem body_mid (c : Dev nD) (i : grid2.Coords)
    (a1 : Memref sig .tc .vmem S1x1024x128 .f32) (h1 : a1.IsWhole) (a2 : Memref sig .tc .vmem S1x1024x128 .f32) (h2 : a2.IsWhole) (a3 : Memref sig .tc .vmem S1x1024x1 .f32) (h3 : a3.IsWhole) (a4 : Memref sig .tc .vmem S1x1024x1 .f32) (h4 : a4.IsWhole) (a5 : Memref sig .tc .vmem S128x1024 .f32) (h5 : a5.IsWhole) (a6 : Memref sig .tc .vmem S256x1024 .f32) (h6 : a6.IsWhole) (a7 : Memref sig .tc .vmem S1x1024 .f32) (h7 : a7.IsWhole) (a8 : Memref sig .tc .vmem S128x1024 .f32) (h8 : a8.IsWhole) (a9 : Memref sig .tc .vmem S256x1024 .f32) (h9 : a9.IsWhole) (a10 : Memref sig .tc .vmem S1x1024 .f32) (h10 : a10.IsWhole) (a11 : Memref sig .tc .vmem S1x512 .f32) (h11 : a11.IsWhole) (a12 : Memref sig .tc .vmem S1x512 .f32) (h12 : a12.IsWhole) (a13 : Memref sig .tc .vmem S512x64 .f32) (h13 : a13.IsWhole) (a14 : Memref sig .tc .vmem S1x64 .f32) (h14 : a14.IsWhole) (a15 : Memref sig .tc .vmem S1024x64 .f32) (h15 : a15.IsWhole) (a16 : Memref sig .tc .vmem S1024x256 .f32) (h16 : a16.IsWhole) (a17 : Memref sig .tc .vmem S1024x256 .f32) (h17 : a17.IsWhole) (a18 : Memref sig .tc .vmem S1024x256 .f32) (h18 : a18.IsWhole) (a19 : Memref sig .tc .vmem S1024x256 .f32) (h19 : a19.IsWhole)
    (hc0 : ¬ first i) (hc1 : ¬ last i)
    (x1 : Vec F S1x1024x128 .f32) (x2 : Vec F S1x1024x128 .f32) (x3 : Vec F S1x1024x1 .f32) (x4 : Vec F S1x1024x1 .f32) (x5 : Vec F S128x1024 .f32) (x6 : Vec F S256x1024 .f32) (x7 : Vec F S1x1024 .f32) (x8 : Vec F S128x1024 .f32) (x9 : Vec F S256x1024 .f32) (x10 : Vec F S1x1024 .f32) (x11 : Vec F S1x512 .f32) (x12 : Vec F S1x512 .f32) (x13 : Vec F S512x64 .f32) (x14 : Vec F S1x64 .f32) (xo : Vec F S1024x64 .f32) (s1 s2 s3 s4 : Vec F S1024x256 .f32)
    (E : Set ℕ) (Φ : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ owns (c : Thread nD τ) a16 fullShare s1 ∗ owns (c : Thread nD τ) a17 fullShare s2 ∗ owns (c : Thread nD τ) a18 fullShare s3 ∗ owns (c : Thread nD τ) a19 fullShare s4
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ owns (c : Thread nD τ) a16 fullShare (stepF x5 x6 x7 x1 x3 (s1, s2)).1 ∗ owns (c : Thread nD τ) a17 fullShare (stepF x5 x6 x7 x1 x3 (s1, s2)).2 ∗ owns (c : Thread nD τ) a18 fullShare (stepB x8 x9 x10 x2 x4 (s3, s4)).1 ∗ owns (c : Thread nD τ) a19 fullShare (stepB x8 x9 x10 x2 x4 (s3, s4)).2) -∗ Φ ⟨⟩))
      ⊢ wp frame (wpE (defs₀ (F := F)) Variants.none c none) E (cc2__rec_body i a1 h1 a2 h2 a3 h3 a4 h4 a5 h5 a6 h6 a7 h7 a8 h8 a9 h9 a10 h10 a11 h11 a12 h12 a13 h13 a14 h14 a15 h15 a16 h16 a17 h17 a18 h18 a19 h19) Φ := by
  simp only [cc2__rec_body_eq_skeleton]; unfold cc2__rec_body_skel
  simp only [k2_part2_eq_skeleton, k2_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h15.eq_unread hf15
  obtain rfl := h16.eq_unread hf16
  obtain rfl := h17.eq_unread hf17
  obtain rfl := h18.eq_unread hf18
  obtain rfl := h19.eq_unread hf19
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  isplitl [H16]
  · iexists _
    isplitr
    swap; · iexact H16
    ipureintro
    delta body_mid.sl.r body_mid.sl.r_1 body_mid.sl.r_2 body_mid.sl.r_3 body_mid.sl.r_4 body_mid.sl.r_5 body_mid.sl.r_6 body_mid.sl.r_7 body_mid.sl.r_8 body_mid.sl.r_9
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread,
      stepF, stepB, zeroF, zeroB, head]
  isplitl [H17]
  · iexists _
    isplitr
    swap; · iexact H17
    ipureintro
    delta body_mid.sl.r body_mid.sl.r_1 body_mid.sl.r_2 body_mid.sl.r_3 body_mid.sl.r_4 body_mid.sl.r_5 body_mid.sl.r_6 body_mid.sl.r_7 body_mid.sl.r_8 body_mid.sl.r_9
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread,
      stepF, stepB, zeroF, zeroB, head]
  isplitl [H18]
  · iexists _
    isplitr
    swap; · iexact H18
    ipureintro
    delta body_mid.sl.r body_mid.sl.r_1 body_mid.sl.r_2 body_mid.sl.r_3 body_mid.sl.r_4 body_mid.sl.r_5 body_mid.sl.r_6 body_mid.sl.r_7 body_mid.sl.r_8 body_mid.sl.r_9
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread,
      stepF, stepB, zeroF, zeroB, head]
  iexists _
  isplitr
  swap; · iexact H19
  ipureintro
  delta body_mid.sl.r body_mid.sl.r_1 body_mid.sl.r_2 body_mid.sl.r_3 body_mid.sl.r_4 body_mid.sl.r_5 body_mid.sl.r_6 body_mid.sl.r_7 body_mid.sl.r_8 body_mid.sl.r_9
  rw [View.read_writes_full]
  repeat rw [View.readAt_full]
  repeat rw [View.readCov_full]
  simp only [h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread,
    stepF, stepB, zeroF, zeroB, head]

set_option maxHeartbeats 1600000 in
/-- At the last point it also forms the result. -/
theorem body_last (c : Dev nD) (i : grid2.Coords)
    (a1 : Memref sig .tc .vmem S1x1024x128 .f32) (h1 : a1.IsWhole) (a2 : Memref sig .tc .vmem S1x1024x128 .f32) (h2 : a2.IsWhole) (a3 : Memref sig .tc .vmem S1x1024x1 .f32) (h3 : a3.IsWhole) (a4 : Memref sig .tc .vmem S1x1024x1 .f32) (h4 : a4.IsWhole) (a5 : Memref sig .tc .vmem S128x1024 .f32) (h5 : a5.IsWhole) (a6 : Memref sig .tc .vmem S256x1024 .f32) (h6 : a6.IsWhole) (a7 : Memref sig .tc .vmem S1x1024 .f32) (h7 : a7.IsWhole) (a8 : Memref sig .tc .vmem S128x1024 .f32) (h8 : a8.IsWhole) (a9 : Memref sig .tc .vmem S256x1024 .f32) (h9 : a9.IsWhole) (a10 : Memref sig .tc .vmem S1x1024 .f32) (h10 : a10.IsWhole) (a11 : Memref sig .tc .vmem S1x512 .f32) (h11 : a11.IsWhole) (a12 : Memref sig .tc .vmem S1x512 .f32) (h12 : a12.IsWhole) (a13 : Memref sig .tc .vmem S512x64 .f32) (h13 : a13.IsWhole) (a14 : Memref sig .tc .vmem S1x64 .f32) (h14 : a14.IsWhole) (a15 : Memref sig .tc .vmem S1024x64 .f32) (h15 : a15.IsWhole) (a16 : Memref sig .tc .vmem S1024x256 .f32) (h16 : a16.IsWhole) (a17 : Memref sig .tc .vmem S1024x256 .f32) (h17 : a17.IsWhole) (a18 : Memref sig .tc .vmem S1024x256 .f32) (h18 : a18.IsWhole) (a19 : Memref sig .tc .vmem S1024x256 .f32) (h19 : a19.IsWhole)
    (hc0 : ¬ first i) (hc1 : last i)
    (x1 : Vec F S1x1024x128 .f32) (x2 : Vec F S1x1024x128 .f32) (x3 : Vec F S1x1024x1 .f32) (x4 : Vec F S1x1024x1 .f32) (x5 : Vec F S128x1024 .f32) (x6 : Vec F S256x1024 .f32) (x7 : Vec F S1x1024 .f32) (x8 : Vec F S128x1024 .f32) (x9 : Vec F S256x1024 .f32) (x10 : Vec F S1x1024 .f32) (x11 : Vec F S1x512 .f32) (x12 : Vec F S1x512 .f32) (x13 : Vec F S512x64 .f32) (x14 : Vec F S1x64 .f32) (s1 s2 s3 s4 : Vec F S1024x256 .f32)
    (E : Set ℕ) (Φ : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d) ∗ owns (c : Thread nD τ) a16 fullShare s1 ∗ owns (c : Thread nD τ) a17 fullShare s2 ∗ owns (c : Thread nD τ) a18 fullShare s3 ∗ owns (c : Thread nD τ) a19 fullShare s4
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (head (stepF x5 x6 x7 x1 x3 (s1, s2)).1 (stepB x8 x9 x10 x2 x4 (s3, s4)).1 x11 x12 x13 x14) ∗ owns (c : Thread nD τ) a16 fullShare (stepF x5 x6 x7 x1 x3 (s1, s2)).1 ∗ owns (c : Thread nD τ) a17 fullShare (stepF x5 x6 x7 x1 x3 (s1, s2)).2 ∗ owns (c : Thread nD τ) a18 fullShare (stepB x8 x9 x10 x2 x4 (s3, s4)).1 ∗ owns (c : Thread nD τ) a19 fullShare (stepB x8 x9 x10 x2 x4 (s3, s4)).2) -∗ Φ ⟨⟩))
      ⊢ wp frame (wpE (defs₀ (F := F)) Variants.none c none) E (cc2__rec_body i a1 h1 a2 h2 a3 h3 a4 h4 a5 h5 a6 h6 a7 h7 a8 h8 a9 h9 a10 h10 a11 h11 a12 h12 a13 h13 a14 h14 a15 h15 a16 h16 a17 h17 a18 h18 a19 h19) Φ := by
  simp only [cc2__rec_body_eq_skeleton]; unfold cc2__rec_body_skel
  simp only [k2_part1_eq_skeleton, k2_part2_eq_skeleton, k2_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, Hk⟩
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h16.eq_unread hf16
  obtain rfl := h17.eq_unread hf17
  obtain rfl := h18.eq_unread hf18
  obtain rfl := h19.eq_unread hf19
  sl_exec (disch := first | sl_exact hc0 | sl_exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; · ipureintro; exact h13.read_unread _
    iexact H13
  isplitl [H14]
  · iexists _; isplitr; · ipureintro; exact h14.read_unread _
    iexact H14
  isplitl [H15]
  · iexists _
    isplitr
    swap; · iexact H15
    ipureintro
    delta body_last.sl.H16_1 body_last.sl.H18_1 body_last.sl.r body_last.sl.r_1 body_last.sl.r_2 body_last.sl.r_3 body_last.sl.r_4 body_last.sl.r_5 body_last.sl.r_6 body_last.sl.r_7 body_last.sl.r_8 body_last.sl.r_9 body_last.sl.r_10 body_last.sl.v92 body_last.sl.v93
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h16.read_unread, h17.read_unread, h18.read_unread, h19.read_unread,
      stepF, stepB, zeroF, zeroB, head]
  isplitl [H16]
  · iexists _
    isplitr
    swap; · iexact H16
    ipureintro
    delta body_last.sl.H16_1 body_last.sl.H18_1 body_last.sl.r body_last.sl.r_1 body_last.sl.r_2 body_last.sl.r_3 body_last.sl.r_4 body_last.sl.r_5 body_last.sl.r_6 body_last.sl.r_7 body_last.sl.r_8 body_last.sl.r_9 body_last.sl.r_10 body_last.sl.v92 body_last.sl.v93
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h16.read_unread, h17.read_unread, h18.read_unread, h19.read_unread,
      stepF, stepB, zeroF, zeroB, head]
  isplitl [H17]
  · iexists _
    isplitr
    swap; · iexact H17
    ipureintro
    delta body_last.sl.H16_1 body_last.sl.H18_1 body_last.sl.r body_last.sl.r_1 body_last.sl.r_2 body_last.sl.r_3 body_last.sl.r_4 body_last.sl.r_5 body_last.sl.r_6 body_last.sl.r_7 body_last.sl.r_8 body_last.sl.r_9 body_last.sl.r_10 body_last.sl.v92 body_last.sl.v93
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h16.read_unread, h17.read_unread, h18.read_unread, h19.read_unread,
      stepF, stepB, zeroF, zeroB, head]
  isplitl [H18]
  · iexists _
    isplitr
    swap; · iexact H18
    ipureintro
    delta body_last.sl.H16_1 body_last.sl.H18_1 body_last.sl.r body_last.sl.r_1 body_last.sl.r_2 body_last.sl.r_3 body_last.sl.r_4 body_last.sl.r_5 body_last.sl.r_6 body_last.sl.r_7 body_last.sl.r_8 body_last.sl.r_9 body_last.sl.r_10 body_last.sl.v92 body_last.sl.v93
    rw [View.read_writes_full]
    repeat rw [View.readAt_full]
    repeat rw [View.readCov_full]
    simp only [h1.read_unread, h2.read_unread, h3.read_unread, h4.read_unread, h5.read_unread, h6.read_unread, h7.read_unread, h8.read_unread, h9.read_unread, h10.read_unread, h11.read_unread, h12.read_unread, h13.read_unread, h14.read_unread, h16.read_unread, h17.read_unread, h18.read_unread, h19.read_unread,
      stepF, stepB, zeroF, zeroB, head]
  iexists _
  isplitr
  swap; · iexact H19
  ipureintro
  delta body_last.sl.H16_1 body_last.sl.H18_1 body_last.sl.r body_last.sl.r_1 body_last.sl.r_2 body_last.sl.r_3 body_last.sl.r_4 body_last.sl.r_5 body_last.sl.r_6 body_last.sl.r_7 body_last.sl.r_8 body_last.sl.r_9 body_last.sl.r_10 body_last.sl.v92 body_last.sl.v93
  rw [View.read_writes_full]
  repeat rw [View.readAt_full]
  repeat rw [View.readCov_full]
  simp only [h1.read_unread, h2.read_unread, h3.read_unread, h4.read_unread, h5.read_unread, h6.read_unread, h7.read_unread, h8.read_unread, h9.read_unread, h10.read_unread, h11.read_unread, h12.read_unread, h13.read_unread, h14.read_unread, h16.read_unread, h17.read_unread, h18.read_unread, h19.read_unread,
    stepF, stepB, zeroF, zeroB, head]

end Cert.Proof.Rec

end
-- ==== Proof.Rec.lean ====
/-
  The recurrence pass as a region: the blocks its windows stage, the states after every point, the body's obligation, and
  the result array.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import proofs.«01_k».proof.Proof.Stats
public import proofs.«01_k».proof.Proof.RecBody
public import Idealize.ShloMosaic.Lib.Pipeline.FrameBody

@[expose] public section

set_option maxRecDepth 16384

noncomputable section

namespace Cert.Proof.Rec

open Cert.KernelIdeal Cert.KernelIdeal.Gen Cert.Proof.Gather
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

open Cert.Proof.Stats (Vals low)

/-- Block `n` of the sequence, and of the mask. -/
def blk (x : Vec F S200x1024x128 .f32) (n : ℕ) : Vec F S1x1024x128 .f32 :=
  fun j => x (fun | ⟨0, _⟩ => ⟨n % 200, Nat.mod_lt _ (by decide)⟩ | ⟨1, _⟩ => j 1 | ⟨2, _⟩ => j 2)
def mblk (x : Vec F S200x1024x1 .f32) (n : ℕ) : Vec F S1x1024x1 .f32 :=
  fun j => x (fun | ⟨0, _⟩ => ⟨n % 200, Nat.mod_lt _ (by decide)⟩ | ⟨1, _⟩ => j 1 | ⟨2, _⟩ => j 2)

/-- The forward state after the first `n` blocks. -/
def seqF (x : Vec F S200x1024x128 .f32) (k : Vec F S200x1024x1 .f32) (kf : Vec F S128x1024 .f32) (rf : Vec F S256x1024 .f32)
    (bf : Vec F S1x1024 .f32) : ℕ → HC F
  | 0 => zeroF
  | n + 1 => stepF kf rf bf (blk x n) (mblk k n) (seqF x k kf rf bf n)

/-- The backward state after the last `n` blocks. -/
def seqB (x : Vec F S200x1024x128 .f32) (k : Vec F S200x1024x1 .f32) (kb : Vec F S128x1024 .f32) (rb : Vec F S256x1024 .f32)
    (bb : Vec F S1x1024 .f32) : ℕ → HC F
  | 0 => zeroB
  | n + 1 => stepB kb rb bb (blk x (199 - n)) (mblk k (199 - n)) (seqB x k kb rb bb n)

variable (V : Vals F)

/-- The states before point `n`, from the arrays the region finds. -/
def fw (c : Dev nD) (n : ℕ) : HC F := seqF (V c main_v32) (V c main_v37) (V c main_v22) (V c main_arg5) (V c main_v28) n
def bw (c : Dev nD) (n : ℕ) : HC F := seqB (V c main_v32) (V c main_v37) (V c main_v25) (V c main_arg8) (V c main_v31) n

/-- What the region leaves in the result array. -/
def res (c : Dev nD) : Vec F S1024x64 .f32 :=
  head (fw V c 200).1 (bw V c 200).1 (V c main_v38) (V c main_v39) (V c main_arg12) (V c main_v40)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem index0_0 : ∀ t : Fin cfg2.N, win2_0.index t 0 = t.val := (by decide +kernel : ∀ t : Fin grid2.N, win2_0.index t 0 = t.val)
theorem index0_1 : ∀ t : Fin cfg2.N, win2_0.index t 1 = 0 := (by decide +kernel : ∀ t : Fin grid2.N, win2_0.index t 1 = 0)
theorem index0_2 : ∀ t : Fin cfg2.N, win2_0.index t 2 = 0 := (by decide +kernel : ∀ t : Fin grid2.N, win2_0.index t 2 = 0)

theorem iblk_0 (c : Dev nD) (t : Fin cfg2.N) : iblk V c 0 t = blk (V c main_v32) (t.val) := by
  have ht : t.val < 200 := Nat.lt_of_lt_of_eq t.isLt N_2
  funext j
  unfold iblk blk
  rw [View.read_apply, cast_eq]
  refine congrArg (V c main_v32) (funext fun a => Fin.ext ?_)
  match a with
  | ⟨0, h⟩ =>
    blk_simp
    rw [index0_0]
    show t.val = (t.val) % 200
    omega
  | ⟨1, h⟩ =>
    blk_simp
    rw [index0_1]
    show 0 * 1024 + (j 1).val = (j 1).val
    omega
  | ⟨2, h⟩ =>
    blk_simp
    rw [index0_2]
    show 0 * 128 + (j 2).val = (j 2).val
    omega

theorem index1_0 : ∀ t : Fin cfg2.N, win2_1.index t 0 = 199 - t.val := (by decide +kernel : ∀ t : Fin grid2.N, win2_1.index t 0 = 199 - t.val)
theorem index1_1 : ∀ t : Fin cfg2.N, win2_1.index t 1 = 0 := (by decide +kernel : ∀ t : Fin grid2.N, win2_1.index t 1 = 0)
theorem index1_2 : ∀ t : Fin cfg2.N, win2_1.index t 2 = 0 := (by decide +kernel : ∀ t : Fin grid2.N, win2_1.index t 2 = 0)

theorem iblk_1 (c : Dev nD) (t : Fin cfg2.N) : iblk V c 1 t = blk (V c main_v32) (199 - t.val) := by
  have ht : t.val < 200 := Nat.lt_of_lt_of_eq t.isLt N_2
  funext j
  unfold iblk blk
  rw [View.read_apply, cast_eq]
  refine congrArg (V c main_v32) (funext fun a => Fin.ext ?_)
  match a with
  | ⟨0, h⟩ =>
    blk_simp
    rw [index1_0]
    show 199 - t.val = (199 - t.val) % 200
    omega
  | ⟨1, h⟩ =>
    blk_simp
    rw [index1_1]
    show 0 * 1024 + (j 1).val = (j 1).val
    omega
  | ⟨2, h⟩ =>
    blk_simp
    rw [index1_2]
    show 0 * 128 + (j 2).val = (j 2).val
    omega

theorem index2_0 : ∀ t : Fin cfg2.N, win2_2.index t 0 = t.val := (by decide +kernel : ∀ t : Fin grid2.N, win2_2.index t 0 = t.val)
theorem index2_1 : ∀ t : Fin cfg2.N, win2_2.index t 1 = 0 := (by decide +kernel : ∀ t : Fin grid2.N, win2_2.index t 1 = 0)
theorem index2_2 : ∀ t : Fin cfg2.N, win2_2.index t 2 = 0 := (by decide +kernel : ∀ t : Fin grid2.N, win2_2.index t 2 = 0)

theorem iblk_2 (c : Dev nD) (t : Fin cfg2.N) : iblk V c 2 t = mblk (V c main_v37) (t.val) := by
  have ht : t.val < 200 := Nat.lt_of_lt_of_eq t.isLt N_2
  funext j
  unfold iblk mblk
  rw [View.read_apply, cast_eq]
  refine congrArg (V c main_v37) (funext fun a => Fin.ext ?_)
  match a with
  | ⟨0, h⟩ =>
    blk_simp
    rw [index2_0]
    show t.val = (t.val) % 200
    omega
  | ⟨1, h⟩ =>
    blk_simp
    rw [index2_1]
    show 0 * 1024 + (j 1).val = (j 1).val
    omega
  | ⟨2, h⟩ =>
    blk_simp
    rw [index2_2]

theorem index3_0 : ∀ t : Fin cfg2.N, win2_3.index t 0 = 199 - t.val := (by decide +kernel : ∀ t : Fin grid2.N, win2_3.index t 0 = 199 - t.val)
theorem index3_1 : ∀ t : Fin cfg2.N, win2_3.index t 1 = 0 := (by decide +kernel : ∀ t : Fin grid2.N, win2_3.index t 1 = 0)
theorem index3_2 : ∀ t : Fin cfg2.N, win2_3.index t 2 = 0 := (by decide +kernel : ∀ t : Fin grid2.N, win2_3.index t 2 = 0)

theorem iblk_3 (c : Dev nD) (t : Fin cfg2.N) : iblk V c 3 t = mblk (V c main_v37) (199 - t.val) := by
  have ht : t.val < 200 := Nat.lt_of_lt_of_eq t.isLt N_2
  funext j
  unfold iblk mblk
  rw [View.read_apply, cast_eq]
  refine congrArg (V c main_v37) (funext fun a => Fin.ext ?_)
  match a with
  | ⟨0, h⟩ =>
    blk_simp
    rw [index3_0]
    show 199 - t.val = (199 - t.val) % 200
    omega
  | ⟨1, h⟩ =>
    blk_simp
    rw [index3_1]
    show 0 * 1024 + (j 1).val = (j 1).val
    omega
  | ⟨2, h⟩ =>
    blk_simp
    rw [index3_2]

theorem index4 : ∀ (t : Fin cfg2.N) (a : Fin 2), win2_4.index t a = 0 := (by decide +kernel : ∀ (t : Fin grid2.N) (a : Fin 2), win2_4.index t a = 0)

theorem iblk_4 (c : Dev nD) (t : Fin cfg2.N) : iblk V c 4 t = V c main_v22 := by
  funext j
  unfold iblk
  rw [View.read_apply, cast_eq]
  refine congrArg (V c main_v22) (funext fun a => Fin.ext ?_)
  match a with
  | ⟨0, h⟩ =>
    blk_simp
    rw [index4]
    show 0 * 128 + (j 0).val = (j 0).val
    omega
  | ⟨1, h⟩ =>
    blk_simp
    rw [index4]
    show 0 * 1024 + (j 1).val = (j 1).val
    omega

theorem index5 : ∀ (t : Fin cfg2.N) (a : Fin 2), win2_5.index t a = 0 := (by decide +kernel : ∀ (t : Fin grid2.N) (a : Fin 2), win2_5.index t a = 0)

theorem iblk_5 (c : Dev nD) (t : Fin cfg2.N) : iblk V c 5 t = V c main_arg5 := by
  funext j
  unfold iblk
  rw [View.read_apply, cast_eq]
  refine congrArg (V c main_arg5) (funext fun a => Fin.ext ?_)
  match a with
  | ⟨0, h⟩ =>
    blk_simp
    rw [index5]
    show 0 * 256 + (j 0).val = (j 0).val
    omega
  | ⟨1, h⟩ =>
    blk_simp
    rw [index5]
    show 0 * 1024 + (j 1).val = (j 1).val
    omega

theorem index6 : ∀ (t : Fin cfg2.N) (a : Fin 2), win2_6.index t a = 0 := (by decide +kernel : ∀ (t : Fin grid2.N) (a : Fin 2), win2_6.index t a = 0)

theorem iblk_6 (c : Dev nD) (t : Fin cfg2.N) : iblk V c 6 t = V c main_v28 := by
  funext j
  unfold iblk
  rw [View.read_apply, cast_eq]
  refine congrArg (V c main_v28) (funext fun a => Fin.ext ?_)
  match a with
  | ⟨0, h⟩ =>
    blk_simp
    rw [index6]
  | ⟨1, h⟩ =>
    blk_simp
    rw [index6]
    show 0 * 1024 + (j 1).val = (j 1).val
    omega

theorem index7 : ∀ (t : Fin cfg2.N) (a : Fin 2), win2_7.index t a = 0 := (by decide +kernel : ∀ (t : Fin grid2.N) (a : Fin 2), win2_7.index t a = 0)

theorem iblk_7 (c : Dev nD) (t : Fin cfg2.N) : iblk V c 7 t = V c main_v25 := by
  funext j
  unfold iblk
  rw [View.read_apply, cast_eq]
  refine congrArg (V c main_v25) (funext fun a => Fin.ext ?_)
  match a with
  | ⟨0, h⟩ =>
    blk_simp
    rw [index7]
    show 0 * 128 + (j 0).val = (j 0).val
    omega
  | ⟨1, h⟩ =>
    blk_simp
    rw [index7]
    show 0 * 1024 + (j 1).val = (j 1).val
    omega

theorem index8 : ∀ (t : Fin cfg2.N) (a : Fin 2), win2_8.index t a = 0 := (by decide +kernel : ∀ (t : Fin grid2.N) (a : Fin 2), win2_8.index t a = 0)

theorem iblk_8 (c : Dev nD) (t : Fin cfg2.N) : iblk V c 8 t = V c main_arg8 := by
  funext j
  unfold iblk
  rw [View.read_apply, cast_eq]
  refine congrArg (V c main_arg8) (funext fun a => Fin.ext ?_)
  match a with
  | ⟨0, h⟩ =>
    blk_simp
    rw [index8]
    show 0 * 256 + (j 0).val = (j 0).val
    omega
  | ⟨1, h⟩ =>
    blk_simp
    rw [index8]
    show 0 * 1024 + (j 1).val = (j 1).val
    omega

theorem index9 : ∀ (t : Fin cfg2.N) (a : Fin 2), win2_9.index t a = 0 := (by decide +kernel : ∀ (t : Fin grid2.N) (a : Fin 2), win2_9.index t a = 0)

theorem iblk_9 (c : Dev nD) (t : Fin cfg2.N) : iblk V c 9 t = V c main_v31 := by
  funext j
  unfold iblk
  rw [View.read_apply, cast_eq]
  refine congrArg (V c main_v31) (funext fun a => Fin.ext ?_)
  match a with
  | ⟨0, h⟩ =>
    blk_simp
    rw [index9]
  | ⟨1, h⟩ =>
    blk_simp
    rw [index9]
    show 0 * 1024 + (j 1).val = (j 1).val
    omega

theorem index10 : ∀ (t : Fin cfg2.N) (a : Fin 2), win2_10.index t a = 0 := (by decide +kernel : ∀ (t : Fin grid2.N) (a : Fin 2), win2_10.index t a = 0)

theorem iblk_10 (c : Dev nD) (t : Fin cfg2.N) : iblk V c 10 t = V c main_v38 := by
  funext j
  unfold iblk
  rw [View.read_apply, cast_eq]
  refine congrArg (V c main_v38) (funext fun a => Fin.ext ?_)
  match a with
  | ⟨0, h⟩ =>
    blk_simp
    rw [index10]
  | ⟨1, h⟩ =>
    blk_simp
    rw [index10]
    show 0 * 512 + (j 1).val = (j 1).val
    omega

theorem index11 : ∀ (t : Fin cfg2.N) (a : Fin 2), win2_11.index t a = 0 := (by decide +kernel : ∀ (t : Fin grid2.N) (a : Fin 2), win2_11.index t a = 0)

theorem iblk_11 (c : Dev nD) (t : Fin cfg2.N) : iblk V c 11 t = V c main_v39 := by
  funext j
  unfold iblk
  rw [View.read_apply, cast_eq]
  refine congrArg (V c main_v39) (funext fun a => Fin.ext ?_)
  match a with
  | ⟨0, h⟩ =>
    blk_simp
    rw [index11]
  | ⟨1, h⟩ =>
    blk_simp
    rw [index11]
    show 0 * 512 + (j 1).val = (j 1).val
    omega

theorem index12 : ∀ (t : Fin cfg2.N) (a : Fin 2), win2_12.index t a = 0 := (by decide +kernel : ∀ (t : Fin grid2.N) (a : Fin 2), win2_12.index t a = 0)

theorem iblk_12 (c : Dev nD) (t : Fin cfg2.N) : iblk V c 12 t = V c main_arg12 := by
  funext j
  unfold iblk
  rw [View.read_apply, cast_eq]
  refine congrArg (V c main_arg12) (funext fun a => Fin.ext ?_)
  match a with
  | ⟨0, h⟩ =>
    blk_simp
    rw [index12]
    show 0 * 512 + (j 0).val = (j 0).val
    omega
  | ⟨1, h⟩ =>
    blk_simp
    rw [index12]
    show 0 * 64 + (j 1).val = (j 1).val
    omega

theorem index13 : ∀ (t : Fin cfg2.N) (a : Fin 2), win2_13.index t a = 0 := (by decide +kernel : ∀ (t : Fin grid2.N) (a : Fin 2), win2_13.index t a = 0)

theorem iblk_13 (c : Dev nD) (t : Fin cfg2.N) : iblk V c 13 t = V c main_v40 := by
  funext j
  unfold iblk
  rw [View.read_apply, cast_eq]
  refine congrArg (V c main_v40) (funext fun a => Fin.ext ?_)
  match a with
  | ⟨0, h⟩ =>
    blk_simp
    rw [index13]
  | ⟨1, h⟩ =>
    blk_simp
    rw [index13]
    show 0 * 64 + (j 1).val = (j 1).val
    omega

/-! ## The proof data -/

/-- The other call's staging buffers: this one leaves them alone. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f))

/-- Before point `n` the scratch buffers hold the states so far; before the first, anything. -/
def Phi (c : Dev nD) (n : ℕ) : sProp 𝕄 :=
  iprop(others c ∗ ∃ s1 s2 s3 s4 : Vec F S1024x256 .f32,
    ⌜n ≠ 0 → s1 = (fw V c n).1 ∧ s2 = (fw V c n).2 ∧ s3 = (bw V c n).1 ∧ s4 = (bw V c n).2⌝
    ∗ owns (c : Thread nD τ) (Memref.whole cc2_scratch0) fullShare s1 ∗ owns (c : Thread nD τ) (Memref.whole cc2_scratch1) fullShare s2
    ∗ owns (c : Thread nD τ) (Memref.whole cc2_scratch2) fullShare s3 ∗ owns (c : Thread nD τ) (Memref.whole cc2_scratch3) fullShare s4)

theorem Phi_in (c : Dev nD) : (Pipeline.scopedRest (Ix := HIx 1) (Name := ℕ) (U := UU) (Lvl := ℕ) (Val := Elt F) spec2 c : sProp 𝕄) ⊢ Phi V c 0 := by
  rw [scopedRest2_eq]
  unfold Phi others
  iintro ⟨Ha, Hb, Hc, ⟨%s1, H1⟩, ⟨%s2, H2⟩, ⟨%s3, H3⟩, ⟨%s4, H4⟩⟩
  isplitl [Ha Hb Hc]
  · isplitl [Ha]; · iexact Ha
    isplitl [Hb]; · iexact Hb
    iexact Hc
  iexists s1; iexists s2; iexists s3; iexists s4
  isplitr; · ipureintro; intro h; exact absurd rfl h
  simp only [owns_whole]
  isplitl [H1]; · iexact H1
  isplitl [H2]; · iexact H2
  isplitl [H3]; · iexact H3
  iexact H4

theorem Phi_out (c : Dev nD) (n : ℕ) : Phi V c n ⊢ (Pipeline.scopedRest (Ix := HIx 1) (Name := ℕ) (U := UU) (Lvl := ℕ) (Val := Elt F) spec2 c : sProp 𝕄) := by
  rw [scopedRest2_eq]
  unfold Phi others
  simp only [owns_whole]
  iintro ⟨⟨Ha, Hb, Hc⟩, %s1, %s2, %s3, %s4, -, H1, H2, H3, H4⟩
  isplitl [Ha]; · iexact Ha
  isplitl [Hb]; · iexact Hb
  isplitl [Hc]; · iexact Hc
  isplitl [H1]; · iexists _; iexact H1
  isplitl [H2]; · iexists _; iexact H2
  isplitl [H3]; · iexists _; iexact H3
  iexists _; iexact H4

/-- The proof data of the region on core `c`. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => res V c
  Φ t := Phi V c t.val
  q w := Pipeline.shareOf spec2 w
  owed _ := 0
  recorded _ := low (F := F) c

theorem A_eq (c : Dev nD) (w : Fin cfg2.W) : (dat V c).A w = V c (Pipeline.arrRef spec2 w) := by dsimp only [dat]
theorem q_eq (c : Dev nD) (w : Fin cfg2.W) : (dat V c).q w = Pipeline.shareOf spec2 w := by dsimp only [dat]
theorem Φ_eq (c : Dev nD) (t) : (dat V c).Φ t = Phi V c t.val := by dsimp only [dat]
theorem after_14 (c : Dev nD) (t : Fin cfg2.N) : (dat V c).after 14 t = res V c := by dsimp only [dat]
theorem after_0 (c : Dev nD) (t : Fin cfg2.N) : (dat V c).after 0 t = iblk V c 0 t := by dsimp only [dat]
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem live_0 (t : Fin cfg2.N) : cfg2.idle 0 (grid2.coords t) = false := rfl
theorem after_1 (c : Dev nD) (t : Fin cfg2.N) : (dat V c).after 1 t = iblk V c 1 t := by dsimp only [dat]
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)
theorem live_1 (t : Fin cfg2.N) : cfg2.idle 1 (grid2.coords t) = false := rfl
theorem after_2 (c : Dev nD) (t : Fin cfg2.N) : (dat V c).after 2 t = iblk V c 2 t := by dsimp only [dat]
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]) t d).trans
    (by unfold Dat.fetched Dat.blockOf iblk; rw [A_eq]; try rfl)
theorem live_2 (t : Fin cfg2.N) : cfg2.idle 2 (grid2.coords t) = false := rfl
theorem after_3 (c : Dev nD) (t : Fin cfg2.N) : (dat V c).after 3 t = iblk V c 3 t := by dsimp only [dat]
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]) t d).trans
    (by unfold Dat.fetched Dat.blockOf iblk; rw [A_eq]; try rfl)
theorem live_3 (t : Fin cfg2.N) : cfg2.idle 3 (grid2.coords t) = false := rfl
theorem after_4 (c : Dev nD) (t : Fin cfg2.N) : (dat V c).after 4 t = iblk V c 4 t := by dsimp only [dat]
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]) t d).trans
    (by unfold Dat.fetched Dat.blockOf iblk; rw [A_eq]; try rfl)
theorem live_4 (t : Fin cfg2.N) : cfg2.idle 4 (grid2.coords t) = false := rfl
theorem after_5 (c : Dev nD) (t : Fin cfg2.N) : (dat V c).after 5 t = iblk V c 5 t := by dsimp only [dat]
theorem before_5 (c : Dev nD) (t : Fin cfg2.N) (d) : (dat V c).before 5 t d = iblk V c 5 t :=
  ((dat V c).before_in_eq_fetched 5 rfl (fun _ => rfl) (fun _ _ _ => rfl)
    (fun t => by rw [after_5]; unfold Dat.blockOf iblk; rw [A_eq]) t d).trans
    (by unfold Dat.fetched Dat.blockOf iblk; rw [A_eq]; try rfl)
theorem live_5 (t : Fin cfg2.N) : cfg2.idle 5 (grid2.coords t) = false := rfl
theorem after_6 (c : Dev nD) (t : Fin cfg2.N) : (dat V c).after 6 t = iblk V c 6 t := by dsimp only [dat]
theorem before_6 (c : Dev nD) (t : Fin cfg2.N) (d) : (dat V c).before 6 t d = iblk V c 6 t :=
  ((dat V c).before_in_eq_fetched 6 rfl (fun _ => rfl) (fun _ _ _ => rfl)
    (fun t => by rw [after_6]; unfold Dat.blockOf iblk; rw [A_eq]) t d).trans
    (by unfold Dat.fetched Dat.blockOf iblk; rw [A_eq]; try rfl)
theorem live_6 (t : Fin cfg2.N) : cfg2.idle 6 (grid2.coords t) = false := rfl
theorem after_7 (c : Dev nD) (t : Fin cfg2.N) : (dat V c).after 7 t = iblk V c 7 t := by dsimp only [dat]
theorem before_7 (c : Dev nD) (t : Fin cfg2.N) (d) : (dat V c).before 7 t d = iblk V c 7 t :=
  ((dat V c).before_in_eq_fetched 7 rfl (fun _ => rfl) (fun _ _ _ => rfl)
    (fun t => by rw [after_7]; unfold Dat.blockOf iblk; rw [A_eq]) t d).trans
    (by unfold Dat.fetched Dat.blockOf iblk; rw [A_eq]; try rfl)
theorem live_7 (t : Fin cfg2.N) : cfg2.idle 7 (grid2.coords t) = false := rfl
theorem after_8 (c : Dev nD) (t : Fin cfg2.N) : (dat V c).after 8 t = iblk V c 8 t := by dsimp only [dat]
theorem before_8 (c : Dev nD) (t : Fin cfg2.N) (d) : (dat V c).before 8 t d = iblk V c 8 t :=
  ((dat V c).before_in_eq_fetched 8 rfl (fun _ => rfl) (fun _ _ _ => rfl)
    (fun t => by rw [after_8]; unfold Dat.blockOf iblk; rw [A_eq]) t d).trans
    (by unfold Dat.fetched Dat.blockOf iblk; rw [A_eq]; try rfl)
theorem live_8 (t : Fin cfg2.N) : cfg2.idle 8 (grid2.coords t) = false := rfl
theorem after_9 (c : Dev nD) (t : Fin cfg2.N) : (dat V c).after 9 t = iblk V c 9 t := by dsimp only [dat]
theorem before_9 (c : Dev nD) (t : Fin cfg2.N) (d) : (dat V c).before 9 t d = iblk V c 9 t :=
  ((dat V c).before_in_eq_fetched 9 rfl (fun _ => rfl) (fun _ _ _ => rfl)
    (fun t => by rw [after_9]; unfold Dat.blockOf iblk; rw [A_eq]) t d).trans
    (by unfold Dat.fetched Dat.blockOf iblk; rw [A_eq]; try rfl)
theorem live_9 (t : Fin cfg2.N) : cfg2.idle 9 (grid2.coords t) = false := rfl
theorem after_10 (c : Dev nD) (t : Fin cfg2.N) : (dat V c).after 10 t = iblk V c 10 t := by dsimp only [dat]
theorem before_10 (c : Dev nD) (t : Fin cfg2.N) (d) : (dat V c).before 10 t d = iblk V c 10 t :=
  ((dat V c).before_in_eq_fetched 10 rfl (fun _ => rfl) (fun _ _ _ => rfl)
    (fun t => by rw [after_10]; unfold Dat.blockOf iblk; rw [A_eq]) t d).trans
    (by unfold Dat.fetched Dat.blockOf iblk; rw [A_eq]; try rfl)
theorem live_10 (t : Fin cfg2.N) : cfg2.idle 10 (grid2.coords t) = false := rfl
theorem after_11 (c : Dev nD) (t : Fin cfg2.N) : (dat V c).after 11 t = iblk V c 11 t := by dsimp only [dat]
theorem before_11 (c : Dev nD) (t : Fin cfg2.N) (d) : (dat V c).before 11 t d = iblk V c 11 t :=
  ((dat V c).before_in_eq_fetched 11 rfl (fun _ => rfl) (fun _ _ _ => rfl)
    (fun t => by rw [after_11]; unfold Dat.blockOf iblk; rw [A_eq]) t d).trans
    (by unfold Dat.fetched Dat.blockOf iblk; rw [A_eq]; try rfl)
theorem live_11 (t : Fin cfg2.N) : cfg2.idle 11 (grid2.coords t) = false := rfl
theorem after_12 (c : Dev nD) (t : Fin cfg2.N) : (dat V c).after 12 t = iblk V c 12 t := by dsimp only [dat]
theorem before_12 (c : Dev nD) (t : Fin cfg2.N) (d) : (dat V c).before 12 t d = iblk V c 12 t :=
  ((dat V c).before_in_eq_fetched 12 rfl (fun _ => rfl) (fun _ _ _ => rfl)
    (fun t => by rw [after_12]; unfold Dat.blockOf iblk; rw [A_eq]) t d).trans
    (by unfold Dat.fetched Dat.blockOf iblk; rw [A_eq]; try rfl)
theorem live_12 (t : Fin cfg2.N) : cfg2.idle 12 (grid2.coords t) = false := rfl
theorem after_13 (c : Dev nD) (t : Fin cfg2.N) : (dat V c).after 13 t = iblk V c 13 t := by dsimp only [dat]
theorem before_13 (c : Dev nD) (t : Fin cfg2.N) (d) : (dat V c).before 13 t d = iblk V c 13 t :=
  ((dat V c).before_in_eq_fetched 13 rfl (fun _ => rfl) (fun _ _ _ => rfl)
    (fun t => by rw [after_13]; unfold Dat.blockOf iblk; rw [A_eq]) t d).trans
    (by unfold Dat.fetched Dat.blockOf iblk; rw [A_eq]; try rfl)
theorem live_13 (t : Fin cfg2.N) : cfg2.idle 13 (grid2.coords t) = false := rfl

theorem idle_14 : ∀ t : Fin cfg2.N, ¬last (grid2.coords t) → cfg2.idle 14 (grid2.coords t) = true := by decide +kernel
theorem noFlush_14 : ∀ t : Fin cfg2.N, ¬last (grid2.coords t) → (cfg2.win 14).flush t = false := by decide +kernel
theorem live_14 : ∀ t : Fin cfg2.N, last (grid2.coords t) → cfg2.idle 14 (grid2.coords t) = false := by decide +kernel

/-! ## The body at a point -/

def bodyPre (c : Dev nD) (t : Fin cfg2.N) : sProp 𝕄 :=
  iprop((dat V c).Φ t.castSucc ∗ (dat V c).owesAt none t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d)))

def bodyPost (c : Dev nD) (t : Fin cfg2.N) : sProp 𝕄 :=
  iprop((dat V c).Φ t.succ ∗ (dat V c).owesAt none t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t)

theorem leaves_0 (c : Dev nD) (t : Fin cfg2.N) : (dat V c).leavesExact 0 t = owns (c : Thread nD τ) (st2_0 t) fullShare (iblk V c 0 t) := by
  unfold Dat.leavesExact; rw [live_0 t, after_0]
theorem leaves_1 (c : Dev nD) (t : Fin cfg2.N) : (dat V c).leavesExact 1 t = owns (c : Thread nD τ) (st2_1 t) fullShare (iblk V c 1 t) := by
  unfold Dat.leavesExact; rw [live_1 t, after_1]
theorem leaves_2 (c : Dev nD) (t : Fin cfg2.N) : (dat V c).leavesExact 2 t = owns (c : Thread nD τ) (st2_2 t) fullShare (iblk V c 2 t) := by
  unfold Dat.leavesExact; rw [live_2 t, after_2]
theorem leaves_3 (c : Dev nD) (t : Fin cfg2.N) : (dat V c).leavesExact 3 t = owns (c : Thread nD τ) (st2_3 t) fullShare (iblk V c 3 t) := by
  unfold Dat.leavesExact; rw [live_3 t, after_3]
theorem leaves_4 (c : Dev nD) (t : Fin cfg2.N) : (dat V c).leavesExact 4 t = owns (c : Thread nD τ) (st2_4 t) fullShare (iblk V c 4 t) := by
  unfold Dat.leavesExact; rw [live_4 t, after_4]
theorem leaves_5 (c : Dev nD) (t : Fin cfg2.N) : (dat V c).leavesExact 5 t = owns (c : Thread nD τ) (st2_5 t) fullShare (iblk V c 5 t) := by
  unfold Dat.leavesExact; rw [live_5 t, after_5]
theorem leaves_6 (c : Dev nD) (t : Fin cfg2.N) : (dat V c).leavesExact 6 t = owns (c : Thread nD τ) (st2_6 t) fullShare (iblk V c 6 t) := by
  unfold Dat.leavesExact; rw [live_6 t, after_6]
theorem leaves_7 (c : Dev nD) (t : Fin cfg2.N) : (dat V c).leavesExact 7 t = owns (c : Thread nD τ) (st2_7 t) fullShare (iblk V c 7 t) := by
  unfold Dat.leavesExact; rw [live_7 t, after_7]
theorem leaves_8 (c : Dev nD) (t : Fin cfg2.N) : (dat V c).leavesExact 8 t = owns (c : Thread nD τ) (st2_8 t) fullShare (iblk V c 8 t) := by
  unfold Dat.leavesExact; rw [live_8 t, after_8]
theorem leaves_9 (c : Dev nD) (t : Fin cfg2.N) : (dat V c).leavesExact 9 t = owns (c : Thread nD τ) (st2_9 t) fullShare (iblk V c 9 t) := by
  unfold Dat.leavesExact; rw [live_9 t, after_9]
theorem leaves_10 (c : Dev nD) (t : Fin cfg2.N) : (dat V c).leavesExact 10 t = owns (c : Thread nD τ) (st2_10 t) fullShare (iblk V c 10 t) := by
  unfold Dat.leavesExact; rw [live_10 t, after_10]
theorem leaves_11 (c : Dev nD) (t : Fin cfg2.N) : (dat V c).leavesExact 11 t = owns (c : Thread nD τ) (st2_11 t) fullShare (iblk V c 11 t) := by
  unfold Dat.leavesExact; rw [live_11 t, after_11]
theorem leaves_12 (c : Dev nD) (t : Fin cfg2.N) : (dat V c).leavesExact 12 t = owns (c : Thread nD τ) (st2_12 t) fullShare (iblk V c 12 t) := by
  unfold Dat.leavesExact; rw [live_12 t, after_12]
theorem leaves_13 (c : Dev nD) (t : Fin cfg2.N) : (dat V c).leavesExact 13 t = owns (c : Thread nD τ) (st2_13 t) fullShare (iblk V c 13 t) := by
  unfold Dat.leavesExact; rw [live_13 t, after_13]

theorem fw_succ (c : Dev nD) (t : Fin cfg2.N) : fw V c (t.val + 1)
    = stepF (iblk V c 4 t) (iblk V c 5 t) (iblk V c 6 t) (iblk V c 0 t) (iblk V c 2 t) (fw V c t.val) := by
  rw [iblk_4, iblk_5, iblk_6, iblk_0, iblk_2]; rfl
theorem bw_succ (c : Dev nD) (t : Fin cfg2.N) : bw V c (t.val + 1)
    = stepB (iblk V c 7 t) (iblk V c 8 t) (iblk V c 9 t) (iblk V c 1 t) (iblk V c 3 t) (bw V c t.val) := by
  rw [iblk_7, iblk_8, iblk_9, iblk_1, iblk_3]; rfl

set_option maxHeartbeats 3200000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13]
  rw [leaves_0, leaves_1, leaves_2, leaves_3, leaves_4, leaves_5, leaves_6, leaves_7, leaves_8, leaves_9, leaves_10, leaves_11, leaves_12, leaves_13]
  rw [show (dat V c).owesAt none t.succ = (dat V c).owesAt none t.castSucc from rfl, Φ_eq, Φ_eq, Fin.val_succ, Fin.val_castSucc]
  have hN : t.val < 200 := lt_of_lt_of_eq t.isLt N_2
  unfold Phi
  by_cases h1 : t.val % 200 = 199
  · have hl : last (grid2.coords t) := (last_iff t).mpr h1
    rw [show (dat V c).leavesExact 14 t = owns (c : Thread nD τ) (st2_14 t) fullShare (res V c) from by
      unfold Dat.leavesExact; rw [live_14 t hl, after_14]]
    rw [show res V c = head (stepF (iblk V c 4 t) (iblk V c 5 t) (iblk V c 6 t) (iblk V c 0 t) (iblk V c 2 t) (fw V c t.val)).1
        (stepB (iblk V c 7 t) (iblk V c 8 t) (iblk V c 9 t) (iblk V c 1 t) (iblk V c 3 t) (bw V c t.val)).1
        (iblk V c 10 t) (iblk V c 11 t) (iblk V c 12 t) (iblk V c 13 t) from by
      rw [← fw_succ, ← bw_succ, iblk_10, iblk_11, iblk_12, iblk_13, show t.val + 1 = 200 by omega]; rfl]
    iintro ⟨⟨Hg, %s1, %s2, %s3, %s4, %hs, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain ⟨rfl, rfl, rfl, rfl⟩ := hs (by omega)
    iapply (body_last c (grid2.coords t) _ _ _ _ _ _ _ _ _ _ _ _ _ _ _ _ _ _ _ _ _ _ _ _ _ _ _ _ _ _ _ _ _ _ _ _ _ _ (fun h => absurd ((first_iff t).mp h) (by omega)) hl (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [S1]; · iexact S1
    isplitl [S2]; · iexact S2
    isplitl [S3]; · iexact S3
    isplitl [S4]; · iexact S4
    iintro ⟨H0, H1, H2, H3, H4, H5, H6, H7, H8, H9, H10, H11, H12, H13, H14, S1, S2, S3, S4⟩
    isplitl [Hg S1 S2 S3 S4]
    · isplitl [Hg]; · iexact Hg
      iexists _; iexists _; iexists _; iexists _
      isplitr
      swap
      · isplitl [S1]; · iexact S1
        isplitl [S2]; · iexact S2
        isplitl [S3]; · iexact S3
        iexact S4
      ipureintro
      intro _
      rw [fw_succ, bw_succ]
      exact ⟨rfl, rfl, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

  have hl : ¬ last (grid2.coords t) := fun h => h1 ((last_iff t).mp h)
  rw [Dat.leavesExact_idle (dat V c) 14 t (idle_14 t hl) (noFlush_14 t hl)]
  by_cases h0 : t.val % 200 = 0
  · iintro ⟨⟨Hg, %s1, %s2, %s3, %s4, -, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid2.coords t) _ _ _ _ _ _ _ _ _ _ _ _ _ _ _ _ _ _ _ _ _ _ _ _ _ _ _ _ _ _ _ _ _ _ _ _ _ _ ((first_iff t).mpr h0) hl (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S1]; · iexists _; iexact S1
    isplitl [S2]; · iexists _; iexact S2
    isplitl [S3]; · iexists _; iexact S3
    isplitl [S4]; · iexists _; iexact S4
    iintro ⟨H0, H1, H2, H3, H4, H5, H6, H7, H8, H9, H10, H11, H12, H13, H14, S1, S2, S3, S4⟩
    isplitl [Hg S1 S2 S3 S4]
    · isplitl [Hg]; · iexact Hg
      iexists _; iexists _; iexists _; iexists _
      isplitr
      swap
      · isplitl [S1]; · iexact S1
        isplitl [S2]; · iexact S2
        isplitl [S3]; · iexact S3
        iexact S4
      ipureintro
      intro _
      rw [fw_succ, bw_succ]
      rw [show t.val = 0 by omega]
      exact ⟨rfl, rfl, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

  · iintro ⟨⟨Hg, %s1, %s2, %s3, %s4, %hs, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain ⟨rfl, rfl, rfl, rfl⟩ := hs (by omega)
    iapply (body_mid c (grid2.coords t) _ _ _ _ _ _ _ _ _ _ _ _ _ _ _ _ _ _ _ _ _ _ _ _ _ _ _ _ _ _ _ _ _ _ _ _ _ _ (fun h => h0 ((first_iff t).mp h)) hl (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S1]; · iexact S1
    isplitl [S2]; · iexact S2
    isplitl [S3]; · iexact S3
    isplitl [S4]; · iexact S4
    iintro ⟨H0, H1, H2, H3, H4, H5, H6, H7, H8, H9, H10, H11, H12, H13, H14, S1, S2, S3, S4⟩
    isplitl [Hg S1 S2 S3 S4]
    · isplitl [Hg]; · iexact Hg
      iexists _; iexists _; iexists _; iexists _
      isplitr
      swap
      · isplitl [S1]; · iexact S1
        isplitl [S2]; · iexact S2
        isplitl [S3]; · iexact S3
        iexact S4
      ipureintro
      intro _
      rw [fw_succ, bw_succ]
      exact ⟨rfl, rfl, rfl, rfl⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

theorem defs₀_at (t : Fin cfg2.N) : defs₀ (F := F) .tc cfg2.body (cfg2.bodyArgs t (cfg2.slots t)) = bodyAt2 t := rfl

/-- The body obligation of the region. -/
theorem body_obligation (c : Dev nD) : BodyObligation (dat (F := F) V c) (defs₀ (F := F)) Variants.none none Set.univ := fun t => by
  rw [bigSep_W2, bigSep_W2, defs₀_at]
  exact triple_restated (sound_body V c t) rfl .rfl fun _ => .rfl

/-- The result array after the region. -/
theorem result (c : Dev nD) : (dat V c).arrAt 14 cfg2.N = res V c := by
  refine (dat V c).arrAt_eq_of_after_last 14 ⟨199, by rw [show cfg2.N = 200 from N_2]; decide⟩ (by decide +kernel) _ fun j => ?_
  rw [after_14, cast_eq]
  exact congrArg (res V c) (funext fun a => Fin.ext rfl)

end Cert.Proof.Rec

end
-- ==== Proof.Segs.lean ====
/-
  The host operations around the three device calls, and the two TensorCore calls as segments of the program.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import proofs.«01_k».proof.Proof.Stats
public import proofs.«01_k».proof.Proof.Rec
public import Idealize.ShloMosaic.Lib.Pipeline.RegionsOwned
public import Idealize.ShloMosaic.Lib.Pipeline.RegionArrays

@[expose] public section

set_option maxRecDepth 16384

noncomputable section

namespace Cert.Proof.Segs

open Cert.KernelIdeal Cert.KernelIdeal.Gen Cert.Proof.Gather
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ
/-- 2 host operations, in order. -/
abbrev hostA : List (HloOp τ sig (Elt F)) :=
  [ StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
    StableHlo.reshape main_v0 main_v1 (rfl : (.i32 : EltTy) = .i32) shapeCasts_S200x1024_S204800 ]
theorem hostA_sub : (hostA : List (HloOp τ sig (Elt F))).Forall fun op => op.bufs ⊆ StableHlo.tcRefs τ sig :=
  ⟨StableHlo.unary_bufs_sub .., StableHlo.reshape_bufs_sub ..⟩
theorem hostA_fresh : (hostA : List (HloOp τ sig (Elt F))).Forall fun op => op.fresh = ∅ :=
  StableHlo.forall_fresh_of_map rfl
/-- What `hostA` writes. -/
abbrev hostA_W : List (Ref sig .tc) := [main_v0, main_v1]
theorem hostA_writes : (hostA : List (HloOp τ sig (Elt F))).Forall fun op => op.writes ⊆ (hostA_W.map (Proc.devRef (τ := τ) .tc)).toFinset :=
  StableHlo.forall_writes_sub_of_map rfl

/-- 41 host operations, in order. -/
abbrev hostB : List (HloOp τ sig (Elt F)) :=
  [ StableHlo.unary main_v3 main_v4 ((extractStridedSlice S1x128 ![0, 0] · slices_S2x128_S1x128_0_0) : (⟨S2x128, .f32⟩ : BufTy).Contents (Elt F) → (⟨S1x128, .f32⟩ : BufTy).Contents (Elt F)),
    StableHlo.reshape main_v4 main_v5 (rfl : (.f32 : EltTy) = .f32) shapeCasts_S1x128_S128,
    StableHlo.nullary main_cst (constant S_ .f32 0x48480000#32),
    StableHlo.unary main_cst main_v6 (broadcastInDim S128 ![] bcast_S_S128 : (⟨S_, .f32⟩ : BufTy).Contents (Elt F) → (⟨S128, .f32⟩ : BufTy).Contents (Elt F)),
    StableHlo.binary main_v5 main_v6 main_v7 (Host.divf : (⟨S128, .f32⟩ : BufTy).Contents (Elt F) → (⟨S128, .f32⟩ : BufTy).Contents (Elt F) → (⟨S128, .f32⟩ : BufTy).Contents (Elt F)),
    StableHlo.unary main_v3 main_v8 ((extractStridedSlice S1x128 ![1, 0] · slices_S2x128_S1x128_1_0) : (⟨S2x128, .f32⟩ : BufTy).Contents (Elt F) → (⟨S1x128, .f32⟩ : BufTy).Contents (Elt F)),
    StableHlo.reshape main_v8 main_v9 (rfl : (.f32 : EltTy) = .f32) shapeCasts_S1x128_S128,
    StableHlo.nullary main_cst_0 (constant S_ .f32 0x48480000#32),
    StableHlo.unary main_cst_0 main_v10 (broadcastInDim S128 ![] bcast_S_S128 : (⟨S_, .f32⟩ : BufTy).Contents (Elt F) → (⟨S128, .f32⟩ : BufTy).Contents (Elt F)),
    StableHlo.binary main_v9 main_v10 main_v11 (Host.divf : (⟨S128, .f32⟩ : BufTy).Contents (Elt F) → (⟨S128, .f32⟩ : BufTy).Contents (Elt F) → (⟨S128, .f32⟩ : BufTy).Contents (Elt F)),
    StableHlo.binary main_v7 main_v7 main_v12 (mulf : (⟨S128, .f32⟩ : BufTy).Contents (Elt F) → (⟨S128, .f32⟩ : BufTy).Contents (Elt F) → (⟨S128, .f32⟩ : BufTy).Contents (Elt F)),
    StableHlo.binary main_v11 main_v12 main_v13 (subf : (⟨S128, .f32⟩ : BufTy).Contents (Elt F) → (⟨S128, .f32⟩ : BufTy).Contents (Elt F) → (⟨S128, .f32⟩ : BufTy).Contents (Elt F)),
    StableHlo.nullary main_cst_1 (constant S_ .f32 0x3A83126F#32),
    StableHlo.unary main_cst_1 main_v14 (broadcastInDim S128 ![] bcast_S_S128 : (⟨S_, .f32⟩ : BufTy).Contents (Elt F) → (⟨S128, .f32⟩ : BufTy).Contents (Elt F)),
    StableHlo.binary main_v13 main_v14 main_v15 (addf : (⟨S128, .f32⟩ : BufTy).Contents (Elt F) → (⟨S128, .f32⟩ : BufTy).Contents (Elt F) → (⟨S128, .f32⟩ : BufTy).Contents (Elt F)),
    StableHlo.unary main_v15 main_v16 (Host.rsqrt : (⟨S128, .f32⟩ : BufTy).Contents (Elt F) → (⟨S128, .f32⟩ : BufTy).Contents (Elt F)),
    StableHlo.binary main_arg2 main_v16 main_v17 (mulf : (⟨S128, .f32⟩ : BufTy).Contents (Elt F) → (⟨S128, .f32⟩ : BufTy).Contents (Elt F) → (⟨S128, .f32⟩ : BufTy).Contents (Elt F)),
    StableHlo.binary main_v7 main_v17 main_v18 (mulf : (⟨S128, .f32⟩ : BufTy).Contents (Elt F) → (⟨S128, .f32⟩ : BufTy).Contents (Elt F) → (⟨S128, .f32⟩ : BufTy).Contents (Elt F)),
    StableHlo.binary main_arg3 main_v18 main_v19 (subf : (⟨S128, .f32⟩ : BufTy).Contents (Elt F) → (⟨S128, .f32⟩ : BufTy).Contents (Elt F) → (⟨S128, .f32⟩ : BufTy).Contents (Elt F)),
    StableHlo.unary main_v17 main_v20 (broadcastInDim S128x1 ![0] bcast_S128_S128x1_0 : (⟨S128, .f32⟩ : BufTy).Contents (Elt F) → (⟨S128x1, .f32⟩ : BufTy).Contents (Elt F)),
    StableHlo.unary main_v20 main_v21 (broadcastInDim S128x1024 ![0, 1] bcast_S128x1_S128x1024_0_1 : (⟨S128x1, .f32⟩ : BufTy).Contents (Elt F) → (⟨S128x1024, .f32⟩ : BufTy).Contents (Elt F)),
    StableHlo.binary main_v21 main_arg4 main_v22 (mulf : (⟨S128x1024, .f32⟩ : BufTy).Contents (Elt F) → (⟨S128x1024, .f32⟩ : BufTy).Contents (Elt F) → (⟨S128x1024, .f32⟩ : BufTy).Contents (Elt F)),
    StableHlo.unary main_v17 main_v23 (broadcastInDim S128x1 ![0] bcast_S128_S128x1_0 : (⟨S128, .f32⟩ : BufTy).Contents (Elt F) → (⟨S128x1, .f32⟩ : BufTy).Contents (Elt F)),
    StableHlo.unary main_v23 main_v24 (broadcastInDim S128x1024 ![0, 1] bcast_S128x1_S128x1024_0_1 : (⟨S128x1, .f32⟩ : BufTy).Contents (Elt F) → (⟨S128x1024, .f32⟩ : BufTy).Contents (Elt F)),
    StableHlo.binary main_v24 main_arg7 main_v25 (mulf : (⟨S128x1024, .f32⟩ : BufTy).Contents (Elt F) → (⟨S128x1024, .f32⟩ : BufTy).Contents (Elt F) → (⟨S128x1024, .f32⟩ : BufTy).Contents (Elt F)),
    StableHlo.binary main_v19 main_arg4 main_v26 ((fun l r => Host.dotGeneral dot_S128_S128x1024_S1024_0_0_n_1_n_n none l r) : (⟨S128, .f32⟩ : BufTy).Contents (Elt F) → (⟨S128x1024, .f32⟩ : BufTy).Contents (Elt F) → (⟨S1024, .f32⟩ : BufTy).Contents (Elt F)),
    StableHlo.binary main_v26 main_arg6 main_v27 (addf : (⟨S1024, .f32⟩ : BufTy).Contents (Elt F) → (⟨S1024, .f32⟩ : BufTy).Contents (Elt F) → (⟨S1024, .f32⟩ : BufTy).Contents (Elt F)),
    StableHlo.unary main_v27 main_v28 (broadcastInDim S1x1024 ![1] bcast_S1024_S1x1024_1 : (⟨S1024, .f32⟩ : BufTy).Contents (Elt F) → (⟨S1x1024, .f32⟩ : BufTy).Contents (Elt F)),
    StableHlo.binary main_v19 main_arg7 main_v29 ((fun l r => Host.dotGeneral dot_S128_S128x1024_S1024_0_0_n_1_n_n none l r) : (⟨S128, .f32⟩ : BufTy).Contents (Elt F) → (⟨S128x1024, .f32⟩ : BufTy).Contents (Elt F) → (⟨S1024, .f32⟩ : BufTy).Contents (Elt F)),
    StableHlo.binary main_v29 main_arg9 main_v30 (addf : (⟨S1024, .f32⟩ : BufTy).Contents (Elt F) → (⟨S1024, .f32⟩ : BufTy).Contents (Elt F) → (⟨S1024, .f32⟩ : BufTy).Contents (Elt F)),
    StableHlo.unary main_v30 main_v31 (broadcastInDim S1x1024 ![1] bcast_S1024_S1x1024_1 : (⟨S1024, .f32⟩ : BufTy).Contents (Elt F) → (⟨S1x1024, .f32⟩ : BufTy).Contents (Elt F)),
    StableHlo.reshape main_v2 main_v32 (rfl : (.f32 : EltTy) = .f32) shapeCasts_S204800x128_S200x1024x128,
    StableHlo.nullary main_c (constantI S_ 32 0#32),
    StableHlo.unary main_c main_v33 (broadcastInDim S1024x200 ![] bcast_S_S1024x200 : (⟨S_, .i32⟩ : BufTy).Contents (Elt F) → (⟨S1024x200, .i32⟩ : BufTy).Contents (Elt F)),
    StableHlo.binary main_arg0 main_v33 main_v34 (cmpi .ne : (⟨S1024x200, .i32⟩ : BufTy).Contents (Elt F) → (⟨S1024x200, .i32⟩ : BufTy).Contents (Elt F) → (⟨S1024x200, .i1⟩ : BufTy).Contents (Elt F)),
    StableHlo.unary main_v34 main_v35 (uitofp .f32 : (⟨S1024x200, .i1⟩ : BufTy).Contents (Elt F) → (⟨S1024x200, .f32⟩ : BufTy).Contents (Elt F)),
    StableHlo.unary main_v35 main_v36 ((transpose S200x1024 [1, 0] · transposes_S1024x200_S200x1024_1_0) : (⟨S1024x200, .f32⟩ : BufTy).Contents (Elt F) → (⟨S200x1024, .f32⟩ : BufTy).Contents (Elt F)),
    StableHlo.reshape main_v36 main_v37 (rfl : (.f32 : EltTy) = .f32) shapeCasts_S200x1024_S200x1024x1,
    StableHlo.unary main_arg10 main_v38 (broadcastInDim S1x512 ![1] bcast_S512_S1x512_1 : (⟨S512, .f32⟩ : BufTy).Contents (Elt F) → (⟨S1x512, .f32⟩ : BufTy).Contents (Elt F)),
    StableHlo.unary main_arg11 main_v39 (broadcastInDim S1x512 ![1] bcast_S512_S1x512_1 : (⟨S512, .f32⟩ : BufTy).Contents (Elt F) → (⟨S1x512, .f32⟩ : BufTy).Contents (Elt F)),
    StableHlo.unary main_arg13 main_v40 (broadcastInDim S1x64 ![1] bcast_S64_S1x64_1 : (⟨S64, .f32⟩ : BufTy).Contents (Elt F) → (⟨S1x64, .f32⟩ : BufTy).Contents (Elt F)) ]
theorem hostB_sub : (hostB : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.unary_bufs_sub ..⟩
theorem hostB_fresh : (hostB : List (HloOp τ sig (Elt F))).Forall fun op => op.fresh = ∅ :=
  StableHlo.forall_fresh_of_map rfl
/-- What `hostB` writes. -/
abbrev hostB_W : List (Ref sig .tc) := [main_v4, main_v5, main_cst, main_v6, main_v7, main_v8, main_v9, main_cst_0, main_v10, main_v11, main_v12, main_v13, main_cst_1, main_v14, main_v15, main_v16, main_v17, main_v18, main_v19, main_v20, main_v21, main_v22, main_v23, main_v24, main_v25, main_v26, main_v27, main_v28, main_v29, main_v30, main_v31, main_v32, main_c, main_v33, main_v34, main_v35, main_v36, main_v37, main_v38, main_v39, main_v40]
theorem hostB_writes : (hostB : List (HloOp τ sig (Elt F))).Forall fun op => op.writes ⊆ (hostB_W.map (Proc.devRef (τ := τ) .tc)).toFinset :=
  StableHlo.forall_writes_sub_of_map rfl

/-- The program: the two operations before the gather, the gather, then the TensorCore part. -/
theorem main_eq (d : Dev nD) : main (F := F) d
    = (StableHlo.seq hostA >>= fun _ => sc.run d 0 >>= fun _ => SparseCore.liftProg (Pipeline.chain
        [ (Prog.lift (.customCall (Pipeline.entry 0) ()) : Prog (TpuEff nD τ sig (Elt F) (ΛP (F := F)) .tc) PUnit),
          StableHlo.seq hostB,
          Prog.lift (.customCall (Pipeline.entry 1) ()) ])) := by
  chain_rfl

/-! ## The two regions -/

abbrev adm : (p : Fin 2) → (pcfgs (F := F) p).Adm := fun p => (cfgs p).toPCfg_adm

variable (VG VH : (c : Dev nD) → Valuation τ sig (Elt F))

/-- A valuation read at the TensorCore's references. -/
abbrev vals (V : (c : Dev nD) → Valuation τ sig (Elt F)) : Stats.Vals F := fun c b => V c (Proc.devRef .tc b)

abbrev pdats : (p : Fin 2) → (c : Dev nD) → Dat τ (Elt F) (HIx 1) ℕ UU ℕ (cfgs p) c
  | 0 => fun c => Stats.dat (vals VG) c
  | 1 => fun c => Rec.dat (vals VH) c

/-- What is recorded of the waits, and nothing owed. -/
def owing (c : Dev nD) : sProp 𝕄 :=
  iprop(∃ W, ⌜(K (F := F)).WBelow (SparseCore.T c) W 8⌝ ∗ owes (SparseCore.T c) (0 : CellTallies nD τ sig (HIx 1)) W)

/-- The unscoped buffers at `V` and `owing`. -/
def st (V : (c : Dev nD) → Valuation τ sig (Elt F)) (c : Dev nD) : sProp 𝕄 :=
  iprop(StableHlo.held (c : Thread nD τ) (Pipeline.ucRefs τ sig) (V c) ∗ owing (F := F) c)

/-- The buffers after the statistics. -/
abbrev VS (c : Dev nD) : Valuation τ sig (Elt F) :=
  Function.update (VG c) (Proc.devRef .tc main_v3) (Stats.acc (vals VG c main_v2) 49)
/-- The buffers after the recurrence. -/
abbrev VF (c : Dev nD) : Valuation τ sig (Elt F) :=
  Function.update (VH c) (Proc.devRef .tc main_v41) (Rec.res (vals VH) c)

theorem owing_low (c : Dev nD) (W : Waits sig (HIx 1)) :
    (K (F := F)).WBelow (SparseCore.T c) W 8 ↔ (↑W : Set (SemLoc sig × HIx 1)) ⊆ Stats.low (F := F) c := Iff.rfl

theorem mem_v3 : main_v3 ∈ Finset.univ.image (Pipeline.arrRef spec1) := Finset.mem_image.mpr ⟨1, Finset.mem_univ _, rfl⟩
theorem mem_v41 : main_v41 ∈ Finset.univ.image (Pipeline.arrRef spec2) := Finset.mem_image.mpr ⟨14, Finset.mem_univ _, rfl⟩

theorem VS_of (c : Dev nD) (r : Ref sig .tc) (h : r ≠ main_v3) : vals (VS VG) c r = vals VG c r :=
  Function.update_of_ne (StableHlo.devRef_ne_of_ne h) _ _
theorem VS_self (c : Dev nD) : vals (VS VG) c main_v3 = Stats.acc (vals VG c main_v2) 49 := Function.update_self _ _ _
theorem VF_of (c : Dev nD) (r : Ref sig .tc) (h : r ≠ main_v41) : vals (VF VH) c r = vals VH c r :=
  Function.update_of_ne (StableHlo.devRef_ne_of_ne h) _ _
theorem VF_self (c : Dev nD) : vals (VF VH) c main_v41 = Rec.res (vals VH) c := Function.update_self _ _ _

theorem exit0 (c : Dev nD) : ∀ w : Fin cfg1.W, (Stats.dat (vals VG) c).arrAt w cfg1.N = vals (VS VG) c (Pipeline.arrRef spec1 w)
  | ⟨0, _⟩ => ((Stats.dat (vals VG) c).arrAt_in 0 rfl _).trans ((Stats.A_eq (vals VG) c 0).trans (VS_of VG c main_v2 (by decide)).symm)
  | ⟨1, _⟩ => (Stats.result (vals VG) c).trans (VS_self VG c).symm

set_option maxHeartbeats 2000000 in
theorem exit1 (c : Dev nD) : ∀ w : Fin cfg2.W, (Rec.dat (vals VH) c).arrAt w cfg2.N = vals (VF VH) c (Pipeline.arrRef spec2 w)
  | ⟨0, _⟩ => ((Rec.dat (vals VH) c).arrAt_in 0 rfl _).trans ((Rec.A_eq (vals VH) c 0).trans (VF_of VH c main_v32 (by decide)).symm)
  | ⟨1, _⟩ => ((Rec.dat (vals VH) c).arrAt_in 1 rfl _).trans ((Rec.A_eq (vals VH) c 1).trans (VF_of VH c main_v32 (by decide)).symm)
  | ⟨2, _⟩ => ((Rec.dat (vals VH) c).arrAt_in 2 rfl _).trans ((Rec.A_eq (vals VH) c 2).trans (VF_of VH c main_v37 (by decide)).symm)
  | ⟨3, _⟩ => ((Rec.dat (vals VH) c).arrAt_in 3 rfl _).trans ((Rec.A_eq (vals VH) c 3).trans (VF_of VH c main_v37 (by decide)).symm)
  | ⟨4, _⟩ => ((Rec.dat (vals VH) c).arrAt_in 4 rfl _).trans ((Rec.A_eq (vals VH) c 4).trans (VF_of VH c main_v22 (by decide)).symm)
  | ⟨5, _⟩ => ((Rec.dat (vals VH) c).arrAt_in 5 rfl _).trans ((Rec.A_eq (vals VH) c 5).trans (VF_of VH c main_arg5 (by decide)).symm)
  | ⟨6, _⟩ => ((Rec.dat (vals VH) c).arrAt_in 6 rfl _).trans ((Rec.A_eq (vals VH) c 6).trans (VF_of VH c main_v28 (by decide)).symm)
  | ⟨7, _⟩ => ((Rec.dat (vals VH) c).arrAt_in 7 rfl _).trans ((Rec.A_eq (vals VH) c 7).trans (VF_of VH c main_v25 (by decide)).symm)
  | ⟨8, _⟩ => ((Rec.dat (vals VH) c).arrAt_in 8 rfl _).trans ((Rec.A_eq (vals VH) c 8).trans (VF_of VH c main_arg8 (by decide)).symm)
  | ⟨9, _⟩ => ((Rec.dat (vals VH) c).arrAt_in 9 rfl _).trans ((Rec.A_eq (vals VH) c 9).trans (VF_of VH c main_v31 (by decide)).symm)
  | ⟨10, _⟩ => ((Rec.dat (vals VH) c).arrAt_in 10 rfl _).trans ((Rec.A_eq (vals VH) c 10).trans (VF_of VH c main_v38 (by decide)).symm)
  | ⟨11, _⟩ => ((Rec.dat (vals VH) c).arrAt_in 11 rfl _).trans ((Rec.A_eq (vals VH) c 11).trans (VF_of VH c main_v39 (by decide)).symm)
  | ⟨12, _⟩ => ((Rec.dat (vals VH) c).arrAt_in 12 rfl _).trans ((Rec.A_eq (vals VH) c 12).trans (VF_of VH c main_arg12 (by decide)).symm)
  | ⟨13, _⟩ => ((Rec.dat (vals VH) c).arrAt_in 13 rfl _).trans ((Rec.A_eq (vals VH) c 13).trans (VF_of VH c main_v40 (by decide)).symm)
  | ⟨14, _⟩ => (Rec.result (vals VH) c).trans (VF_self VH c).symm

theorem rest0 (c : Dev nD) (b : Ref sig .tc) (hb : b ∉ Finset.univ.image (Pipeline.arrRef spec1)) : vals (VS VG) c b = vals VG c b :=
  VS_of VG c b fun h => hb (h ▸ mem_v3)
theorem rest1 (c : Dev nD) (b : Ref sig .tc) (hb : b ∉ Finset.univ.image (Pipeline.arrRef spec2)) : vals (VF VH) c b = vals VH c b :=
  VF_of VH c b fun h => hb (h ▸ mem_v41)

/-- The region of the column sums. -/
def R0 : Pipeline.RegionSeg (pcfgs (F := F)) adm (pdats VG VH) none defs₀ 𝒱₀ (K (F := F)).L (K (F := F)).lev 0 where
  win := launch1.win.to₀
  block_pos := block_pos1
  stage_whole := stage_whole1
  K := PEmpty
  osem k := k.elim
  ho := Pipeline.OwnSemFacts.none _
  hbody c := (Stats.body_obligation (vals VG) c).loose
  hwaits := Pipeline.hwaits_of_owed_zero _ _ _ _ _ _ 0 fun _ _ => rfl
  pre c := st VG c
  post c := st (VS VG) c
  X _ := iprop(emp)
  Y _ := iprop(emp)
  Z c := Pipeline.unscopedRest spec1 c (vals VG c)
  hentry c := by
    rw [Pipeline.ownSems0_none, Pipeline.prefHeld_of_none _ rfl]
    unfold st owing
    rw [← Pipeline.unscopedBufs_held]
    iintro ⟨⟨Hb, HO⟩, -, -⟩
    imodintro
    ihave H := (Pipeline.arrays_of_unscopedBufs (pcfgs (F := F)) adm (pdats VG VH) (p := 0) winFacts1 arr_whole1 c
      (fun w => by match w with | ⟨0, _⟩ => rfl | ⟨1, _⟩ => rfl) (vals VG c) (fun w => Stats.A_eq (vals VG) c w)) $$ Hb
    icases H with ⟨Ha, Hr⟩
    isplitl [Ha]; · iexact Ha
    isplitr; · iempintro
    isplitl [HO]
    · unfold Dat.owesAt Pipeline.owesWithin Dat.bound
      icases HO with ⟨%W, %hW, HO⟩; iexists W; isplitr
      · ipureintro; exact fun p hp => Or.inl (hW p hp)
      iexact HO
    isplitr; · iempintro
    iexact Hr
  hin c := by
    rw [Pipeline.prefHeld_of_none _ rfl]
    refine (show _ ⊢ (Pipeline.scopedRest spec1 c : sProp 𝕄) from ?_)
    iintro ⟨-, -, H⟩; iexact H
  hout c := by
    rw [Pipeline.ownSems0_none]
    refine (show (Pipeline.scopedRest spec1 c : sProp 𝕄) ⊢ _ from ?_)
    iintro H
    isplitr; · iempintro
    isplitr; · iempintro
    iexact H
  hexit c := by
    unfold st owing
    rw [← Pipeline.unscopedBufs_held]
    iintro ⟨Ha, HO, -, Hr⟩
    imodintro
    isplitl [Ha Hr]
    · iapply (Pipeline.unscopedBufs_of_arrays (pcfgs (F := F)) adm (p := 0) winFacts1 arr_whole1 c (pdats VG VH)
        (fun w => by match w with | ⟨0, _⟩ => rfl | ⟨1, _⟩ => rfl) (vals VG c) (vals (VS VG) c)
        ((Stats.dat (vals VG) c).arrAt · cfg1.N) (exit0 VG c) (rest0 VG c)) $$ [Ha Hr]
      isplitl [Ha] <;> iassumption
    · unfold Dat.owesAt Pipeline.owesWithin Dat.bound
      icases HO with ⟨%W, %hW, HO⟩; iexists W; isplitr
      · ipureintro
        intro p hp
        rcases hW hp with h | h
        · exact h
        · obtain ⟨_, _, rfl⟩ := h
          exact Nat.zero_le _
      iexact HO

/-- The region of the recurrence. -/
def R1 : Pipeline.RegionSeg (pcfgs (F := F)) adm (pdats VG VH) none defs₀ 𝒱₀ (K (F := F)).L (K (F := F)).lev 1 where
  win := launch₀2.win
  block_pos := block_pos2
  stage_whole := stage_whole2
  K := PEmpty
  osem k := k.elim
  ho := Pipeline.OwnSemFacts.none _
  hbody c := (Rec.body_obligation (vals VH) c).loose
  hwaits := Pipeline.hwaits_of_owed_zero _ _ _ _ _ _ 1 fun _ _ => rfl
  pre c := st VH c
  post c := st (VF VH) c
  X _ := iprop(emp)
  Y _ := iprop(emp)
  Z c := Pipeline.unscopedRest spec2 c (vals VH c)
  hentry c := by
    rw [Pipeline.ownSems0_none, Pipeline.prefHeld_of_none _ rfl]
    unfold st owing
    rw [← Pipeline.unscopedBufs_held]
    iintro ⟨⟨Hb, HO⟩, -, -⟩
    imodintro
    ihave H := (Pipeline.arrays_of_unscopedBufs_shared (pcfgs (F := F)) adm (pdats VG VH) (p := 1) winFacts₀2 sharedIn2 arr_whole2 c
      (fun w _ => Rec.q_eq (vals VH) c w) (vals VH c) (fun w => Rec.A_eq (vals VH) c w)) $$ Hb
    icases H with ⟨Ha, Hr⟩
    isplitl [Ha]; · iexact Ha
    isplitr; · iempintro
    isplitl [HO]
    · unfold Dat.owesAt Pipeline.owesWithin Dat.bound
      icases HO with ⟨%W, %hW, HO⟩; iexists W; isplitr
      · ipureintro; exact fun p hp => Or.inl (hW p hp)
      iexact HO
    isplitr; · iempintro
    iexact Hr
  hin c := by
    rw [Pipeline.prefHeld_of_none _ rfl]
    refine (show _ ⊢ (Pipeline.scopedRest spec2 c : sProp 𝕄) from ?_).trans (Rec.Phi_in (vals VH) c)
    iintro ⟨-, -, H⟩; iexact H
  hout c := by
    rw [Pipeline.ownSems0_none]
    refine (show _ ⊢ (Pipeline.scopedRest spec2 c : sProp 𝕄) from Rec.Phi_out (vals VH) c _).trans ?_
    iintro H
    isplitr; · iempintro
    isplitr; · iempintro
    iexact H
  hexit c := by
    unfold st owing
    rw [← Pipeline.unscopedBufs_held]
    iintro ⟨Ha, HO, -, Hr⟩
    imodintro
    isplitl [Ha Hr]
    · iapply (Pipeline.unscopedBufs_of_arrays_shared (pcfgs (F := F)) adm (p := 1) winFacts₀2 sharedIn2 arr_whole2 c (pdats VG VH)
        (fun w _ => Rec.q_eq (vals VH) c w) (vals VH c) (vals (VF VH) c)
        ((Rec.dat (vals VH) c).arrAt · cfg2.N) (exit1 VH c) (rest1 VH c)) $$ [Ha Hr]
      isplitl [Ha] <;> iassumption
    · unfold Dat.owesAt Pipeline.owesWithin Dat.bound
      icases HO with ⟨%W, %hW, HO⟩; iexists W; isplitr
      · ipureintro
        intro p hp
        rcases hW hp with h | h
        · exact h
        · obtain ⟨_, _, rfl⟩ := h
          exact Nat.zero_le _
      iexact HO

/-- The operations between the two regions. -/
def H1 : Pipeline.HostSeg (pcfgs (F := F)) defs₀ 𝒱₀ (K (F := F)).L (K (F := F)).lev (Name := ℕ) (U := UU) (Ix := HIx 1) :=
  Pipeline.HostSeg.ofOps _ _ _ _ _ (Pipeline.ucRefs τ sig) hostB
    (fun op h => Pipeline.sub_ucRefs op ((List.forall_iff_forall_mem.mp hostB_sub) op h))
    (fun op h => (List.forall_iff_forall_mem.mp hostB_fresh) op h) (VS VG) (owing (F := F))

/-- The TensorCore part. -/
abbrev segs : List (Pipeline.Seg (pcfgs (F := F)) adm (pdats VG VH) none defs₀ 𝒱₀ (K (F := F)).L (K (F := F)).lev) :=
  [.region (R0 VG VH), .host (H1 VG), .region (R1 VG VH)]

theorem wp_tail [∀ e, Nonempty (Elt F e)] (hVH : ∀ c, VH c = StableHlo.after hostB (VS VG c)) (c : Dev nD) {Q : PUnit → sProp 𝕄} :
    iprop((iprop(boundary (c : Thread nD τ) ∗ st (VF VH) c) -∗ Q ⟨⟩)
        ∗ boundary (c : Thread nD τ) ∗ st VG c ∗ levAts (K (F := F)).L (K (F := F)).lev ∗ Pipeline.ghostOn (pcfgs (F := F)) adm EP Finset.univ c)
      ⊢ wp frame (wpE (Pipeline.defs (pcfgs (F := F)) defs₀) 𝒱₀.lift (c : Thread nD τ) none) Set.univ (Pipeline.chain
        [ (Prog.lift (.customCall (Pipeline.entry 0) ()) : Prog (TpuEff nD τ sig (Elt F) (ΛP (F := F)) .tc) PUnit),
          StableHlo.seq hostB,
          Prog.lift (.customCall (Pipeline.entry 1) ()) ]) Q := by
  have h := Pipeline.wp_segs (pcfgs (F := F)) adm (pdats VG VH) none cellOf_inj EP defs₀ 𝒱₀ (K (F := F)).L (K (F := F)).lev c (Q := Q)
    (segs VG VH) Finset.univ (st VG) (st (VF VH))
    (by simp only [segs, Pipeline.Seg.pipes_host, Pipeline.Seg.pipes_region, Pipeline.Seg.pipes_nil]; decide)
    (fun _ _ => Finset.mem_univ _)
    ⟨fun _ => .rfl, fun _ => .rfl, fun d => by
      refine (show iprop(StableHlo.held (d : Thread nD τ) (Pipeline.ucRefs τ sig) (StableHlo.after hostB (VS VG d)) ∗ owing (F := F) d) ⊢ st VH d from ?_)
      unfold st; rw [hVH d], fun _ => .rfl⟩
  rw [Pipeline.Seg.run_eq_chain, show (segs VG VH).map Pipeline.Seg.prog = [
      (Prog.lift (.customCall (Pipeline.entry 0) ()) : Prog (TpuEff nD τ sig (Elt F) (ΛP (F := F)) .tc) PUnit),
      StableHlo.seq hostB,
      Prog.lift (.customCall (Pipeline.entry 1) ()) ] from rfl] at h
  exact h

end Cert.Proof.Segs

end
-- ==== Proof.Main.lean ====
/-
  The whole program: the operations before the gather, the gather on the SparseCores, and the TensorCore part; what
  every buffer holds at the end.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import proofs.«01_k».proof.Proof.Segs
public import Idealize.ShloMosaic.Lib.SparseCore.Quiescent

@[expose] public section

set_option maxRecDepth 16384

noncomputable section

namespace Cert.Proof.Main

open Cert.KernelIdeal Cert.KernelIdeal.Gen Cert.Proof.Gather Cert.Proof.Segs
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers at the start, -/
abbrev V0 (c : Dev nD) : Valuation τ sig (Elt F) := fun b => m (c, b)
/-- before the gather, -/
abbrev VA (c : Dev nD) : Valuation τ sig (Elt F) := StableHlo.after hostA (V0 m c)
/-- after it, -/
abbrev VG (c : Dev nD) : Valuation τ sig (Elt F) :=
  Function.update (VA m c) (Proc.devRef .tc main_v2) (gath (vals (VA m) c main_arg1) (vals (VA m) c main_v1))
/-- before the recurrence, -/
abbrev VH (c : Dev nD) : Valuation τ sig (Elt F) := StableHlo.after hostB (VS (VG m) c)
/-- and at the end. -/
abbrev VE (c : Dev nD) : Valuation τ sig (Elt F) := VF (VH m) c

/-- The table, the row numbers and the rows' buffer as the gather finds them. -/
abbrev xs (d : Dev nD) : Buf (Elt F) (xLoc d) := vals (VA m) d main_arg1
abbrev ixs (d : Dev nD) : Buf (Elt F) (iLoc d) := vals (VA m) d main_v1
abbrev os (d : Dev nD) : Buf (Elt F) (oLoc d) := vals (VA m) d main_v2

abbrev PP : (K (F := F)).Pay (nD := nD) (Val := Elt F) (Name := ℕ) (U := UU) := P (xs m) (ixs m) (os m)

abbrev G (d : Dev nD) : sProp 𝕄 := Pipeline.ghostOn (pcfgs (F := F)) adm EP Finset.univ d

/-- The three buffers of the gather. -/
abbrev trio : Finset (Ref sig .tc) := {main_arg1, main_v1, main_v2}

theorem trio_sub : trio ⊆ Finset.univ.filter fun b : Ref sig .tc => ¬ b.isScoped := by decide

theorem take_trio (c : Dev nD) (V : (b : Ref sig .tc) → Buf (Elt F) ((c.tc : Thread nD τ).loc b)) :
    (unscopedBufs c V : sProp 𝕄)
      = iprop(((xLoc c ↦{fullShare} V main_arg1) ∗ (iLoc c ↦{fullShare} V main_v1) ∗ oLoc c ↦{fullShare} V main_v2)
          ∗ Pipeline.unscopedBufsBut trio c V) := by
  rw [Pipeline.unscopedBufs_sdiff trio trio_sub c V, SparseCore.bigSep_insert' (by decide), SparseCore.bigSep_insert' (by decide), bigSep_singleton]

theorem rest_trio (c : Dev nD) :
    (Pipeline.unscopedBufsBut trio c (vals (VA m) c) : sProp 𝕄) = Pipeline.unscopedBufsBut trio c (vals (VG m) c) := by
  unfold Pipeline.unscopedBufsBut
  refine bigSep_congr fun b hb => ?_
  rw [show vals (VG m) c b = vals (VA m) c b from Function.update_of_ne (StableHlo.devRef_ne_of_ne fun h => (Finset.mem_sdiff.mp hb).2 (by rw [h]; decide)) _ _]

abbrev FIN (d : Dev nD) : sProp 𝕄 := StableHlo.held (d : Thread nD τ) (Pipeline.ucRefs τ sig) (VE m d)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, HG⟩
  ihave Hh := (Entails.of_eq (Pipeline.unscopedBufs_held d (V0 m d))) $$ Hbufs
  iapply (StableHlo.wp_seq (defs := (K (F := F)).defs (D (F := F))) 𝒱 none Set.univ d (Pipeline.ucRefs τ sig) _ hostA
    (fun op h => Pipeline.sub_ucRefs op ((List.forall_iff_forall_mem.mp hostA_sub) op h))
    (fun op h => (List.forall_iff_forall_mem.mp hostA_fresh) op h) (V0 m d)) $$ [Hb Hh]
  · isplitl [Hb] <;> iassumption
  iintro ⟨Hb, Hh⟩
  ihave Hbufs := (Entails.of_eq ((Pipeline.unscopedBufs_held d (VA m d)).symm.trans (take_trio d (vals (VA m) d)))) $$ Hh
  icases Hbufs with ⟨Htrio, Hrest⟩
  rw [wp_bind]
  iapply ((K (F := F)).wp_run (D (F := F)) 𝒱 (EH := EH) (P := PP m) κ d 0) $$ [Hst Htrio Hrest Hb Hts HG]
  isplitr; · iexact Hctx
  isplitl [Hst]; · iexact Hst
  isplitl [Htrio]
  · rw [st_eq]; iexact Htrio
  iintro ⟨Hst, Hdn⟩
  ihave Hdn' := (Entails.of_eq (dn_eq (xs m) (ixs m) (os m) d)) $$ Hdn
  unfold SparseCore.Cfg.tcSt
  icases Hst with ⟨⟨%W, %hW, HO⟩, Hst⟩
  iapply ((K (F := F)).wp_liftProg (D (F := F)) 𝒱 (SparseCore.T d) Set.univ none _ _)
  iapply (wp_tail (VG m) (VH m) (fun _ => rfl) d)
  ihave Hla := ((K (F := F)).ctx_levAts κ) $$ Hctx
  ihave Hbufs := (Entails.of_eq ((take_trio d (vals (VG m) d)).symm.trans (Pipeline.unscopedBufs_held d (VG m d)))) $$ [Hdn' Hrest]
  · isplitl [Hdn']
    · iapply (Entails.of_eq (show (Gather.held (xs m) (ixs m) d fullShare Finset.univ (out (xs m) (ixs m) d) : sProp 𝕄) = iprop((xLoc d ↦{fullShare} vals (VG m) d main_arg1) ∗ (iLoc d ↦{fullShare} vals (VG m) d main_v1) ∗ oLoc d ↦{fullShare} vals (VG m) d main_v2) from by
        rw [show vals (VG m) d main_arg1 = xs m d from Function.update_of_ne (StableHlo.devRef_ne_of_ne (by decide)) _ _,
          show vals (VG m) d main_v1 = ixs m d from Function.update_of_ne (StableHlo.devRef_ne_of_ne (by decide)) _ _,
          show vals (VG m) d main_v2 = out (xs m) (ixs m) d from Function.update_self _ _ _])) $$ Hdn'
    · iapply (Entails.of_eq (rest_trio m d)) $$ Hrest
  isplitl [Hst Hts]
  · iintro ⟨Hb, HF⟩
    unfold st owing
    icases HF with ⟨HF, ⟨%W', %hW', HO⟩⟩
    isplitl [Hst HO]
    · isplitl [HO]
      · iexists W'; isplitr
        · ipureintro; exact hW'
        · rw [(K (F := F)).Otc_end d le_rfl]; iexact HO
      · iexact Hst
    isplitl [HF]; · iexact HF
    isplitl [Hb] <;> iassumption
  isplitl [Hb]; · iexact Hb
  isplitl [Hbufs HO]
  · unfold st owing
    isplitl [Hbufs]; · iexact Hbufs
    iexists W; isplitr
    · ipureintro; exact hW
    · rw [show (K (F := F)).Otc d ((0 : Fin 1).val + 1) = (0 : CellTallies nD τ sig (HIx 1)) from (K (F := F)).Otc_end d le_rfl]; iexact HO
  isplitr [HG]; · iexact Hla
  iexact HG

/-! ## The launch -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

omit [FloatOps F] in
theorem u_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (u_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · iapply (Entails.of_eq (show iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => Pipeline.toksInit (Pipeline.pin (pcfgs (F := F)) adm) EP p c))
        = ((bigSep Finset.univ fun d : Dev nD => G (F := F) d) : sProp 𝕄) from by
      unfold G Pipeline.ghostOn
      rw [← bigSep_sep']
      exact bigSep_congr fun c _ => (bigSep_sep' _ _ _).symm)) $$ [Hg Ht]
    isplitl [Hg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The end -/

def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d : Thread nD τ).1, b)) (VE m d) s') $$ [Hh HSI]
  · isplitl [Hh] <;> iassumption
  icases Hr with ⟨%h, -⟩
  ipureintro; exact h

def QC : PUnit × MemSt nD τ sig (Elt F) → Prop := fun r =>
  (∀ (c : Dev nD) (b : Ref sig .tc), (Proc.devRef (τ := τ) .tc b).isScoped = false → r.2.mem ((c.tc : Thread nD τ).loc b) = VE m c (Proc.devRef .tc b))
    ∧ r.2.sem = fun _ => 0

/-- What the whole program leaves in memory. -/
theorem run_main [∀ e, Nonempty (Elt F e)] (hok : InRange (ixs m)) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (xs m) (ixs m) (os m) facts hok)
    (fun q _ => match q with | 0 => SparseCore.Cfg.VecSplit.of_plain (vecSplit (xs m) (ixs m) (os m)))
    m ρ main (fun d => G (F := F) d) (FIN m) (u₀ (F := F)) (sep_elim_left.trans (hu₀ m)) (hmain m ρ) (fq m) (hfin m) (QC m)
    (fun _ h hz => ⟨fun c b hb => h c (Proc.devRef .tc b) (Finset.mem_filter.mpr ⟨StableHlo.devRef_mem_tcRefs b, by rw [hb]; decide⟩), hz⟩)

/-! ## What is kept -/

theorem VA_of (c : Dev nD) (r : Ref sig .tc) (h : r ∉ hostA_W) : vals (VA m) c r = m (c, Proc.devRef .tc r) :=
  StableHlo.after_of_writes_sub hostA _ hostA_writes h
theorem VG_of (c : Dev nD) (r : Ref sig .tc) (h : r ≠ main_v2) : vals (VG m) c r = vals (VA m) c r :=
  Function.update_of_ne (StableHlo.devRef_ne_of_ne h) _ _
theorem VG_self (c : Dev nD) : vals (VG m) c main_v2 = gath (vals (VA m) c main_arg1) (vals (VA m) c main_v1) :=
  Function.update_self _ _ _
theorem VH_of (c : Dev nD) (r : Ref sig .tc) (h : r ∉ hostB_W) : vals (VH m) c r = vals (VS (VG m)) c r :=
  StableHlo.after_of_writes_sub hostB _ hostB_writes h

/-- A buffer nothing writes is as it was at the start. -/
theorem VE_of (c : Dev nD) (r : Ref sig .tc) (h : r ∉ hostA_W ++ [main_v2, main_v3, main_v41] ++ hostB_W) :
    vals (VE m) c r = m (c, Proc.devRef .tc r) := by
  have h1 := fun hh => h (List.mem_append_left _ (List.mem_append_left _ hh))
  have h2 : ∀ b ∈ [main_v2, main_v3, main_v41], r ≠ b := fun b hb e => h (List.mem_append_left _ (List.mem_append_right _ (e ▸ hb)))
  have h3 := fun hh => h (List.mem_append_right _ hh)
  exact (VF_of (VH m) c r (h2 _ (by decide))).trans ((VH_of m c r h3).trans ((VS_of (VG m) c r (h2 _ (by decide))).trans
    ((VG_of m c r (h2 _ (by decide))).trans (VA_of m c r h1))))

end Cert.Proof.Main

end
-- ==== Proof.Frames.lean ====
/-
  The row numbers lie in the table, by the precondition; the frames of the kernel.
-/
module

public import proofs.«01_k».proof.Proof.Gather
public import proofs.«01_k».proof.Proof.Gen.KernelIdeal.Points
public import proofs.«01_k».proof.Proof.Gen.KernelIdeal.Launch
public import Idealize.ShloMosaic.Lib.Pipeline.Frame
public import Idealize.ShloMosaic.Lib.Pipeline.Regions
public import Idealize.ShloMosaic.Lib.Pipeline.Value
public import Idealize.ShloMosaic.Lib.Pipeline.ValueKit
public import Idealize.ShloMosaic.Lib.VecWindow
public import proofs.«01_k».proof.Proof.Main
public import proofs.«01_k».proof.Defs
public import proofs.«01_k».proof.Proof.Gen.Kernel
public import proofs.«01_k».proof.Proof.Gen.Pre_in_vocab
public import proofs.«01_k».proof.Proof.Gen.Pre_in_vocab_finite

@[expose] public section

set_option maxRecDepth 16384

noncomputable section

namespace Cert.Proof.Frames

open Cert.KernelIdeal Cert.KernelIdeal.Gen Cert.Proof.Gather Cert.Proof.Segs Cert.Proof.Main
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-- The position in the tokens of the gather's row `r`: column `r / 1024` of sequence `r % 1024`. -/
def tokAt (r : ℕ) (h : r < 204800) : S1024x200.Idx :=
  ix2 ⟨r % 1024, Nat.mod_lt _ (by decide)⟩ ⟨r / 1024, by show r / 1024 < 200; omega⟩

theorem v1_eq (c : Dev nD) : vals (VA m) c main_v1
    = (shapeCast S204800 (transpose S200x1024 [1, 0] (m (c, Proc.devRef .tc main_arg0) : IVec S1024x200 32) transposes_S1024x200_S200x1024_1_0) shapeCasts_S200x1024_S204800 : IVec S204800 32) := by
  show StableHlo.after hostA (V0 m c) (Proc.devRef .tc main_v1) = _
  after_results
  rfl

theorem ixs_apply (c : Dev nD) (j : S204800.Idx) : ixs m c j = (m (c, Proc.devRef .tc main_arg0) : IVec S1024x200 32) (tokAt (j 0).val (j 0).isLt) := by
  have h := congrFun (v1_eq m c) j
  refine Eq.trans h ?_
  pointwise
  rfl

omit [FloatOps F] in
theorem andi_ofBool (p q : Bool) : IntOp.andi (BitVec.ofBool p) (BitVec.ofBool q) = BitVec.ofBool (p && q) := by
  cases p <;> cases q <;> decide
omit [FloatOps F] in
theorem ofBool_eq_one (p : Bool) : (BitVec.ofBool p = 1#1) ↔ p = true := by cases p <;> decide
omit [FloatOps F] in
theorem key (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Every token is a row of the table. -/
def TokOK : Prop := ∀ (c : Dev nD) (i : S1024x200.Idx), ((m (c, Proc.devRef .tc main_arg0) : IVec S1024x200 32) i).toNat < 100000

theorem inRange_of (h : TokOK m) : InRange (ixs m) := fun d j => by
  rw [ixs_apply]; exact h d _

theorem tok_kernel (m : (ℓ : Loc Cert.Kernel.nD Cert.Kernel.τ Cert.Kernel.sig) → Buf (Elt Bits) ℓ) (h : Cert.Pre_Kernel m) : TokOK (F := Bits) m := by
  intro d j
  have e := congrFun (h d) j
  simp only [Pre_in_vocab.fn, andi, cmpi, broadcastInDim, constantI] at e
  exact key _ e
theorem tok_ideal (m : (ℓ : Loc nD τ sig) → Buf (Elt Ideal) ℓ) (h : Cert.Pre_KernelIdeal m) : TokOK (F := Ideal) m := by
  intro d j
  have e := congrFun (h d) j
  simp only [Pre_in_vocab.fn, andi, cmpi, broadcastInDim, constantI] at e
  exact key _ e
theorem tok_finite (m : (ℓ : Loc nD τ sig) → Buf (Elt Ideal) ℓ) (h : Cert.Pre_KernelIdeal_in_vocab_finite m) : TokOK (F := Ideal) m := by
  intro d j
  have e := congrFun (h d).1 j
  simp only [Pre_in_vocab_finite.fn, andi, cmpi, broadcastInDim, constantI] at e
  exact key _ e

/-- The arguments are as they were. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)

theorem args_kept {r : PUnit × MemSt nD τ sig (Elt F)} (h : QC m r) (c : Dev nD) : ArgsKept m r c :=
  ⟨(h.1 c main_arg0 (by decide)).trans (VE_of m c main_arg0 (by decide +kernel)),
    (h.1 c main_arg1 (by decide)).trans (VE_of m c main_arg1 (by decide +kernel)),
    (h.1 c main_arg2 (by decide)).trans (VE_of m c main_arg2 (by decide +kernel)),
    (h.1 c main_arg3 (by decide)).trans (VE_of m c main_arg3 (by decide +kernel)),
    (h.1 c main_arg4 (by decide)).trans (VE_of m c main_arg4 (by decide +kernel)),
    (h.1 c main_arg5 (by decide)).trans (VE_of m c main_arg5 (by decide +kernel)),
    (h.1 c main_arg6 (by decide)).trans (VE_of m c main_arg6 (by decide +kernel)),
    (h.1 c main_arg7 (by decide)).trans (VE_of m c main_arg7 (by decide +kernel)),
    (h.1 c main_arg8 (by decide)).trans (VE_of m c main_arg8 (by decide +kernel)),
    (h.1 c main_arg9 (by decide)).trans (VE_of m c main_arg9 (by decide +kernel)),
    (h.1 c main_arg10 (by decide)).trans (VE_of m c main_arg10 (by decide +kernel)),
    (h.1 c main_arg11 (by decide)).trans (VE_of m c main_arg11 (by decide +kernel)),
    (h.1 c main_arg12 (by decide)).trans (VE_of m c main_arg12 (by decide +kernel)),
    (h.1 c main_arg13 (by decide)).trans (VE_of m c main_arg13 (by decide +kernel))⟩

theorem frame_any [∀ e, Nonempty (Elt F e)] (h : TokOK m) :
    θ_run (defs (F := F)) (threads (F := F)) ⟨m, fun _ => 0, ρ⟩ (fun r => (∀ c, ArgsKept m r c) ∧ r.2.sem = fun _ => 0) :=
  (θ_run Cert.KernelIdeal.defs _ _).mono (fun r h => ⟨fun c => args_kept m h c, h.2⟩) (run_main m ρ (inRange_of m h))

theorem frame_ideal : Cert.quiescent_KernelIdeal := fun m ρ hp => frame_any (F := Ideal) m ρ (tok_ideal m hp)
theorem frame_ideal_finite : Cert.quiescent_KernelIdeal_pre_in_vocab_finite := fun m ρ hp => frame_any (F := Ideal) m ρ (tok_finite m hp)

set_option maxHeartbeats 8000000 in
theorem body_eq (pr : Proc τ) (ℓ : Fin 3) (a : Λ₀.Args ℓ) : Cert.Kernel.defs₀ (F := Bits) pr ℓ a = Cert.KernelIdeal.defs₀ (F := Bits) pr ℓ a := by
  match pr, ℓ, a with
  | .scVector c s, 0, _ => rfl
  | .tc, 1, (t, s) => rfl
  | .tc, 2, (t, s) => rfl
  | .scVector c s, 1, _ => rfl
  | .scVector c s, 2, _ => rfl
  | .scScalar c, 0, _ => rfl
  | .scScalar c, 1, _ => rfl
  | .scScalar c, 2, _ => rfl
  | .tc, 0, _ => rfl

theorem bodies_eq : Cert.Kernel.defs₀ (F := Bits) = Cert.KernelIdeal.defs₀ (F := Bits) :=
  funext fun pr => funext fun ℓ => funext fun a => body_eq pr ℓ a

theorem defs_eq : Cert.Kernel.defs (F := Bits) = Cert.KernelIdeal.defs (F := Bits) :=
  congrArg (fun D => (sc (F := Bits)).defs (Pipeline.defs (pcfgs (F := Bits)) D)) bodies_eq

set_option maxHeartbeats 4000000 in
theorem frame_kernel : Cert.quiescent_Kernel := fun m ρ hp => by
  rw [show Cert.Kernel.defs (F := Bits) = Cert.KernelIdeal.defs (F := Bits) from defs_eq]
  exact frame_any (F := Bits) m ρ (tok_kernel m hp)

end Cert.Proof.Frames

end
-- ==== Proof.KerStep.lean ====
/-
  What one step of each direction of the kernel's recurrence computes, element by element, over the extended reals.
-/
module

public import proofs.«01_k».proof.Proof.Rec
public import Idealize.ShloMosaic.Lib.Pointwise

@[expose] public section

set_option maxRecDepth 16384

noncomputable section

namespace Cert.Proof.KerStep

open Cert.KernelIdeal Cert.KernelIdeal.Gen
open Idealize.ShloMosaic Idealize.ShloMosaic.TcCoe

variable (x : Vec Ideal S1x1024x128 .f32) (mk : Vec Ideal S1x1024x1 .f32) (h c : Vec Ideal S1024x256 .f32)
  (k : Vec Ideal S128x1024 .f32) (r : Vec Ideal S256x1024 .f32) (b : Vec Ideal S1x1024 .f32)

theorem zF (p q : Fin 1024) : k2_pay10 x h k r b (ix2 p q) =
    ∑ i : Fin 128, x (ix3 0 p i) * k (ix2 i q) + ∑ i : Fin 256, h (ix2 p i) * r (ix2 i q) + b (ix2 0 q) := by
  unfold k2_pay10
  pointwise

theorem cF (p : Fin 1024) (u : Fin 256) : k2_pay11 x h c k r b (ix2 p u) =
    Ideal.logistic (k2_pay10 x h k r b (ix2 p ⟨256 + u.val, by omega⟩)) * c (ix2 p u)
      + Ideal.logistic (k2_pay10 x h k r b (ix2 p ⟨u.val, by omega⟩)) * Ideal.tanh (k2_pay10 x h k r b (ix2 p ⟨512 + u.val, by omega⟩)) := by
  unfold k2_pay11
  generalize k2_pay10 x h k r b = z
  pointwise

theorem zB (p q : Fin 1024) : k2_pay16 x h k r b (ix2 p q) =
    ∑ i : Fin 128, x (ix3 0 p i) * k (ix2 i q) + ∑ i : Fin 256, h (ix2 p i) * r (ix2 i q) + b (ix2 0 q) := by
  unfold k2_pay16
  pointwise

theorem cB (p : Fin 1024) (u : Fin 256) : k2_pay18 x h c k r b (ix2 p u) =
    Ideal.logistic (k2_pay16 x h k r b (ix2 p ⟨256 + u.val, by omega⟩)) * c (ix2 p u)
      + Ideal.logistic (k2_pay16 x h k r b (ix2 p ⟨u.val, by omega⟩)) * Ideal.tanh (k2_pay16 x h k r b (ix2 p ⟨512 + u.val, by omega⟩)) := by
  unfold k2_pay18
  generalize k2_pay16 x h k r b = z
  pointwise

theorem hF (p : Fin 1024) (u : Fin 256) : k2_pay13 (k2_pay12 x mk h c k r b) (ix2 p u) =
    h (ix2 p u) + mk (ix3 0 p 0) * (Ideal.logistic (k2_pay10 x h k r b (ix2 p ⟨768 + u.val, by omega⟩)) * Ideal.tanh (k2_pay11 x h c k r b (ix2 p u)) - h (ix2 p u)) := by
  unfold k2_pay13 k2_pay12 k2_pay9
  generalize k2_pay10 x h k r b = z
  generalize k2_pay11 x h c k r b = d
  pointwise

theorem sF (d : Vec Ideal S1024x256 .f32) (p : Fin 1024) (u : Fin 256) : k2_pay14 (k2_pay9 mk) c d (ix2 p u) =
    c (ix2 p u) + mk (ix3 0 p 0) * (d (ix2 p u) - c (ix2 p u)) := by
  unfold k2_pay14 k2_pay9
  pointwise

theorem hB (p : Fin 1024) (u : Fin 256) : k2_pay1 (k2_pay15 mk) h (k2_pay17 x h k r b) (k2_pay19 x h c k r b) (ix2 p u) =
    h (ix2 p u) + mk (ix3 0 p 0) * (Ideal.logistic (k2_pay16 x h k r b (ix2 p ⟨768 + u.val, by omega⟩)) * Ideal.tanh (k2_pay18 x h c k r b (ix2 p u)) - h (ix2 p u)) := by
  unfold k2_pay1 k2_pay15 k2_pay17 k2_pay19
  generalize k2_pay16 x h k r b = z
  generalize k2_pay18 x h c k r b = d
  pointwise

theorem sB (d : Vec Ideal S1024x256 .f32) (p : Fin 1024) (u : Fin 256) : k2_pay2 (k2_pay15 mk) c d (ix2 p u) =
    c (ix2 p u) + mk (ix3 0 p 0) * (d (ix2 p u) - c (ix2 p u)) := by
  unfold k2_pay2 k2_pay15
  pointwise

/-- Both directions start from zeros. -/
theorem zeroF_at (j : S1024x256.Idx) : (k2_pay5 (F := Ideal)) j = 0 ∧ (k2_pay6 (F := Ideal)) j = 0 := by
  unfold k2_pay5 k2_pay6
  constructor <;> pointwise
theorem zeroB_at (j : S1024x256.Idx) : (k2_pay7 (F := Ideal)) j = 0 ∧ (k2_pay8 (F := Ideal)) j = 0 := by
  unfold k2_pay7 k2_pay8
  constructor <;> pointwise

/-- One block's contribution to the sums. -/
theorem acc_at (y : Vec Ideal S4096x128 .f32) (a : Vec Ideal S2x128 .f32) (e : Fin 128) :
    k1_pay2 y a (ix2 0 e) = a (ix2 0 e) + ∑ i : Fin 4096, y (ix2 i e)
    ∧ k1_pay2 y a (ix2 1 e) = a (ix2 1 e) + ∑ i : Fin 4096, y (ix2 i e) * y (ix2 i e) := by
  unfold k1_pay2
  constructor <;> pointwise
theorem acc0_at (j : S2x128.Idx) : (k1_pay1 (F := Ideal)) j = 0 := by
  unfold k1_pay1
  pointwise

end Cert.Proof.KerStep

end
-- ==== Proof.Alg.lean ====
/-
  The extended-real algebra the two programs' agreement comes down to: the gates are real numbers whatever their
  arguments, a masked blend is a selection, a scale folded into the weights is a scale of the rows, and the two ways of
  taking a variance agree.
-/
module

public import Idealize.ShloMosaic.Lib.Pointwise

@[expose] public section

noncomputable section

namespace Cert.Alg

open Idealize.ShloMosaic

/-- A float over the extended reals, as one. -/
abbrev re (x : EReal) : EReal := x

/-- An extended real that is a real number. -/
def IsR (x : EReal) : Prop := ∃ r : ℝ, x = (r : EReal)

theorem IsR.coe (r : ℝ) : IsR (r : EReal) := ⟨r, rfl⟩
theorem IsR.zero : IsR (0 : EReal) := ⟨0, rfl⟩
theorem IsR.add {x y : EReal} : IsR x → IsR y → IsR (x + y) := by
  rintro ⟨a, rfl⟩ ⟨b, rfl⟩; exact ⟨a + b, rfl⟩
theorem IsR.mul {x y : EReal} : IsR x → IsR y → IsR (x * y) := by
  rintro ⟨a, rfl⟩ ⟨b, rfl⟩; exact ⟨a * b, (EReal.coe_mul a b).symm⟩

theorem logistic_real (x : EReal) : IsR (Ideal.logistic x) := by
  induction x with
  | bot => exact ⟨0, by simp⟩
  | coe r => exact ⟨_, Ideal.logistic_coe r⟩
  | top => exact ⟨1, by simp⟩

theorem tanh_real (x : EReal) : IsR (Ideal.tanh x) := by
  induction x with
  | bot => exact ⟨-1, rfl⟩
  | coe r => exact ⟨Real.tanh r, rfl⟩
  | top => exact ⟨1, rfl⟩

/-- A blend by a mask of zeros and ones is a selection, of real numbers. -/
theorem blend (b : BitVec 1) {h d : EReal} (hh : IsR h) (hd : IsR d) :
    h + ((b.toNat : ℝ) : EReal) * (d - h) = Scalar.select b d h := by
  obtain ⟨h, rfl⟩ := hh
  obtain ⟨d, rfl⟩ := hd
  rcases (by decide +revert : b = 0#1 ∨ b = 1#1) with rfl | rfl
  · show (h : EReal) + (((0 : ℕ) : ℝ) : EReal) * ((d : EReal) - h) = (h : EReal)
    rw [← EReal.coe_sub, ← EReal.coe_mul, ← EReal.coe_add]
    congr 1; simp
  · show (h : EReal) + (((1 : ℕ) : ℝ) : EReal) * ((d : EReal) - h) = (d : EReal)
    rw [← EReal.coe_sub, ← EReal.coe_mul, ← EReal.coe_add]
    congr 1; simp

theorem select_real (b : BitVec 1) {h d : EReal} (hh : IsR h) (hd : IsR d) : IsR (Scalar.select b d h) := by
  rcases (by decide +revert : b = 0#1 ∨ b = 1#1) with rfl | rfl
  · exact hh
  · exact hd

/-! ## The cell -/

/-- The four gates' sums. -/
def gz (x : Fin 1024 → Fin 128 → EReal) (h : Fin 1024 → Fin 256 → EReal) (k : Fin 128 → Fin 1024 → EReal)
    (r : Fin 256 → Fin 1024 → EReal) (b : Fin 1024 → EReal) (p q : Fin 1024) : EReal :=
  ∑ i : Fin 128, x p i * k i q + ∑ i : Fin 256, h p i * r i q + b q

/-- The new cell state. -/
def nC (z : Fin 1024 → Fin 1024 → EReal) (c : Fin 1024 → Fin 256 → EReal) (p : Fin 1024) (u : Fin 256) : EReal :=
  Ideal.logistic (z p ⟨256 + u.val, by omega⟩) * c p u + Ideal.logistic (z p ⟨u.val, by omega⟩) * Ideal.tanh (z p ⟨512 + u.val, by omega⟩)

/-- The new hidden state. -/
def nH (z : Fin 1024 → Fin 1024 → EReal) (c : Fin 1024 → Fin 256 → EReal) (p : Fin 1024) (u : Fin 256) : EReal :=
  Ideal.logistic (z p ⟨768 + u.val, by omega⟩) * Ideal.tanh (nC z c p u)

theorem nC_real (z : Fin 1024 → Fin 1024 → EReal) (c : Fin 1024 → Fin 256 → EReal) (p : Fin 1024) (u : Fin 256) (h : IsR (c p u)) : IsR (nC z c p u) :=
  ((logistic_real _).mul h).add ((logistic_real _).mul (tanh_real _))

theorem nH_real (z : Fin 1024 → Fin 1024 → EReal) (c : Fin 1024 → Fin 256 → EReal) (p : Fin 1024) (u : Fin 256) : IsR (nH z c p u) :=
  (logistic_real _).mul (tanh_real _)

/-! ## The scale folded into the weights -/

theorem div_sqrt (y : EReal) {s : ℝ} (hs : 0 < s) : Ideal.div y (Ideal.sqrt (s : EReal)) = y * Ideal.rsqrt (s : EReal) := by
  have h1 : Ideal.sqrt (s : EReal) = ((Real.sqrt s : ℝ) : EReal) := by
    show (if s < 0 then (⊥ : EReal) else (Real.sqrt s : ℝ)) = _
    rw [if_neg (not_lt.2 hs.le)]
  have h2 : Ideal.rsqrt (s : EReal) = (((Real.sqrt s)⁻¹ : ℝ) : EReal) := by
    show (if s < 0 then (⊥ : EReal) else if s = 0 then ⊤ else (((Real.sqrt s)⁻¹ : ℝ) : EReal)) = _
    rw [if_neg (not_lt.2 hs.le), if_neg hs.ne']
  have hq : Real.sqrt s ≠ 0 := (Real.sqrt_pos.2 hs).ne'
  rw [h1, h2, Ideal.div_coe hq, one_div]

theorem rsqrt_real {s : ℝ} (hs : 0 < s) : IsR (Ideal.rsqrt (s : EReal)) := by
  refine ⟨(Real.sqrt s)⁻¹, ?_⟩
  show (if s < 0 then (⊥ : EReal) else if s = 0 then ⊤ else (((Real.sqrt s)⁻¹ : ℝ) : EReal)) = _
  rw [if_neg (not_lt.2 hs.le), if_neg hs.ne']

/-- One term: `x` times the scaled weight, and the shift's share of the bias. -/
theorem fold_term {x g mu k : EReal} (hx : IsR x) (hg : IsR g) (hm : IsR mu) (hk : IsR k) {s : ℝ} (hs : 0 < s) (b : EReal) :
    x * (g * Ideal.rsqrt (s : EReal) * k) + (b - mu * (g * Ideal.rsqrt (s : EReal))) * k
      = (Ideal.div (g * (x - mu)) (Ideal.sqrt (s : EReal)) + b) * k := by
  rw [div_sqrt _ hs]
  obtain ⟨r, hr⟩ := rsqrt_real hs
  rw [hr]
  obtain ⟨x, rfl⟩ := hx
  obtain ⟨g, rfl⟩ := hg
  obtain ⟨mu, rfl⟩ := hm
  obtain ⟨k, rfl⟩ := hk
  rw [← EReal.coe_mul g r, ← EReal.coe_mul, ← EReal.coe_mul, ← EReal.coe_mul, ← EReal.coe_sub, ← EReal.coe_mul, ← EReal.coe_mul]
  induction b with
  | bot =>
    rw [EReal.bot_sub, EReal.add_bot]
    rcases lt_trichotomy k 0 with h | h | h
    · rw [EReal.bot_mul_coe_of_neg h, EReal.coe_add_top]
    · subst h; simp
    · rw [EReal.bot_mul_coe_of_pos h, EReal.add_bot]
  | coe b =>
    rw [← EReal.coe_sub, ← EReal.coe_mul, ← EReal.coe_add, ← EReal.coe_add, ← EReal.coe_mul]
    congr 1; ring
  | top =>
    rw [EReal.top_sub_coe, EReal.coe_add_top]
    rcases lt_trichotomy k 0 with h | h | h
    · rw [EReal.top_mul_coe_of_neg h, EReal.add_bot]
    · subst h; simp
    · rw [EReal.top_mul_coe_of_pos h, EReal.coe_add_top]

/-- The gates' sums: the kernel's, of the rows as gathered and the folded weights, are the reference's, of the
    normalised rows. -/
theorem fold_gz (x : Fin 1024 → Fin 128 → EReal) (h : Fin 1024 → Fin 256 → EReal) (k : Fin 128 → Fin 1024 → EReal)
    (r : Fin 256 → Fin 1024 → EReal) (b : Fin 1024 → EReal) (g mu s be : Fin 128 → EReal)
    (hx : ∀ p i, IsR (x p i)) (hk : ∀ i q, IsR (k i q)) (hg : ∀ i, IsR (g i)) (hm : ∀ i, IsR (mu i))
    (hs : ∀ i, ∃ t : ℝ, 0 < t ∧ s i = t) (p q : Fin 1024) :
    gz x h (fun i q => g i * Ideal.rsqrt (s i) * k i q) r
        (fun q => ∑ i : Fin 128, (be i - mu i * (g i * Ideal.rsqrt (s i))) * k i q + b q) p q
      = gz (fun p i => Ideal.div (g i * (x p i - mu i)) (Ideal.sqrt (s i)) + be i) h k r b p q := by
  unfold gz
  rw [show ∀ A B C D : EReal, A + B + (C + D) = (A + C) + B + D from fun A B C D => by
    rw [add_assoc, add_assoc, add_assoc]; congr 1; rw [← add_assoc, ← add_assoc]; congr 1; exact add_comm _ _]
  rw [← Finset.sum_add_distrib]
  congr 2
  refine Finset.sum_congr rfl fun i _ => ?_
  obtain ⟨t, ht, e⟩ := hs i
  dsimp only
  rw [e]
  exact fold_term (hx p i) (hg i) (hm i) (hk i q) ht (be i)

/-! ## The two variances -/

theorem coe_sum {ι : Type} [Fintype ι] (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

/-- Both variances of real values are one real number, at least zero, and the mean is real. -/
theorem variance {ι : Type} [Fintype ι] (f : ι → EReal) (hf : ∀ i, IsR (f i)) (N : ℝ) (hN : N = Fintype.card ι) (h0 : 0 < N) :
    IsR (Ideal.div (∑ i, f i) (N : EReal)) ∧ ∃ v : ℝ, 0 ≤ v
      ∧ Ideal.div (∑ i, f i * f i) (N : EReal) - Ideal.div (∑ i, f i) (N : EReal) * Ideal.div (∑ i, f i) (N : EReal) = v
      ∧ Ideal.div (∑ i, (f i - Ideal.div (∑ i, f i) (N : EReal)) * (f i - Ideal.div (∑ i, f i) (N : EReal))) (N : EReal) = v := by
  choose g hg using hf
  obtain rfl : f = fun i => (g i : EReal) := funext hg
  have hmean : Ideal.div (∑ i, (g i : EReal)) (N : EReal) = (((∑ i, g i) * (1 / N) : ℝ) : EReal) := by
    rw [coe_sum, Ideal.div_coe h0.ne', ← EReal.coe_mul]
  refine ⟨⟨_, hmean⟩, ?_⟩
  obtain ⟨μ, hμ⟩ : ∃ μ : ℝ, μ = (∑ i, g i) * (1 / N) := ⟨_, rfl⟩
  simp only [hmean, ← hμ]
  have hv : Ideal.div (∑ i, ((g i : EReal) - (μ : EReal)) * ((g i : EReal) - (μ : EReal))) (N : EReal)
      = (((∑ i, (g i - μ) * (g i - μ)) * (1 / N) : ℝ) : EReal) := by
    rw [show (fun i => ((g i : EReal) - (μ : EReal)) * ((g i : EReal) - (μ : EReal))) = fun i => (((g i - μ) * (g i - μ) : ℝ) : EReal) from
      funext fun i => by rw [EReal.coe_mul, EReal.coe_sub], coe_sum, Ideal.div_coe h0.ne', ← EReal.coe_mul]
  refine ⟨(∑ i, (g i - μ) * (g i - μ)) * (1 / N), mul_nonneg (Finset.sum_nonneg fun i _ => mul_self_nonneg _) (by positivity), ?_, hv⟩
  rw [show (fun i => (g i : EReal) * (g i : EReal)) = fun i => ((g i * g i : ℝ) : EReal) from
      funext fun i => (EReal.coe_mul _ _).symm, coe_sum, Ideal.div_coe h0.ne', ← EReal.coe_mul, ← EReal.coe_mul, ← EReal.coe_sub]
  congr 1
  have e1 : ∑ i, (g i - μ) * (g i - μ) = ∑ i, g i * g i - 2 * μ * ∑ i, g i + N * (μ * μ) := by
    rw [Finset.mul_sum, ← Finset.sum_sub_distrib, hN, ← nsmul_eq_mul, ← Finset.card_univ, ← Finset.sum_const, ← Finset.sum_add_distrib]
    exact Finset.sum_congr rfl fun i _ => by ring
  have e2 : ∑ i, g i = μ * N := by rw [hμ]; field_simp
  rw [e1, e2]
  field_simp
  ring

/-! ## Sums over blocks of rows -/

theorem sum_blocks (g : ℕ → EReal) (b : ℕ) : ∀ a : ℕ, ∑ n ∈ Finset.range a, ∑ i ∈ Finset.range b, g (n * b + i) = ∑ r ∈ Finset.range (a * b), g r
  | 0 => by simp
  | a + 1 => by rw [Finset.sum_range_succ, sum_blocks g b a, Nat.succ_mul, Finset.sum_range_add]

end Cert.Alg

end
-- ==== Proof.KerSeq.lean ====
/-
  The kernel's two recurrences against a recursion by selection, and its two sums as sums over all the rows.
-/
module

public import proofs.«01_k».proof.Proof.KerStep
public import proofs.«01_k».proof.Proof.Alg

@[expose] public section

set_option maxRecDepth 16384

noncomputable section

namespace Cert.Proof.KerSeq

open Cert.KernelIdeal Cert.KernelIdeal.Gen Cert.Proof.Rec Cert.Proof.KerStep Cert.Alg
open Idealize.ShloMosaic Idealize.ShloMosaic.TcCoe

theorem blk_at (x : Vec Ideal S200x1024x128 .f32) (n : Fin 200) (p : Fin 1024) (i : Fin 128) : blk x n.val (ix3 0 p i) = x (ix3 n p i) := by
  unfold blk
  refine congrArg x (funext fun a => Fin.ext ?_)
  match a with
  | ⟨0, _⟩ => exact Nat.mod_eq_of_lt n.isLt
  | ⟨1, _⟩ => rfl
  | ⟨2, _⟩ => rfl
theorem mblk_at (x : Vec Ideal S200x1024x1 .f32) (n : Fin 200) (p : Fin 1024) : mblk x n.val (ix3 0 p 0) = x (ix3 n p 0) := by
  unfold mblk
  refine congrArg x (funext fun a => Fin.ext ?_)
  match a with
  | ⟨0, _⟩ => exact Nat.mod_eq_of_lt n.isLt
  | ⟨1, _⟩ => rfl
  | ⟨2, _⟩ => rfl

variable (x : Vec Ideal S200x1024x128 .f32) (k : Vec Ideal S200x1024x1 .f32) (kf : Vec Ideal S128x1024 .f32)
  (rf : Vec Ideal S256x1024 .f32) (bf : Vec Ideal S1x1024 .f32)
  (h c : ℕ → Fin 1024 → Fin 256 → EReal) (mk : Fin 200 → Fin 1024 → BitVec 1) (G : Fin 200 → Fin 1024 → Fin 1024 → EReal)

theorem seqF_eq (z0 : ∀ p u, h 0 p u = 0 ∧ c 0 p u = 0)
    (hs : ∀ (n : Fin 200) p u, h (n.val + 1) p u = Scalar.select (mk n p) (nH (G n) (c n.val) p u) (h n.val p u)
      ∧ c (n.val + 1) p u = Scalar.select (mk n p) (nC (G n) (c n.val) p u) (c n.val p u))
    (hm : ∀ (n : Fin 200) p, k (ix3 n p 0) = (((mk n p).toNat : ℝ) : EReal))
    (hg : ∀ (n : Fin 200), gz (fun p i => x (ix3 n p i)) (h n.val) (fun i q => kf (ix2 i q)) (fun i q => rf (ix2 i q)) (fun q => bf (ix2 0 q)) = G n) :
    ∀ n : ℕ, n ≤ 200 → ∀ p u, (seqF x k kf rf bf n).1 (ix2 p u) = h n p u ∧ (seqF x k kf rf bf n).2 (ix2 p u) = c n p u ∧ IsR (h n p u) ∧ IsR (c n p u)
  | 0 => fun _ p u => by
    refine ⟨(zeroF_at (ix2 p u)).1.trans (z0 p u).1.symm, (zeroF_at (ix2 p u)).2.trans (z0 p u).2.symm, ?_, ?_⟩
    · rw [(z0 p u).1]; exact IsR.zero
    · rw [(z0 p u).2]; exact IsR.zero
  | n + 1 => fun hn p u => by
    have ih := seqF_eq z0 hs hm hg n (by omega)
    obtain ⟨N, rfl⟩ : ∃ N : Fin 200, n = N.val := ⟨⟨n, by omega⟩, rfl⟩
    have hb : ∀ p i, blk x N.val (ix3 0 p i) = x (ix3 N p i) := fun p i => blk_at x N p i
    have hmb : mblk k N.val (ix3 0 p 0) = (((mk N p).toNat : ℝ) : EReal) :=
      (mblk_at k N p).trans (hm N p)
    revert hb hmb
    show _ → _ → (stepF kf rf bf (blk x N.val) (mblk k N.val) (seqF x k kf rf bf N.val)).1 (ix2 p u) = _
      ∧ (stepF kf rf bf (blk x N.val) (mblk k N.val) (seqF x k kf rf bf N.val)).2 (ix2 p u) = _ ∧ _
    generalize blk x N.val = y
    generalize mblk k N.val = mb
    intro hb hmb
    generalize seqF x k kf rf bf N.val = s at ih
    have hz : ∀ p q, k2_pay10 y s.1 kf rf bf (ix2 p q) = G N p q := fun p q => by
      rw [zF, ← hg N]
      unfold gz
      simp only [hb, fun p u => (ih p u).1]
    have hc : k2_pay11 y s.1 s.2 kf rf bf (ix2 p u) = nC (G N) (c N.val) p u := by
      rw [cF]
      unfold nC
      simp only [hz, fun p u => (ih p u).2.1]
    obtain ⟨i1, i2, r1, r2⟩ := ih p u
    have rd := nC_real (G N) (c N.val) p u r2
    have rh := nH_real (G N) (c N.val) p u
    obtain ⟨s1, s2⟩ := hs N p u
    rw [s1, s2]
    refine ⟨?_, ?_, select_real _ r1 rh, select_real _ r2 rd⟩
    · refine (hF y mb s.1 s.2 kf rf bf p u).trans ?_
      rw [hz, hc, i1, hmb]
      exact blend (mk N p) r1 rh
    · refine (sF mb s.2 _ p u).trans ?_
      rw [hc, i2, hmb]
      exact blend (mk N p) r2 rd

theorem seqB_eq (z0 : ∀ p u, h 0 p u = 0 ∧ c 0 p u = 0)
    (hs : ∀ (n : Fin 200) p u, h (n.val + 1) p u = Scalar.select (mk n p) (nH (G n) (c n.val) p u) (h n.val p u)
      ∧ c (n.val + 1) p u = Scalar.select (mk n p) (nC (G n) (c n.val) p u) (c n.val p u))
    (hm : ∀ (n : Fin 200) p, k (ix3 ⟨199 - n.val, by omega⟩ p 0) = (((mk n p).toNat : ℝ) : EReal))
    (hg : ∀ (n : Fin 200), gz (fun p i => x (ix3 ⟨199 - n.val, by omega⟩ p i)) (h n.val) (fun i q => kf (ix2 i q)) (fun i q => rf (ix2 i q)) (fun q => bf (ix2 0 q)) = G n) :
    ∀ n : ℕ, n ≤ 200 → ∀ p u, (seqB x k kf rf bf n).1 (ix2 p u) = h n p u ∧ (seqB x k kf rf bf n).2 (ix2 p u) = c n p u ∧ IsR (h n p u) ∧ IsR (c n p u)
  | 0 => fun _ p u => by
    refine ⟨(zeroB_at (ix2 p u)).1.trans (z0 p u).1.symm, (zeroB_at (ix2 p u)).2.trans (z0 p u).2.symm, ?_, ?_⟩
    · rw [(z0 p u).1]; exact IsR.zero
    · rw [(z0 p u).2]; exact IsR.zero
  | n + 1 => fun hn p u => by
    have ih := seqB_eq z0 hs hm hg n (by omega)
    obtain ⟨N, rfl⟩ : ∃ N : Fin 200, n = N.val := ⟨⟨n, by omega⟩, rfl⟩
    have hb : ∀ p i, blk x (199 - N.val) (ix3 0 p i) = x (ix3 ⟨199 - N.val, by omega⟩ p i) := fun p i => blk_at x ⟨199 - N.val, by omega⟩ p i
    have hmb : mblk k (199 - N.val) (ix3 0 p 0) = (((mk N p).toNat : ℝ) : EReal) :=
      (mblk_at k ⟨199 - N.val, by omega⟩ p).trans (hm N p)
    revert hb hmb
    show _ → _ → (stepB kf rf bf (blk x (199 - N.val)) (mblk k (199 - N.val)) (seqB x k kf rf bf N.val)).1 (ix2 p u) = _
      ∧ (stepB kf rf bf (blk x (199 - N.val)) (mblk k (199 - N.val)) (seqB x k kf rf bf N.val)).2 (ix2 p u) = _ ∧ _
    generalize blk x (199 - N.val) = y
    generalize mblk k (199 - N.val) = mb
    intro hb hmb
    generalize seqB x k kf rf bf N.val = s at ih
    have hz : ∀ p q, k2_pay16 y s.1 kf rf bf (ix2 p q) = G N p q := fun p q => by
      rw [zB, ← hg N]
      unfold gz
      simp only [hb, fun p u => (ih p u).1]
    have hc : k2_pay18 y s.1 s.2 kf rf bf (ix2 p u) = nC (G N) (c N.val) p u := by
      rw [cB]
      unfold nC
      simp only [hz, fun p u => (ih p u).2.1]
    obtain ⟨i1, i2, r1, r2⟩ := ih p u
    have rd := nC_real (G N) (c N.val) p u r2
    have rh := nH_real (G N) (c N.val) p u
    obtain ⟨s1, s2⟩ := hs N p u
    rw [s1, s2]
    refine ⟨?_, ?_, select_real _ r1 rh, select_real _ r2 rd⟩
    · refine (hB y mb s.1 s.2 kf rf bf p u).trans ?_
      rw [hz, hc, i1, hmb]
      exact blend (mk N p) r1 rh
    · refine (sB mb s.2 _ p u).trans ?_
      rw [hc, i2, hmb]
      exact blend (mk N p) r2 rd

/-! ## The sums -/

open Cert.Proof.Stats (rows acc)

/-- The value of row `r`. -/
def g (X : Vec Ideal S204800x128 .f32) (e : Fin 128) (r : ℕ) : EReal := X (ix2 ⟨r % 204800, Nat.mod_lt _ (by decide)⟩ e)

theorem rows_at (X : Vec Ideal S204800x128 .f32) (n : ℕ) (i : Fin 4096) (e : Fin 128) : rows X n (ix2 i e) = g X e (n * 4096 + i.val) := by
  unfold rows g
  refine congrArg X (funext fun a => Fin.ext ?_)
  match a with
  | ⟨0, _⟩ => rfl
  | ⟨1, _⟩ => rfl

theorem acc_sums (X : Vec Ideal S204800x128 .f32) (e : Fin 128) : ∀ n : ℕ,
    acc X n (ix2 0 e) = ∑ k ∈ Finset.range (n + 1), ∑ i ∈ Finset.range 4096, g X e (k * 4096 + i)
    ∧ acc X n (ix2 1 e) = ∑ k ∈ Finset.range (n + 1), ∑ i ∈ Finset.range 4096, g X e (k * 4096 + i) * g X e (k * 4096 + i)
  | 0 => by
    unfold acc
    rw [(acc_at (rows X 0) (k1_pay1 (F := Ideal)) e).1, (acc_at (rows X 0) (k1_pay1 (F := Ideal)) e).2, acc0_at, acc0_at]
    simp only [rows_at, zero_add, Finset.sum_range_one, Finset.sum_range (n := 4096), and_self]
  | n + 1 => by
    obtain ⟨h1, h2⟩ := acc_sums X e n
    unfold acc
    rw [(acc_at (rows X (n + 1)) (acc X n) e).1, (acc_at (rows X (n + 1)) (acc X n) e).2, h1, h2, Finset.sum_range_succ _ (n + 1), Finset.sum_range_succ _ (n + 1)]
    simp only [rows_at, Finset.sum_range (n := 4096), and_self]

/-- Rows taken block by block are the rows taken token by token. -/
theorem reblock (f : ℕ → EReal) : ∑ k ∈ Finset.range (49 + 1), ∑ i ∈ Finset.range 4096, f (k * 4096 + i)
    = ∑ p : Fin 1024, ∑ t : Fin 200, f (t.val * 1024 + p.val) := by
  rw [sum_blocks f 4096 (49 + 1), show (49 + 1) * 4096 = 200 * 1024 from rfl, ← sum_blocks f 1024 200, Finset.sum_comm,
    Finset.sum_range]
  exact Finset.sum_congr rfl fun p _ => Finset.sum_range _

end Cert.Proof.KerSeq

end
-- ==== Proof.KerHost.lean ====
/-
  What the kernel's host code between the statistics and the recurrence computes, element by element, over the extended reals.
-/
module

public import proofs.«01_k».proof.Proof.Segs
public import Idealize.ShloMosaic.Lib.Pointwise
public import Idealize.ShloMosaic.Lib.StableHlo.ReadAt

@[expose] public section

set_option maxRecDepth 16384

noncomputable section

namespace Cert.Proof.KerHost

open Cert.KernelIdeal Cert.KernelIdeal.Gen Cert.Proof.Segs
open Idealize.ShloMosaic Idealize.ShloMosaic.TcCoe
open Idealize.ShloMosaic.StableHlo

/-- The number of gathered rows and the small addend of a variance, as floats. -/
abbrev NN : EReal := (Scalar.ofBits (F := Ideal) .f32 0x48480000#32 : Ideal .f32)
abbrev EPS : EReal := (Scalar.ofBits (F := Ideal) .f32 0x3A83126F#32 : Ideal .f32)

/-- The mean, the variance and the scale that the host code makes of the two sums. -/
def mean (s : Vec Ideal S2x128 .f32) (e : Fin 128) : EReal := Ideal.div (s (ix2 0 e)) NN
def var (s : Vec Ideal S2x128 .f32) (e : Fin 128) : EReal := Ideal.div (s (ix2 1 e)) NN - mean s e * mean s e
def sc (s : Vec Ideal S2x128 .f32) (g : Vec Ideal S128 .f32) (e : Fin 128) : EReal := g (ix1 e) * Ideal.rsqrt (var s e + EPS)

/-- A float over the extended reals, as one. -/
abbrev re (x : EReal) : EReal := x

variable (V : Valuation τ sig (Elt Ideal))

theorem k_fwd (i : Fin 128) (q : Fin 1024) : after hostB V (Proc.devRef .tc main_v22) (ix2 i q) =
    sc (V (Proc.devRef .tc main_v3)) (V (Proc.devRef .tc main_arg2)) i * (V (Proc.devRef .tc main_arg4)) (ix2 i q) := by
  unfold sc var mean
  skip
  after_reads_at

theorem k_bwd (i : Fin 128) (q : Fin 1024) : after hostB V (Proc.devRef .tc main_v25) (ix2 i q) =
    sc (V (Proc.devRef .tc main_v3)) (V (Proc.devRef .tc main_arg2)) i * (V (Proc.devRef .tc main_arg7)) (ix2 i q) := by
  unfold sc var mean
  skip
  after_reads_at

theorem b_fwd (q : Fin 1024) : after hostB V (Proc.devRef .tc main_v28) (ix2 0 q) =
    ∑ i : Fin 128, (re (V (Proc.devRef .tc main_arg3) (ix1 i)) - mean (V (Proc.devRef .tc main_v3)) i * sc (V (Proc.devRef .tc main_v3)) (V (Proc.devRef .tc main_arg2)) i) * (V (Proc.devRef .tc main_arg4)) (ix2 i q) + (V (Proc.devRef .tc main_arg6)) (ix1 q) := by
  unfold sc var mean
  dsimp only [re]
  after_reads_at

theorem b_bwd (q : Fin 1024) : after hostB V (Proc.devRef .tc main_v31) (ix2 0 q) =
    ∑ i : Fin 128, (re (V (Proc.devRef .tc main_arg3) (ix1 i)) - mean (V (Proc.devRef .tc main_v3)) i * sc (V (Proc.devRef .tc main_v3)) (V (Proc.devRef .tc main_arg2)) i) * (V (Proc.devRef .tc main_arg7)) (ix2 i q) + (V (Proc.devRef .tc main_arg9)) (ix1 q) := by
  unfold sc var mean
  dsimp only [re]
  after_reads_at

theorem xs (t : Fin 200) (p : Fin 1024) (e : Fin 128) : after hostB V (Proc.devRef .tc main_v32) (ix3 t p e) =
    (V (Proc.devRef .tc main_v2)) (ix2 ⟨t.val * 1024 + p.val, by omega⟩ e) := by
  skip
  skip
  after_reads_at

theorem ms (t : Fin 200) (p : Fin 1024) : after hostB V (Proc.devRef .tc main_v37) (ix3 t p 0) =
    (((Scalar.cmpi .ne ((V (Proc.devRef .tc main_arg0)) (ix2 p t) : BitVec 32) 0#32).toNat : ℕ) : EReal) := by
  skip
  skip
  after_reads_at
  rfl

theorem g2 (e : Fin 512) : after hostB V (Proc.devRef .tc main_v38) (ix2 0 e) =
    (V (Proc.devRef .tc main_arg10)) (ix1 e) := by
  skip
  skip
  after_reads_at

theorem be2 (e : Fin 512) : after hostB V (Proc.devRef .tc main_v39) (ix2 0 e) =
    (V (Proc.devRef .tc main_arg11)) (ix1 e) := by
  skip
  skip
  after_reads_at

theorem bd (e : Fin 64) : after hostB V (Proc.devRef .tc main_v40) (ix2 0 e) =
    (V (Proc.devRef .tc main_arg13)) (ix1 e) := by
  skip
  skip
  after_reads_at

end Cert.Proof.KerHost

end
-- ==== Proof.KerHead.lean ====
/-
  What the kernel computes of the two final states, element by element, over the extended reals.
-/
module

public import proofs.«01_k».proof.Proof.Rec
public import proofs.«01_k».proof.Proof.Alg
public import Idealize.ShloMosaic.Lib.Pointwise

@[expose] public section

set_option maxRecDepth 16384

noncomputable section

namespace Cert.Proof.KerHead

open Cert.KernelIdeal Cert.KernelIdeal.Gen
open Idealize.ShloMosaic Idealize.ShloMosaic.TcCoe

variable (hf hb : Vec Ideal S1024x256 .f32) (g2 b2 : Vec Ideal S1x512 .f32) (w : Vec Ideal S512x64 .f32) (bd : Vec Ideal S1x64 .f32)

open Cert.Alg (re)

abbrev NB : EReal := Ideal.ofBits .f32 0x44800000#32
abbrev EPS : EReal := Ideal.ofBits .f32 0x3A83126F#32
abbrev NI : EReal := Ideal.ofBits .f32 0xFF800000#32

/-- The mean and the variance of a state's column. -/
def mu (h : Vec Ideal S1024x256 .f32) (u : Fin 256) : EReal := Ideal.div (∑ p : Fin 1024, re (h (ix2 p u))) NB
def va (h : Vec Ideal S1024x256 .f32) (u : Fin 256) : EReal :=
  Ideal.div (∑ p : Fin 1024, re (h (ix2 p u)) * re (h (ix2 p u))) NB - mu h u * mu h u
/-- The normalised state. -/
def nrm (h : Vec Ideal S1024x256 .f32) (g b : Fin 256 → EReal) (p : Fin 1024) (u : Fin 256) : EReal :=
  g u * (re (h (ix2 p u)) - mu h u) * Ideal.rsqrt (va h u + EPS) + b u
/-- The dense layer. -/
def lin (p : Fin 1024) (q : Fin 64) : EReal :=
  ∑ u : Fin 256, nrm hf (fun u => re (g2 (ix2 0 ⟨u.val, by omega⟩))) (fun u => re (b2 (ix2 0 ⟨u.val, by omega⟩))) p u * re (w (ix2 ⟨u.val, by omega⟩ q))
  + ∑ u : Fin 256, nrm hb (fun u => re (g2 (ix2 0 ⟨256 + u.val, by omega⟩))) (fun u => re (b2 (ix2 0 ⟨256 + u.val, by omega⟩))) p u * re (w (ix2 ⟨256 + u.val, by omega⟩ q))
  + re (bd (ix2 0 q))
/-- The softmax of a row. -/
def smax (l : Fin 64 → EReal) (q : Fin 64) : EReal :=
  Ideal.div (Ideal.exp (l q - Finset.fold max NI l Finset.univ)) (∑ x : Fin 64, Ideal.exp (l x - Finset.fold max NI l Finset.univ))

theorem head_at (p : Fin 1024) (q : Fin 64) : k2_pay3 (k2_pay4 hf hb g2 b2 w bd) (ix2 p q) = smax (lin hf hb g2 b2 w bd p) q := by
  unfold smax lin nrm va mu
  dsimp only [re]
  unfold k2_pay3 k2_pay4
  pointwise
end Cert.Proof.KerHead

end
-- ==== Proof.KerVals.lean ====
/-
  What the kernel's last region finds and leaves, as functions of the arguments.
-/
module

public import proofs.«01_k».proof.Proof.Frames
public import proofs.«01_k».proof.Proof.KerSeq
public import proofs.«01_k».proof.Proof.KerHost
public import proofs.«01_k».proof.Proof.KerHead

@[expose] public section

set_option maxRecDepth 16384

noncomputable section

namespace Cert.Proof.KerVals

open Cert.KernelIdeal Cert.KernelIdeal.Gen Cert.Proof.Segs Cert.Proof.Main Cert.Proof.Frames Cert.Proof.KerSeq Cert.Proof.Gather
open Cert.Alg hiding re
open Cert.Proof.KerHost (NN EPS mean var re)
open Idealize.ShloMosaic Idealize.ShloMosaic.TcCoe
open Idealize.ShloMosaic.StableHlo

variable (m : (ℓ : Loc nD τ sig) → Buf (Elt Ideal) ℓ) (c : Dev nD)

/-- The token of a row, the row gathered for it, and its mask. -/
def tok (p : Fin 1024) (t : Fin 200) : BitVec 32 := (m (c, Proc.devRef .tc main_arg0) : IVec S1024x200 32) (ix2 p t)
def X (p : Fin 1024) (t : Fin 200) (e : Fin 128) : EReal :=
  (m (c, Proc.devRef .tc main_arg1) : Vec Ideal S100000x128 .f32) (ix2 ⟨(tok m c p t).toNat % 100000, Nat.mod_lt _ (by decide)⟩ e)
def mk (p : Fin 1024) (t : Fin 200) : BitVec 1 := IntOp.cmpi .ne (tok m c p t) 0#32
def a2 (e : Fin 128) : EReal := (m (c, Proc.devRef .tc main_arg2) : Vec Ideal S128 .f32) (ix1 e)
def a3 (e : Fin 128) : EReal := (m (c, Proc.devRef .tc main_arg3) : Vec Ideal S128 .f32) (ix1 e)
def a4 (i : Fin 128) (q : Fin 1024) : EReal := (m (c, Proc.devRef .tc main_arg4) : Vec Ideal S128x1024 .f32) (ix2 i q)
def a5 (i : Fin 256) (q : Fin 1024) : EReal := (m (c, Proc.devRef .tc main_arg5) : Vec Ideal S256x1024 .f32) (ix2 i q)
def a6 (q : Fin 1024) : EReal := (m (c, Proc.devRef .tc main_arg6) : Vec Ideal S1024 .f32) (ix1 q)
def a7 (i : Fin 128) (q : Fin 1024) : EReal := (m (c, Proc.devRef .tc main_arg7) : Vec Ideal S128x1024 .f32) (ix2 i q)
def a8 (i : Fin 256) (q : Fin 1024) : EReal := (m (c, Proc.devRef .tc main_arg8) : Vec Ideal S256x1024 .f32) (ix2 i q)
def a9 (q : Fin 1024) : EReal := (m (c, Proc.devRef .tc main_arg9) : Vec Ideal S1024 .f32) (ix1 q)
def a10 (e : Fin 512) : EReal := (m (c, Proc.devRef .tc main_arg10) : Vec Ideal S512 .f32) (ix1 e)
def a11 (e : Fin 512) : EReal := (m (c, Proc.devRef .tc main_arg11) : Vec Ideal S512 .f32) (ix1 e)
def a12 (e : Fin 512) (q : Fin 64) : EReal := (m (c, Proc.devRef .tc main_arg12) : Vec Ideal S512x64 .f32) (ix2 e q)
def a13 (q : Fin 64) : EReal := (m (c, Proc.devRef .tc main_arg13) : Vec Ideal S64 .f32) (ix1 q)

/-- The buffers the second host stretch reads. -/
def S : Valuation τ sig (Elt Ideal) := VS (VG m) c
theorem VH_eq : VH m c = after hostB (S m c) := rfl
theorem S_of (r : Ref sig .tc) (h : r ∉ hostA_W ++ [main_v2, main_v3]) : S m c (Proc.devRef .tc r) = m (c, Proc.devRef .tc r) := by
  have h2 : ∀ b ∈ [main_v2, main_v3], r ≠ b := fun b hb e => h (List.mem_append_right _ (e ▸ hb))
  exact (VS_of (VG m) c r (h2 _ (by decide))).trans ((VG_of m c r (h2 _ (by decide))).trans (VA_of m c r fun hh => h (List.mem_append_left _ hh)))
theorem H_of (r : Ref sig .tc) (h : r ∉ hostA_W ++ [main_v2, main_v3]) (h' : r ∉ hostB_W) : vals (VH m) c r = m (c, Proc.devRef .tc r) :=
  (VH_of m c r h').trans (S_of m c r h)

/-- The gathered rows. -/
abbrev Gr : Vec Ideal S204800x128 .f32 := vals (VG m) c main_v2
theorem Gr_at (p : Fin 1024) (t : Fin 200) (r : Fin 204800) (hr : r.val = t.val * 1024 + p.val) (e : Fin 128) : Gr m c (ix2 r e) = X m c p t e := by
  unfold Gr
  rw [VG_self, VA_of m c main_arg1 (by decide +kernel)]
  show gath (m (c, Proc.devRef .tc main_arg1) : Vec Ideal S100000x128 .f32) (ixs m c) (ix2 r e) = _
  unfold gath X
  have h := ixs_apply m c (at1 r)
  have hp : p.val < 1024 := p.isLt
  have ht : tokAt r.val r.isLt = ix2 p t := by
    unfold tokAt
    refine congrArg₂ ix2 (Fin.ext ?_) (Fin.ext ?_)
    · show r.val % 1024 = p.val
      omega
    · show r.val / 1024 = t.val
      omega
  have h' : ixs m c (at1 r) = tok m c p t := h.trans (congrArg (m (c, Proc.devRef .tc main_arg0) : IVec S1024x200 32) ht)
  refine congrArg (m (c, Proc.devRef .tc main_arg1) : Vec Ideal S100000x128 .f32) (funext fun a => Fin.ext ?_)
  match a with
  | ⟨0, _⟩ => exact congrArg (fun w : BitVec 32 => w.toNat % 100000) h'
  | ⟨1, _⟩ => rfl
theorem g_at (p : Fin 1024) (t : Fin 200) (e : Fin 128) : g (Gr m c) e (t.val * 1024 + p.val) = X m c p t e := by
  unfold g
  refine Gr_at m c p t _ ?_ e
  have := p.isLt
  have := t.isLt
  show (t.val * 1024 + p.val) % 204800 = t.val * 1024 + p.val
  omega

/-- The mean, the variance and the scale. -/
def M1 (e : Fin 128) : EReal := Ideal.div (∑ p : Fin 1024, ∑ t : Fin 200, X m c p t e) NN
def V1 (e : Fin 128) : EReal := Ideal.div (∑ p : Fin 1024, ∑ t : Fin 200, X m c p t e * X m c p t e) NN - M1 m c e * M1 m c e

theorem S_v3 : S m c (Proc.devRef .tc main_v3) = Stats.acc (Gr m c) 49 := VS_self (VG m) c
theorem mean_eq (e : Fin 128) : mean (S m c (Proc.devRef .tc main_v3)) e = M1 m c e := by
  rw [S_v3]
  unfold mean M1
  refine congrArg (fun s : EReal => Ideal.div s NN) (((acc_sums (Gr m c) e 49).1.trans (reblock _)).trans ?_)
  exact Finset.sum_congr rfl fun p _ => Finset.sum_congr rfl fun t _ => g_at m c p t e
theorem var_eq (e : Fin 128) : var (S m c (Proc.devRef .tc main_v3)) e = V1 m c e := by
  unfold var
  rw [mean_eq, S_v3]
  unfold V1
  refine congrArg (fun s : EReal => Ideal.div s NN - M1 m c e * M1 m c e) (((acc_sums (Gr m c) e 49).2.trans (reblock fun r => g (Gr m c) e r * g (Gr m c) e r)).trans ?_)
  exact Finset.sum_congr rfl fun p _ => Finset.sum_congr rfl fun t _ => by rw [g_at m c p t e]
theorem sc_eq (e : Fin 128) : KerHost.sc (S m c (Proc.devRef .tc main_v3)) (S m c (Proc.devRef .tc main_arg2)) e = a2 m c e * Ideal.rsqrt (V1 m c e + EPS) := by
  unfold KerHost.sc
  rw [var_eq, S_of m c main_arg2 (by decide +kernel)]
  rfl

theorem H_v22 (i : Fin 128) (q : Fin 1024) : re (vals (VH m) c main_v22 (ix2 i q)) = a2 m c i * Ideal.rsqrt (V1 m c i + EPS) * a4 m c i q := by
  refine (KerHost.k_fwd (S m c) i q).trans ?_
  rw [sc_eq, S_of m c main_arg4 (by decide +kernel)]
  rfl
theorem H_v28 (q : Fin 1024) : re (vals (VH m) c main_v28 (ix2 0 q)) =
    ∑ i : Fin 128, (a3 m c i - M1 m c i * (a2 m c i * Ideal.rsqrt (V1 m c i + EPS))) * a4 m c i q + a6 m c q := by
  refine (KerHost.b_fwd (S m c) q).trans ?_
  rw [S_of m c main_arg3 (by decide +kernel), S_of m c main_arg4 (by decide +kernel), S_of m c main_arg6 (by decide +kernel)]
  refine congrArg (fun s : EReal => s + a6 m c q) (Finset.sum_congr rfl fun i _ => ?_)
  rw [sc_eq, mean_eq]
  rfl

theorem H_v25 (i : Fin 128) (q : Fin 1024) : re (vals (VH m) c main_v25 (ix2 i q)) = a2 m c i * Ideal.rsqrt (V1 m c i + EPS) * a7 m c i q := by
  refine (KerHost.k_bwd (S m c) i q).trans ?_
  rw [sc_eq, S_of m c main_arg7 (by decide +kernel)]
  rfl
theorem H_v31 (q : Fin 1024) : re (vals (VH m) c main_v31 (ix2 0 q)) =
    ∑ i : Fin 128, (a3 m c i - M1 m c i * (a2 m c i * Ideal.rsqrt (V1 m c i + EPS))) * a7 m c i q + a9 m c q := by
  refine (KerHost.b_bwd (S m c) q).trans ?_
  rw [S_of m c main_arg3 (by decide +kernel), S_of m c main_arg7 (by decide +kernel), S_of m c main_arg9 (by decide +kernel)]
  refine congrArg (fun s : EReal => s + a9 m c q) (Finset.sum_congr rfl fun i _ => ?_)
  rw [sc_eq, mean_eq]
  rfl

theorem H_v32 (t : Fin 200) (p : Fin 1024) (e : Fin 128) : re (vals (VH m) c main_v32 (ix3 t p e)) = X m c p t e := by
  refine (KerHost.xs (S m c) t p e).trans ?_
  rw [show S m c (Proc.devRef .tc main_v2) = Gr m c from VS_of (VG m) c main_v2 (by decide)]
  exact Gr_at m c p t _ rfl e
theorem H_v37 (t : Fin 200) (p : Fin 1024) : re (vals (VH m) c main_v37 (ix3 t p 0)) = (((mk m c p t).toNat : ℝ) : EReal) := by
  refine (KerHost.ms (S m c) t p).trans ?_
  rw [S_of m c main_arg0 (by decide +kernel)]
  exact EReal.coe_natCast.symm
theorem H_v38 (e : Fin 512) : re (vals (VH m) c main_v38 (ix2 0 e)) = a10 m c e := by
  refine (KerHost.g2 (S m c) e).trans ?_
  rw [S_of m c main_arg10 (by decide +kernel)]
  rfl
theorem H_v39 (e : Fin 512) : re (vals (VH m) c main_v39 (ix2 0 e)) = a11 m c e := by
  refine (KerHost.be2 (S m c) e).trans ?_
  rw [S_of m c main_arg11 (by decide +kernel)]
  rfl
theorem H_v40 (e : Fin 64) : re (vals (VH m) c main_v40 (ix2 0 e)) = a13 m c e := by
  refine (KerHost.bd (S m c) e).trans ?_
  rw [S_of m c main_arg13 (by decide +kernel)]
  rfl
theorem H_arg5 : vals (VH m) c main_arg5 = m (c, Proc.devRef .tc main_arg5) := H_of m c main_arg5 (by decide +kernel) (by decide +kernel)
theorem H_arg8 : vals (VH m) c main_arg8 = m (c, Proc.devRef .tc main_arg8) := H_of m c main_arg8 (by decide +kernel) (by decide +kernel)
theorem H_arg12 : vals (VH m) c main_arg12 = m (c, Proc.devRef .tc main_arg12) := H_of m c main_arg12 (by decide +kernel) (by decide +kernel)

end Cert.Proof.KerVals

end
-- ==== Proof.RefOps.lean ====
/-
  The plain program `ReferenceIdeal`: its host operations as lists, what each list writes, and the program as the chain of
  those lists and its two counted loops.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2000

noncomputable section

namespace Cert.ReferenceIdeal.Ops

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 3 host operations, in order. -/
abbrev main_part0_ops0 : List (HloOp τ sig (Elt F)) :=
  [ StableHlo.nullary main_c (constantI S_ 32 0#32),
    StableHlo.unary main_c main_v0 (broadcastInDim S1024x200 ![] bcast_S_S1024x200 : (⟨S_, .i32⟩ : BufTy).Contents (Elt F) → (⟨S1024x200, .i32⟩ : BufTy).Contents (Elt F)),
    StableHlo.binary main_arg0 main_v0 main_v1 (cmpi .ne : (⟨S1024x200, .i32⟩ : BufTy).Contents (Elt F) → (⟨S1024x200, .i32⟩ : BufTy).Contents (Elt F) → (⟨S1024x200, .i1⟩ : BufTy).Contents (Elt F)) ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.binary_bufs_sub ..⟩
theorem main_part0_ops0_fresh : (main_part0_ops0 : List (HloOp τ sig (Elt F))).Forall fun op => op.fresh = ∅ :=
  StableHlo.forall_fresh_of_map rfl
/-- What `main_part0_ops0` writes. -/
abbrev main_part0_ops0_W : List (Ref sig .tc) := [main_c, main_v0, main_v1]
theorem main_part0_ops0_writes : (main_part0_ops0 : List (HloOp τ sig (Elt F))).Forall fun op => op.writes ⊆ (main_part0_ops0_W.map (Proc.devRef (τ := τ) .tc)).toFinset :=
  StableHlo.forall_writes_sub_of_map rfl
/-- 23 host operations, in order. -/
abbrev main_part0_ops1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024x200, .i32⟩) (broadcastInDim S1024x200 ![] bcast_S_S1024x200),
    StableHlo.TRef.binary (.of main_arg0 : StableHlo.TRef sig ⟨S1024x200, .i32⟩) (.of main_call0_v0 : StableHlo.TRef sig ⟨S1024x200, .i32⟩) (.of main_call0_v1 : StableHlo.TRef sig ⟨S1024x200, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1024x200, .i32⟩) (broadcastInDim S1024x200 ![] bcast_S_S1024x200),
    StableHlo.TRef.binary (.of main_arg0 : StableHlo.TRef sig ⟨S1024x200, .i32⟩) (.of main_call0_v2 : StableHlo.TRef sig ⟨S1024x200, .i32⟩) (.of main_call0_v3 : StableHlo.TRef sig ⟨S1024x200, .i32⟩) addi,
    StableHlo.TRef.ternary (.of main_call0_v1 : StableHlo.TRef sig ⟨S1024x200, .i1⟩) (.of main_call0_v3 : StableHlo.TRef sig ⟨S1024x200, .i32⟩) (.of main_arg0 : StableHlo.TRef sig ⟨S1024x200, .i32⟩) (.of main_call0_v4 : StableHlo.TRef sig ⟨S1024x200, .i32⟩) select,
    StableHlo.TRef.unary main_call0_call0.v0 (.of main_call0_v5 : StableHlo.TRef sig ⟨S1024x200x1, .i32⟩) (broadcastInDim S1024x200x1 ![0, 1] bcast_S1024x200_S1024x200x1_0_1),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x200x1, .i32⟩) (broadcastInDim S1024x200x1 ![] bcast_S_S1024x200x1),
    StableHlo.TRef.binary (.of main_call0_v5 : StableHlo.TRef sig ⟨S1024x200x1, .i32⟩) (.of main_call0_v6 : StableHlo.TRef sig ⟨S1024x200x1, .i32⟩) (.of main_call0_v7 : StableHlo.TRef sig ⟨S1024x200x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S1024x200x1, .i32⟩) (broadcastInDim S1024x200x1 ![0, 1, 2] bcast_S1x1x1_S1024x200x1_0_1_2),
    StableHlo.TRef.binary (.of main_call0_v5 : StableHlo.TRef sig ⟨S1024x200x1, .i32⟩) (.of main_call0_v9 : StableHlo.TRef sig ⟨S1024x200x1, .i32⟩) (.of main_call0_v10 : StableHlo.TRef sig ⟨S1024x200x1, .i1⟩) (cmpi .sle),
    StableHlo.TRef.binary (.of main_call0_v7 : StableHlo.TRef sig ⟨S1024x200x1, .i1⟩) (.of main_call0_v10 : StableHlo.TRef sig ⟨S1024x200x1, .i1⟩) (.of main_call0_v11 : StableHlo.TRef sig ⟨S1024x200x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x200x1, .i1⟩) (.of main_call0_c_3 : StableHlo.TRef sig ⟨S_, .i1⟩) (.of main_call0_v12 : StableHlo.TRef sig ⟨S1024x200, .i1⟩) (fun x v => Host.reduce IntOp.andi x v reducesTo_S1024x200x1_S1024x200_d2 h_S_),
    StableHlo.TRef.binary (.of main_arg1 : StableHlo.TRef sig ⟨S100000x128, .f32⟩) (.of main_call0_v5 : StableHlo.TRef sig ⟨S1024x200x1, .i32⟩) (.of main_call0_v13 : StableHlo.TRef sig ⟨S1024x200x128, .f32⟩) (fun x i => Host.gather gather_S100000x128_S1024x200x1_S1024x200x128_2_0_n_n_0_2_1128 x i),
    StableHlo.TRef.unary (.of main_call0_v12 : StableHlo.TRef sig ⟨S1024x200, .i1⟩) (.of main_call0_v14 : StableHlo.TRef sig ⟨S1024x200x128, .i1⟩) (broadcastInDim S1024x200x128 ![0, 1] bcast_S1024x200_S1024x200x128_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1024x200x128, .f32⟩) (broadcastInDim S1024x200x128 ![] bcast_S_S1024x200x128),
    StableHlo.TRef.ternary (.of main_call0_v14 : StableHlo.TRef sig ⟨S1024x200x128, .i1⟩) (.of main_call0_v13 : StableHlo.TRef sig ⟨S1024x200x128, .f32⟩) (.of main_call0_v15 : StableHlo.TRef sig ⟨S1024x200x128, .f32⟩) (.of main_v2 : StableHlo.TRef sig ⟨S1024x200x128, .f32⟩) select ]
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem main_part0_ops1_fresh : (main_part0_ops1 : List (HloOp τ sig (Elt F))).Forall fun op => op.fresh = ∅ :=
  StableHlo.forall_fresh_of_map rfl
/-- What `main_part0_ops1` writes. -/
abbrev main_part0_ops1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2]
theorem main_part0_ops1_writes : (main_part0_ops1 : List (HloOp τ sig (Elt F))).Forall fun op => op.writes ⊆ (main_part0_ops1_W.map (Proc.devRef (τ := τ) .tc)).toFinset :=
  StableHlo.forall_writes_sub_of_map rfl
/-- 6 host operations, in order. -/
abbrev main_part0_ops2 : List (HloOp τ sig (Elt F)) :=
  [ StableHlo.nullary main_cst (constant S_ .f32 0x00000000#32),
    StableHlo.binary main_v2 main_cst main_v3 ((fun x v => Host.reduceAdd x v reducesTo_S1024x200x128_S128_d0_1 h_S_) : (⟨S1024x200x128, .f32⟩ : BufTy).Contents (Elt F) → (⟨S_, .f32⟩ : BufTy).Contents (Elt F) → (⟨S128, .f32⟩ : BufTy).Contents (Elt F)),
    StableHlo.nullary main_cst_0 (constant S_ .f32 0x48480000#32),
    StableHlo.unary main_cst_0 main_v4 (broadcastInDim S128 ![] bcast_S_S128 : (⟨S_, .f32⟩ : BufTy).Contents (Elt F) → (⟨S128, .f32⟩ : BufTy).Contents (Elt F)),
    StableHlo.binary main_v3 main_v4 main_v5 (Host.divf : (⟨S128, .f32⟩ : BufTy).Contents (Elt F) → (⟨S128, .f32⟩ : BufTy).Contents (Elt F) → (⟨S128, .f32⟩ : BufTy).Contents (Elt F)),
    StableHlo.nullary main_c_1 (constantI S_ 32 0#32) ]
theorem main_part0_ops2_sub : (main_part0_ops2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem main_part0_ops2_fresh : (main_part0_ops2 : List (HloOp τ sig (Elt F))).Forall fun op => op.fresh = ∅ :=
  StableHlo.forall_fresh_of_map rfl
/-- What `main_part0_ops2` writes. -/
abbrev main_part0_ops2_W : List (Ref sig .tc) := [main_cst, main_v3, main_cst_0, main_v4, main_v5, main_c_1]
theorem main_part0_ops2_writes : (main_part0_ops2 : List (HloOp τ sig (Elt F))).Forall fun op => op.writes ⊆ (main_part0_ops2_W.map (Proc.devRef (τ := τ) .tc)).toFinset :=
  StableHlo.forall_writes_sub_of_map rfl
/-- 22 host operations, in order. -/
abbrev main_part0_ops3 : List (HloOp τ sig (Elt F)) :=
  [ StableHlo.TRef.nullary (.of main_call1_cst : StableHlo.TRef sig ⟨S_, .f32⟩) (constant S_ .f32 0x00000000#32),
    StableHlo.TRef.binary (.of main_v2 : StableHlo.TRef sig ⟨S1024x200x128, .f32⟩) (.of main_call1_cst : StableHlo.TRef sig ⟨S_, .f32⟩) (.of main_call1_v0 : StableHlo.TRef sig ⟨S128, .f32⟩) (fun x v => Host.reduceAdd x v reducesTo_S1024x200x128_S128_d0_1 h_S_),
    StableHlo.TRef.unary (.of main_call1_v0 : StableHlo.TRef sig ⟨S128, .f32⟩) (.of main_call1_v1 : StableHlo.TRef sig ⟨S1x1x128, .f32⟩) (broadcastInDim S1x1x128 ![2] bcast_S128_S1x1x128_2),
    StableHlo.TRef.nullary (.of main_call1_cst_0 : StableHlo.TRef sig ⟨S_, .f32⟩) (constant S_ .f32 0x48480000#32),
    StableHlo.TRef.unary (.of main_call1_cst_0 : StableHlo.TRef sig ⟨S_, .f32⟩) (.of main_call1_v2 : StableHlo.TRef sig ⟨S1x1x128, .f32⟩) (broadcastInDim S1x1x128 ![] bcast_S_S1x1x128),
    StableHlo.TRef.binary (.of main_call1_v1 : StableHlo.TRef sig ⟨S1x1x128, .f32⟩) (.of main_call1_v2 : StableHlo.TRef sig ⟨S1x1x128, .f32⟩) (.of main_call1_v3 : StableHlo.TRef sig ⟨S1x1x128, .f32⟩) Host.divf,
    StableHlo.TRef.unary (.of main_call1_v3 : StableHlo.TRef sig ⟨S1x1x128, .f32⟩) (.of main_call1_v4 : StableHlo.TRef sig ⟨S1024x200x128, .f32⟩) (broadcastInDim S1024x200x128 ![0, 1, 2] bcast_S1x1x128_S1024x200x128_0_1_2),
    StableHlo.TRef.binary (.of main_v2 : StableHlo.TRef sig ⟨S1024x200x128, .f32⟩) (.of main_call1_v4 : StableHlo.TRef sig ⟨S1024x200x128, .f32⟩) (.of main_call1_v5 : StableHlo.TRef sig ⟨S1024x200x128, .f32⟩) subf,
    StableHlo.TRef.binary (.of main_call1_v5 : StableHlo.TRef sig ⟨S1024x200x128, .f32⟩) (.of main_call1_v5 : StableHlo.TRef sig ⟨S1024x200x128, .f32⟩) (.of main_call1_v6 : StableHlo.TRef sig ⟨S1024x200x128, .f32⟩) mulf,
    StableHlo.TRef.unary (.of main_c_1 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x48480000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S1024x200x128, .f32⟩) (.of main_call1_cst_2 : StableHlo.TRef sig ⟨S_, .f32⟩) (.of main_call1_v9 : StableHlo.TRef sig ⟨S128, .f32⟩) (fun x v => Host.reduceAdd x v reducesTo_S1024x200x128_S128_d0_1 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v6 : StableHlo.TRef sig ⟨S128, .f32⟩) (fun p a b => select (broadcastInDim S128 ![] bcast_S_S128 p) a b) ]
theorem main_part0_ops3_sub : (main_part0_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part0_ops3_fresh : (main_part0_ops3 : List (HloOp τ sig (Elt F))).Forall fun op => op.fresh = ∅ :=
  StableHlo.forall_fresh_of_map rfl
/-- What `main_part0_ops3` writes. -/
abbrev main_part0_ops3_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v6]
theorem main_part0_ops3_writes : (main_part0_ops3 : List (HloOp τ sig (Elt F))).Forall fun op => op.writes ⊆ (main_part0_ops3_W.map (Proc.devRef (τ := τ) .tc)).toFinset :=
  StableHlo.forall_writes_sub_of_map rfl
/-- 31 host operations, in order. -/
abbrev main_part0_ops4 : List (HloOp τ sig (Elt F)) :=
  [ StableHlo.unary main_v5 main_v7 (broadcastInDim S1x1x128 ![2] bcast_S128_S1x1x128_2 : (⟨S128, .f32⟩ : BufTy).Contents (Elt F) → (⟨S1x1x128, .f32⟩ : BufTy).Contents (Elt F)),
    StableHlo.unary main_v7 main_v8 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v2 main_v8 main_v9 (subf : (⟨S1024x200x128, .f32⟩ : BufTy).Contents (Elt F) → (⟨S1024x200x128, .f32⟩ : BufTy).Contents (Elt F) → (⟨S1024x200x128, .f32⟩ : BufTy).Contents (Elt F)),
    StableHlo.unary main_arg2 main_v10 (broadcastInDim S1x1x128 ![2] bcast_S128_S1x1x128_2 : (⟨S128, .f32⟩ : BufTy).Contents (Elt F) → (⟨S1x1x128, .f32⟩ : BufTy).Contents (Elt F)),
    StableHlo.unary main_v10 main_v11 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v11 main_v9 main_v12 (mulf : (⟨S1024x200x128, .f32⟩ : BufTy).Contents (Elt F) → (⟨S1024x200x128, .f32⟩ : BufTy).Contents (Elt F) → (⟨S1024x200x128, .f32⟩ : BufTy).Contents (Elt F)),
    StableHlo.nullary main_cst_2 (constant S_ .f32 0x3A83126F#32),
    StableHlo.unary main_cst_2 main_v13 (broadcastInDim S128 ![] bcast_S_S128 : (⟨S_, .f32⟩ : BufTy).Contents (Elt F) → (⟨S128, .f32⟩ : BufTy).Contents (Elt F)),
    StableHlo.binary main_v6 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.sqrt : (⟨S128, .f32⟩ : BufTy).Contents (Elt F) → (⟨S128, .f32⟩ : BufTy).Contents (Elt F)),
    StableHlo.unary main_v15 main_v16 (broadcastInDim S1x1x128 ![2] bcast_S128_S1x1x128_2 : (⟨S128, .f32⟩ : BufTy).Contents (Elt F) → (⟨S1x1x128, .f32⟩ : BufTy).Contents (Elt F)),
    StableHlo.unary main_v16 main_v17 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v12 main_v17 main_v18 (Host.divf : (⟨S1024x200x128, .f32⟩ : BufTy).Contents (Elt F) → (⟨S1024x200x128, .f32⟩ : BufTy).Contents (Elt F) → (⟨S1024x200x128, .f32⟩ : BufTy).Contents (Elt F)),
    StableHlo.unary main_arg3 main_v19 (broadcastInDim S1x1x128 ![2] bcast_S128_S1x1x128_2 : (⟨S128, .f32⟩ : BufTy).Contents (Elt F) → (⟨S1x1x128, .f32⟩ : BufTy).Contents (Elt F)),
    StableHlo.unary main_v19 main_v20 (broadcastInDim S1024x200x128 ![0, 1, 2] bcast_S1x1x128_S1024x200x128_0_1_2 : (⟨S1x1x128, .f32⟩ : BufTy).Contents (Elt F) → (⟨S1024x200x128, .f32⟩ : BufTy).Contents (Elt F)),
    StableHlo.binary main_v18 main_v20 main_v21 (addf : (⟨S1024x200x128, .f32⟩ : BufTy).Contents (Elt F) → (⟨S1024x200x128, .f32⟩ : BufTy).Contents (Elt F) → (⟨S1024x200x128, .f32⟩ : BufTy).Contents (Elt F)),
    StableHlo.unary main_v21 main_v22 ((transpose S200x1024x128 [1, 0, 2] · transposes_S1024x200x128_S200x1024x128_1_0_2) : (⟨S1024x200x128, .f32⟩ : BufTy).Contents (Elt F) → (⟨S200x1024x128, .f32⟩ : BufTy).Contents (Elt F)),
    StableHlo.unary main_v1 main_v23 ((transpose S200x1024 [1, 0] · transposes_S1024x200_S200x1024_1_0) : (⟨S1024x200, .i1⟩ : BufTy).Contents (Elt F) → (⟨S200x1024, .i1⟩ : BufTy).Contents (Elt F)),
    StableHlo.nullary main_cst_3 (constant S_ .f32 0x00000000#32),
    StableHlo.unary main_cst_3 main_v24 (broadcastInDim S1024x256 ![] bcast_S_S1024x256 : (⟨S_, .f32⟩ : BufTy).Contents (Elt F) → (⟨S1024x256, .f32⟩ : BufTy).Contents (Elt F)),
    StableHlo.nullary main_cst_4 (constant S_ .f32 0x00000000#32),
    StableHlo.unary main_cst_4 main_v25 (broadcastInDim S1024x256 ![] bcast_S_S1024x256 : (⟨S_, .f32⟩ : BufTy).Contents (Elt F) → (⟨S1024x256, .f32⟩ : BufTy).Contents (Elt F)),
    StableHlo.nullary main_c_5 (constantI S_ 32 0#32),
    StableHlo.unary main_v22 main_v26_0 id,
    StableHlo.unary main_v23 main_v26_1 id,
    StableHlo.unary main_arg4 main_v26_2 id,
    StableHlo.unary main_arg5 main_v26_3 id,
    StableHlo.unary main_arg6 main_v26_4 id,
    StableHlo.unary main_c_5 main_v26_5 id,
    StableHlo.unary main_v24 main_v26_6 id,
    StableHlo.unary main_v25 main_v26_7 id ]
theorem main_part0_ops4_sub : (main_part0_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_part0_ops4_fresh : (main_part0_ops4 : List (HloOp τ sig (Elt F))).Forall fun op => op.fresh = ∅ :=
  StableHlo.forall_fresh_of_map rfl
/-- What `main_part0_ops4` writes. -/
abbrev main_part0_ops4_W : List (Ref sig .tc) := [main_v7, main_v8, main_v9, main_v10, main_v11, main_v12, main_cst_2, main_v13, main_v14, main_v15, main_v16, main_v17, main_v18, main_v19, main_v20, main_v21, main_v22, main_v23, main_cst_3, main_v24, main_cst_4, main_v25, main_c_5, main_v26_0, main_v26_1, main_v26_2, main_v26_3, main_v26_4, main_v26_5, main_v26_6, main_v26_7]
theorem main_part0_ops4_writes : (main_part0_ops4 : List (HloOp τ sig (Elt F))).Forall fun op => op.writes ⊆ (main_part0_ops4_W.map (Proc.devRef (τ := τ) .tc)).toFinset :=
  StableHlo.forall_writes_sub_of_map rfl
/-- 13 host operations, in order. -/
abbrev main_part0_ops5 : List (HloOp τ sig (Elt F)) :=
  [ StableHlo.nullary main_cst_6 (constant S_ .f32 0x00000000#32),
    StableHlo.unary main_cst_6 main_v27 (broadcastInDim S1024x256 ![] bcast_S_S1024x256 : (⟨S_, .f32⟩ : BufTy).Contents (Elt F) → (⟨S1024x256, .f32⟩ : BufTy).Contents (Elt F)),
    StableHlo.nullary main_cst_7 (constant S_ .f32 0x00000000#32),
    StableHlo.unary main_cst_7 main_v28 (broadcastInDim S1024x256 ![] bcast_S_S1024x256 : (⟨S_, .f32⟩ : BufTy).Contents (Elt F) → (⟨S1024x256, .f32⟩ : BufTy).Contents (Elt F)),
    StableHlo.nullary main_c_8 (constantI S_ 32 0#32),
    StableHlo.unary main_v22 main_v29_0 id,
    StableHlo.unary main_v23 main_v29_1 id,
    StableHlo.unary main_arg7 main_v29_2 id,
    StableHlo.unary main_arg8 main_v29_3 id,
    StableHlo.unary main_arg9 main_v29_4 id,
    StableHlo.unary main_c_8 main_v29_5 id,
    StableHlo.unary main_v27 main_v29_6 id,
    StableHlo.unary main_v28 main_v29_7 id ]
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_part0_ops5_fresh : (main_part0_ops5 : List (HloOp τ sig (Elt F))).Forall fun op => op.fresh = ∅ :=
  StableHlo.forall_fresh_of_map rfl
/-- What `main_part0_ops5` writes. -/
abbrev main_part0_ops5_W : List (Ref sig .tc) := [main_cst_6, main_v27, main_cst_7, main_v28, main_c_8, main_v29_0, main_v29_1, main_v29_2, main_v29_3, main_v29_4, main_v29_5, main_v29_6, main_v29_7]
theorem main_part0_ops5_writes : (main_part0_ops5 : List (HloOp τ sig (Elt F))).Forall fun op => op.writes ⊆ (main_part0_ops5_W.map (Proc.devRef (τ := τ) .tc)).toFinset :=
  StableHlo.forall_writes_sub_of_map rfl
/-- 3 host operations, in order. -/
abbrev main_part0_ops6 : List (HloOp τ sig (Elt F)) :=
  [ StableHlo.binary main_v26_6 main_v29_6 main_v30 ((fun a b => concatenate S1024x512 1 [⟨S1024x256, a⟩, ⟨S1024x256, b⟩] concatenates_S1024x256_S1024x256_S1024x512_d1) : (⟨S1024x256, .f32⟩ : BufTy).Contents (Elt F) → (⟨S1024x256, .f32⟩ : BufTy).Contents (Elt F) → (⟨S1024x512, .f32⟩ : BufTy).Contents (Elt F)),
    StableHlo.nullary main_cst_9 (constant S_ .f32 0x00000000#32),
    StableHlo.binary main_v30 main_cst_9 main_v31 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)) ]
theorem main_part0_ops6_sub : (main_part0_ops6 : List (HloOp τ sig (Elt F))).Forall fun op => op.bufs ⊆ StableHlo.tcRefs τ sig :=
  ⟨StableHlo.binary_bufs_sub .., StableHlo.nullary_bufs_sub .., StableHlo.binary_bufs_sub ..⟩
theorem main_part0_ops6_fresh : (main_part0_ops6 : List (HloOp τ sig (Elt F))).Forall fun op => op.fresh = ∅ :=
  StableHlo.forall_fresh_of_map rfl
/-- What `main_part0_ops6` writes. -/
abbrev main_part0_ops6_W : List (Ref sig .tc) := [main_v30, main_cst_9, main_v31]
theorem main_part0_ops6_writes : (main_part0_ops6 : List (HloOp τ sig (Elt F))).Forall fun op => op.writes ⊆ (main_part0_ops6_W.map (Proc.devRef (τ := τ) .tc)).toFinset :=
  StableHlo.forall_writes_sub_of_map rfl
/-- The first printed part as a chain. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    HostLoop.enter 0,
    StableHlo.seq main_part0_ops5,
    HostLoop.enter 1 ]
  (StableHlo.seq main_part0_ops6) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl
/-- 4 host operations, in order. -/
abbrev main_part1_ops0 : List (HloOp τ sig (Elt F)) :=
  [ StableHlo.nullary main_cst_10 (constant S_ .f32 0x44800000#32),
    StableHlo.unary main_cst_10 main_v32 (broadcastInDim S512 ![] bcast_S_S512 : (⟨S_, .f32⟩ : BufTy).Contents (Elt F) → (⟨S512, .f32⟩ : BufTy).Contents (Elt F)),
    StableHlo.binary main_v31 main_v32 main_v33 (Host.divf : (⟨S512, .f32⟩ : BufTy).Contents (Elt F) → (⟨S512, .f32⟩ : BufTy).Contents (Elt F) → (⟨S512, .f32⟩ : BufTy).Contents (Elt F)),
    StableHlo.nullary main_c_11 (constantI S_ 32 0#32) ]
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem main_part1_ops0_fresh : (main_part1_ops0 : List (HloOp τ sig (Elt F))).Forall fun op => op.fresh = ∅ :=
  StableHlo.forall_fresh_of_map rfl
/-- What `main_part1_ops0` writes. -/
abbrev main_part1_ops0_W : List (Ref sig .tc) := [main_cst_10, main_v32, main_v33, main_c_11]
theorem main_part1_ops0_writes : (main_part1_ops0 : List (HloOp τ sig (Elt F))).Forall fun op => op.writes ⊆ (main_part1_ops0_W.map (Proc.devRef (τ := τ) .tc)).toFinset :=
  StableHlo.forall_writes_sub_of_map rfl
/-- 22 host operations, in order. -/
abbrev main_part1_ops1 : List (HloOp τ sig (Elt F)) :=
  [ StableHlo.TRef.nullary (.of main_call10_cst : StableHlo.TRef sig ⟨S_, .f32⟩) (constant S_ .f32 0x00000000#32),
    StableHlo.TRef.binary (.of main_v30 : StableHlo.TRef sig ⟨S1024x512, .f32⟩) (.of main_call10_cst : StableHlo.TRef sig ⟨S_, .f32⟩) (.of main_call10_v0 : StableHlo.TRef sig ⟨S512, .f32⟩) (fun x v => Host.reduceAdd x v reducesTo_S1024x512_S512_d0 h_S_),
    StableHlo.TRef.unary (.of main_call10_v0 : StableHlo.TRef sig ⟨S512, .f32⟩) (.of main_call10_v1 : StableHlo.TRef sig ⟨S1x512, .f32⟩) (broadcastInDim S1x512 ![1] bcast_S512_S1x512_1),
    StableHlo.TRef.nullary (.of main_call10_cst_0 : StableHlo.TRef sig ⟨S_, .f32⟩) (constant S_ .f32 0x44800000#32),
    StableHlo.TRef.unary (.of main_call10_cst_0 : StableHlo.TRef sig ⟨S_, .f32⟩) (.of main_call10_v2 : StableHlo.TRef sig ⟨S1x512, .f32⟩) (broadcastInDim S1x512 ![] bcast_S_S1x512),
    StableHlo.TRef.binary (.of main_call10_v1 : StableHlo.TRef sig ⟨S1x512, .f32⟩) (.of main_call10_v2 : StableHlo.TRef sig ⟨S1x512, .f32⟩) (.of main_call10_v3 : StableHlo.TRef sig ⟨S1x512, .f32⟩) Host.divf,
    StableHlo.TRef.unary (.of main_call10_v3 : StableHlo.TRef sig ⟨S1x512, .f32⟩) (.of main_call10_v4 : StableHlo.TRef sig ⟨S1024x512, .f32⟩) (broadcastInDim S1024x512 ![0, 1] bcast_S1x512_S1024x512_0_1),
    StableHlo.TRef.binary (.of main_v30 : StableHlo.TRef sig ⟨S1024x512, .f32⟩) (.of main_call10_v4 : StableHlo.TRef sig ⟨S1024x512, .f32⟩) (.of main_call10_v5 : StableHlo.TRef sig ⟨S1024x512, .f32⟩) subf,
    StableHlo.TRef.binary (.of main_call10_v5 : StableHlo.TRef sig ⟨S1024x512, .f32⟩) (.of main_call10_v5 : StableHlo.TRef sig ⟨S1024x512, .f32⟩) (.of main_call10_v6 : StableHlo.TRef sig ⟨S1024x512, .f32⟩) mulf,
    StableHlo.TRef.unary (.of main_c_11 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x44800000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S1024x512, .f32⟩) (.of main_call10_cst_2 : StableHlo.TRef sig ⟨S_, .f32⟩) (.of main_call10_v9 : StableHlo.TRef sig ⟨S512, .f32⟩) (fun x v => Host.reduceAdd x v reducesTo_S1024x512_S512_d0 h_S_),
    StableHlo.TRef.unary (.of main_call10_v8 : StableHlo.TRef sig ⟨S_, .f32⟩) (.of main_call10_v10 : StableHlo.TRef sig ⟨S512, .f32⟩) (broadcastInDim S512 ![] bcast_S_S512),
    StableHlo.TRef.binary (.of main_call10_v9 : StableHlo.TRef sig ⟨S512, .f32⟩) (.of main_call10_v10 : StableHlo.TRef sig ⟨S512, .f32⟩) (.of main_call10_v11 : StableHlo.TRef sig ⟨S512, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S512, .f32⟩) (broadcastInDim S512 ![] bcast_S_S512),
    StableHlo.TRef.ternary (.of main_call10_v12 : StableHlo.TRef sig ⟨S_, .i1⟩) (.of main_call10_v11 : StableHlo.TRef sig ⟨S512, .f32⟩) (.of main_call10_call0_v1 : StableHlo.TRef sig ⟨S512, .f32⟩) (.of main_v34 : StableHlo.TRef sig ⟨S512, .f32⟩) (fun p a b => select (broadcastInDim S512 ![] bcast_S_S512 p) a b) ]
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part1_ops1_fresh : (main_part1_ops1 : List (HloOp τ sig (Elt F))).Forall fun op => op.fresh = ∅ :=
  StableHlo.forall_fresh_of_map rfl
/-- What `main_part1_ops1` writes. -/
abbrev main_part1_ops1_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v34]
theorem main_part1_ops1_writes : (main_part1_ops1 : List (HloOp τ sig (Elt F))).Forall fun op => op.writes ⊆ (main_part1_ops1_W.map (Proc.devRef (τ := τ) .tc)).toFinset :=
  StableHlo.forall_writes_sub_of_map rfl
/-- 34 host operations, in order. -/
abbrev main_part1_ops2 : List (HloOp τ sig (Elt F)) :=
  ( StableHlo.unary main_v33 main_v35 (broadcastInDim S1x512 ![1] bcast_S512_S1x512_1 : (⟨S512, .f32⟩ : BufTy).Contents (Elt F) → (⟨S1x512, .f32⟩ : BufTy).Contents (Elt F))
  :: StableHlo.unary main_v35 main_v36 (broadcastInDim S1024x512 ![0, 1] bcast_S1x512_S1024x512_0_1 : (⟨S1x512, .f32⟩ : BufTy).Contents (Elt F) → (⟨S1024x512, .f32⟩ : BufTy).Contents (Elt F))
  :: StableHlo.binary main_v30 main_v36 main_v37 (subf : (⟨S1024x512, .f32⟩ : BufTy).Contents (Elt F) → (⟨S1024x512, .f32⟩ : BufTy).Contents (Elt F) → (⟨S1024x512, .f32⟩ : BufTy).Contents (Elt F))
  :: StableHlo.unary main_arg10 main_v38 (broadcastInDim S1x512 ![1] bcast_S512_S1x512_1 : (⟨S512, .f32⟩ : BufTy).Contents (Elt F) → (⟨S1x512, .f32⟩ : BufTy).Contents (Elt F))
  :: StableHlo.unary main_v38 main_v39 (broadcastInDim S1024x512 ![0, 1] bcast_S1x512_S1024x512_0_1 : (⟨S1x512, .f32⟩ : BufTy).Contents (Elt F) → (⟨S1024x512, .f32⟩ : BufTy).Contents (Elt F))
  :: StableHlo.binary main_v39 main_v37 main_v40 (mulf : (⟨S1024x512, .f32⟩ : BufTy).Contents (Elt F) → (⟨S1024x512, .f32⟩ : BufTy).Contents (Elt F) → (⟨S1024x512, .f32⟩ : BufTy).Contents (Elt F))
  :: StableHlo.nullary main_cst_12 (constant S_ .f32 0x3A83126F#32)
  :: StableHlo.unary main_cst_12 main_v41 (broadcastInDim S512 ![] bcast_S_S512 : (⟨S_, .f32⟩ : BufTy).Contents (Elt F) → (⟨S512, .f32⟩ : BufTy).Contents (Elt F))
  :: StableHlo.binary main_v34 main_v41 main_v42 (addf : (⟨S512, .f32⟩ : BufTy).Contents (Elt F) → (⟨S512, .f32⟩ : BufTy).Contents (Elt F) → (⟨S512, .f32⟩ : BufTy).Contents (Elt F))
  :: StableHlo.unary main_v42 main_v43 (Host.sqrt : (⟨S512, .f32⟩ : BufTy).Contents (Elt F) → (⟨S512, .f32⟩ : BufTy).Contents (Elt F))
  :: StableHlo.unary main_v43 main_v44 (broadcastInDim S1x512 ![1] bcast_S512_S1x512_1 : (⟨S512, .f32⟩ : BufTy).Contents (Elt F) → (⟨S1x512, .f32⟩ : BufTy).Contents (Elt F))
  :: StableHlo.unary main_v44 main_v45 (broadcastInDim S1024x512 ![0, 1] bcast_S1x512_S1024x512_0_1 : (⟨S1x512, .f32⟩ : BufTy).Contents (Elt F) → (⟨S1024x512, .f32⟩ : BufTy).Contents (Elt F))
  :: StableHlo.binary main_v40 main_v45 main_v46 (Host.divf : (⟨S1024x512, .f32⟩ : BufTy).Contents (Elt F) → (⟨S1024x512, .f32⟩ : BufTy).Contents (Elt F) → (⟨S1024x512, .f32⟩ : BufTy).Contents (Elt F))
  :: StableHlo.unary main_arg11 main_v47 (broadcastInDim S1x512 ![1] bcast_S512_S1x512_1 : (⟨S512, .f32⟩ : BufTy).Contents (Elt F) → (⟨S1x512, .f32⟩ : BufTy).Contents (Elt F))
  :: StableHlo.unary main_v47 main_v48 (broadcastInDim S1024x512 ![0, 1] bcast_S1x512_S1024x512_0_1 : (⟨S1x512, .f32⟩ : BufTy).Contents (Elt F) → (⟨S1024x512, .f32⟩ : BufTy).Contents (Elt F))
  :: StableHlo.binary main_v46 main_v48 main_v49 (addf : (⟨S1024x512, .f32⟩ : BufTy).Contents (Elt F) → (⟨S1024x512, .f32⟩ : BufTy).Contents (Elt F) → (⟨S1024x512, .f32⟩ : BufTy).Contents (Elt F))
  :: StableHlo.binary main_v49 main_arg12 main_v50 ((fun l r => Host.dotGeneral dot_S1024x512_S512x64_S1024x64_1_0_0_1_n_n none l r) : (⟨S1024x512, .f32⟩ : BufTy).Contents (Elt F) → (⟨S512x64, .f32⟩ : BufTy).Contents (Elt F) → (⟨S1024x64, .f32⟩ : BufTy).Contents (Elt F))
  :: StableHlo.unary main_arg13 main_v51 (broadcastInDim S1x64 ![1] bcast_S64_S1x64_1 : (⟨S64, .f32⟩ : BufTy).Contents (Elt F) → (⟨S1x64, .f32⟩ : BufTy).Contents (Elt F))
  :: StableHlo.unary main_v51 main_v52 (broadcastInDim S1024x64 ![0, 1] bcast_S1x64_S1024x64_0_1 : (⟨S1x64, .f32⟩ : BufTy).Contents (Elt F) → (⟨S1024x64, .f32⟩ : BufTy).Contents (Elt F))
  :: StableHlo.binary main_v50 main_v52 main_v53 (addf : (⟨S1024x64, .f32⟩ : BufTy).Contents (Elt F) → (⟨S1024x64, .f32⟩ : BufTy).Contents (Elt F) → (⟨S1024x64, .f32⟩ : BufTy).Contents (Elt F))
  :: StableHlo.nullary main_cst_13 (constant S_ .f32 0xFF800000#32)
  :: StableHlo.binary main_v53 main_cst_13 main_v54 ((fun x v => Host.reduce FloatOps.maximumf x v reducesTo_S1024x64_S1024_d1 h_S_) : (⟨S1024x64, .f32⟩ : BufTy).Contents (Elt F) → (⟨S_, .f32⟩ : BufTy).Contents (Elt F) → (⟨S1024, .f32⟩ : BufTy).Contents (Elt F))
  :: StableHlo.nullary main_cst_14 (constant S_ .f32 0xFF800000#32)
  :: StableHlo.unary main_cst_14 main_v55 (broadcastInDim S1024 ![] bcast_S_S1024 : (⟨S_, .f32⟩ : BufTy).Contents (Elt F) → (⟨S1024, .f32⟩ : BufTy).Contents (Elt F))
  :: StableHlo.binary main_v55 main_v54 main_v56 (maximumf : (⟨S1024, .f32⟩ : BufTy).Contents (Elt F) → (⟨S1024, .f32⟩ : BufTy).Contents (Elt F) → (⟨S1024, .f32⟩ : BufTy).Contents (Elt F))
  :: StableHlo.unary main_v56 main_v57 (broadcastInDim S1024x1 ![0] bcast_S1024_S1024x1_0 : (⟨S1024, .f32⟩ : BufTy).Contents (Elt F) → (⟨S1024x1, .f32⟩ : BufTy).Contents (Elt F))
  :: StableHlo.unary main_v57 main_v58 (broadcastInDim S1024x64 ![0, 1] bcast_S1024x1_S1024x64_0_1 : (⟨S1024x1, .f32⟩ : BufTy).Contents (Elt F) → (⟨S1024x64, .f32⟩ : BufTy).Contents (Elt F))
  :: StableHlo.binary main_v53 main_v58 main_v59 (subf : (⟨S1024x64, .f32⟩ : BufTy).Contents (Elt F) → (⟨S1024x64, .f32⟩ : BufTy).Contents (Elt F) → (⟨S1024x64, .f32⟩ : BufTy).Contents (Elt F))
  :: StableHlo.unary main_v59 main_v60 (Host.exp : (⟨S1024x64, .f32⟩ : BufTy).Contents (Elt F) → (⟨S1024x64, .f32⟩ : BufTy).Contents (Elt F))
  :: StableHlo.nullary main_cst_15 (constant S_ .f32 0x00000000#32)
  :: StableHlo.binary main_v60 main_cst_15 main_v61 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F))
  :: StableHlo.unary main_v61 main_v62 (broadcastInDim S1024x1 ![0] bcast_S1024_S1024x1_0 : (⟨S1024, .f32⟩ : BufTy).Contents (Elt F) → (⟨S1024x1, .f32⟩ : BufTy).Contents (Elt F))
  :: StableHlo.unary main_v62 main_v63 (broadcastInDim S1024x64 ![0, 1] bcast_S1024x1_S1024x64_0_1 : (⟨S1024x1, .f32⟩ : BufTy).Contents (Elt F) → (⟨S1024x64, .f32⟩ : BufTy).Contents (Elt F))
  :: StableHlo.binary main_v60 main_v63 main_v64 (Host.divf : (⟨S1024x64, .f32⟩ : BufTy).Contents (Elt F) → (⟨S1024x64, .f32⟩ : BufTy).Contents (Elt F) → (⟨S1024x64, .f32⟩ : BufTy).Contents (Elt F))
  :: [] )
theorem main_part1_ops2_sub : (main_part1_ops2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
theorem main_part1_ops2_fresh : (main_part1_ops2 : List (HloOp τ sig (Elt F))).Forall fun op => op.fresh = ∅ :=
  StableHlo.forall_fresh_of_map rfl
/-- What `main_part1_ops2` writes. -/
abbrev main_part1_ops2_W : List (Ref sig .tc) := [main_v35, main_v36, main_v37, main_v38, main_v39, main_v40, main_cst_12, main_v41, main_v42, main_v43, main_v44, main_v45, main_v46, main_v47, main_v48, main_v49, main_v50, main_v51, main_v52, main_v53, main_cst_13, main_v54, main_cst_14, main_v55, main_v56, main_v57, main_v58, main_v59, main_v60, main_cst_15, main_v61, main_v62, main_v63, main_v64]
theorem main_part1_ops2_writes : (main_part1_ops2 : List (HloOp τ sig (Elt F))).Forall fun op => op.writes ⊆ (main_part1_ops2_W.map (Proc.devRef (τ := τ) .tc)).toFinset :=
  StableHlo.forall_writes_sub_of_map rfl
/-- The second printed part as a chain. -/
theorem main_part1_chain (c : Dev nD) : main_part1 (F := F) c = (Pipeline.chain
  [ StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl
/-- The program as the chain of its stretches and its two loops. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    HostLoop.enter 0,
    StableHlo.seq main_part0_ops5,
    HostLoop.enter 1,
    StableHlo.seq main_part0_ops6,
    StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl
/-- 4 host operations, in order. -/
abbrev while0Ops0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v26_0 : StableHlo.TRef sig ⟨S200x1024x128, .f32⟩) ![(.of main_v26_5 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x1024x128, .f32⟩) (fun x i => Host.dynamicSlice S1x1024x128 x (fun k => (i k (Shape.Idx.first h_S_)).toInt) sliceFits_S200x1024x128_S1x1024x128),
    StableHlo.TRef.reshape (.of main_while0b_call2_v0 : StableHlo.TRef sig ⟨S1x1024x128, .f32⟩) (.of main_while0b_v65 : StableHlo.TRef sig ⟨S1024x128, .f32⟩) (rfl : (.f32 : EltTy) = .f32) shapeCasts_S1x1024x128_S1024x128 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem while0Ops0_fresh : (while0Ops0 : List (HloOp τ sig (Elt F))).Forall fun op => op.fresh = ∅ :=
  StableHlo.forall_fresh_of_map rfl
/-- What `while0Ops0` writes. -/
abbrev while0Ops0_W : List (Ref sig .tc) := [main_while0b_call2_c, main_while0b_call2_c_0, main_while0b_call2_v0, main_while0b_v65]
theorem while0Ops0_writes : (while0Ops0 : List (HloOp τ sig (Elt F))).Forall fun op => op.writes ⊆ (while0Ops0_W.map (Proc.devRef (τ := τ) .tc)).toFinset :=
  StableHlo.forall_writes_sub_of_map rfl
/-- 3 host operations, in order. -/
abbrev while0Ops0_1 : List (HloOp τ sig (Elt F)) :=
  [ StableHlo.TRef.nullary (.of main_while0b_call3_c : StableHlo.TRef sig ⟨S_, .i32⟩) (constantI S_ 32 0#32),
    StableHlo.TRef.unaryIndexed (.of main_v26_1 : StableHlo.TRef sig ⟨S200x1024, .i1⟩) ![(.of main_v26_5 : StableHlo.TRef sig ⟨S_, .i32⟩), (.of main_while0b_call3_c : StableHlo.TRef sig ⟨S_, .i32⟩)] (.of main_while0b_call3_v0 : StableHlo.TRef sig ⟨S1x1024, .i1⟩) (fun x i => Host.dynamicSlice S1x1024 x (fun k => (i k (Shape.Idx.first h_S_)).toInt) sliceFits_S200x1024_S1x1024),
    StableHlo.TRef.reshape (.of main_while0b_call3_v0 : StableHlo.TRef sig ⟨S1x1024, .i1⟩) (.of main_while0b_v66 : StableHlo.TRef sig ⟨S1024, .i1⟩) (rfl : (.i1 : EltTy) = .i1) shapeCasts_S1x1024_S1024 ]
theorem while0Ops0_1_sub : (while0Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
theorem while0Ops0_1_fresh : (while0Ops0_1 : List (HloOp τ sig (Elt F))).Forall fun op => op.fresh = ∅ :=
  StableHlo.forall_fresh_of_map rfl
/-- What `while0Ops0_1` writes. -/
abbrev while0Ops0_1_W : List (Ref sig .tc) := [main_while0b_call3_c, main_while0b_call3_v0, main_while0b_v66]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- 41 host operations, in order. -/
abbrev while0Ops0_2 : List (HloOp τ sig (Elt F)) :=
  ( StableHlo.binary main_while0b_v65 main_v26_2 main_while0b_v67 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F))
  :: StableHlo.binary main_v26_6 main_v26_3 main_while0b_v68 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F))
  :: StableHlo.binary main_while0b_v67 main_while0b_v68 main_while0b_v69 (addf : (⟨S1024x1024, .f32⟩ : BufTy).Contents (Elt F) → (⟨S1024x1024, .f32⟩ : BufTy).Contents (Elt F) → (⟨S1024x1024, .f32⟩ : BufTy).Contents (Elt F))
  :: StableHlo.unary main_v26_4 main_while0b_v70 (broadcastInDim S1x1024 ![1] bcast_S1024_S1x1024_1 : (⟨S1024, .f32⟩ : BufTy).Contents (Elt F) → (⟨S1x1024, .f32⟩ : BufTy).Contents (Elt F))
  :: StableHlo.unary main_while0b_v70 main_while0b_v71 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_while0b_v69 main_while0b_v71 main_while0b_v72 (addf : (⟨S1024x1024, .f32⟩ : BufTy).Contents (Elt F) → (⟨S1024x1024, .f32⟩ : BufTy).Contents (Elt F) → (⟨S1024x1024, .f32⟩ : BufTy).Contents (Elt F))
  :: StableHlo.unary main_while0b_v72 main_while0b_v73 ((extractStridedSlice S1024x256 ![0, 0] · slices_S1024x1024_S1024x256_0_0) : (⟨S1024x1024, .f32⟩ : BufTy).Contents (Elt F) → (⟨S1024x256, .f32⟩ : BufTy).Contents (Elt F))
  :: StableHlo.unary main_while0b_v72 main_while0b_v74 ((extractStridedSlice S1024x256 ![0, 256] · slices_S1024x1024_S1024x256_0_256) : (⟨S1024x1024, .f32⟩ : BufTy).Contents (Elt F) → (⟨S1024x256, .f32⟩ : BufTy).Contents (Elt F))
  :: StableHlo.unary main_while0b_v72 main_while0b_v75 ((extractStridedSlice S1024x256 ![0, 512] · slices_S1024x1024_S1024x256_0_512) : (⟨S1024x1024, .f32⟩ : BufTy).Contents (Elt F) → (⟨S1024x256, .f32⟩ : BufTy).Contents (Elt F))
  :: StableHlo.unary main_while0b_v72 main_while0b_v76 ((extractStridedSlice S1024x256 ![0, 768] · slices_S1024x1024_S1024x256_0_768) : (⟨S1024x1024, .f32⟩ : BufTy).Contents (Elt F) → (⟨S1024x256, .f32⟩ : BufTy).Contents (Elt F))
  :: StableHlo.unary main_while0b_v73 main_while0b_v77 (Host.negf : (⟨S1024x256, .f32⟩ : BufTy).Contents (Elt F) → (⟨S1024x256, .f32⟩ : BufTy).Contents (Elt F))
  :: StableHlo.unary main_while0b_v77 main_while0b_v78 (Host.exp : (⟨S1024x256, .f32⟩ : BufTy).Contents (Elt F) → (⟨S1024x256, .f32⟩ : BufTy).Contents (Elt F))
  :: StableHlo.nullary main_while0b_cst_23 (constant S_ .f32 0x3F800000#32)
  :: StableHlo.unary main_while0b_cst_23 main_while0b_v79 (broadcastInDim S1024x256 ![] bcast_S_S1024x256 : (⟨S_, .f32⟩ : BufTy).Contents (Elt F) → (⟨S1024x256, .f32⟩ : BufTy).Contents (Elt F))
  :: StableHlo.binary main_while0b_v79 main_while0b_v78 main_while0b_v80 (addf : (⟨S1024x256, .f32⟩ : BufTy).Contents (Elt F) → (⟨S1024x256, .f32⟩ : BufTy).Contents (Elt F) → (⟨S1024x256, .f32⟩ : BufTy).Contents (Elt F))
  :: StableHlo.nullary main_while0b_cst_24 (constant S_ .f32 0x3F800000#32)
  :: StableHlo.unary main_while0b_cst_24 main_while0b_v81 (broadcastInDim S1024x256 ![] bcast_S_S1024x256 : (⟨S_, .f32⟩ : BufTy).Contents (Elt F) → (⟨S1024x256, .f32⟩ : BufTy).Contents (Elt F))
  :: StableHlo.binary main_while0b_v81 main_while0b_v80 main_while0b_v82 (Host.divf : (⟨S1024x256, .f32⟩ : BufTy).Contents (Elt F) → (⟨S1024x256, .f32⟩ : BufTy).Contents (Elt F) → (⟨S1024x256, .f32⟩ : BufTy).Contents (Elt F))
  :: StableHlo.unary main_while0b_v74 main_while0b_v83 (Host.negf : (⟨S1024x256, .f32⟩ : BufTy).Contents (Elt F) → (⟨S1024x256, .f32⟩ : BufTy).Contents (Elt F))
  :: StableHlo.unary main_while0b_v83 main_while0b_v84 (Host.exp : (⟨S1024x256, .f32⟩ : BufTy).Contents (Elt F) → (⟨S1024x256, .f32⟩ : BufTy).Contents (Elt F))
  :: StableHlo.nullary main_while0b_cst_25 (constant S_ .f32 0x3F800000#32)
  :: StableHlo.unary main_while0b_cst_25 main_while0b_v85 (broadcastInDim S1024x256 ![] bcast_S_S1024x256 : (⟨S_, .f32⟩ : BufTy).Contents (Elt F) → (⟨S1024x256, .f32⟩ : BufTy).Contents (Elt F))
  :: StableHlo.binary main_while0b_v85 main_while0b_v84 main_while0b_v86 (addf : (⟨S1024x256, .f32⟩ : BufTy).Contents (Elt F) → (⟨S1024x256, .f32⟩ : BufTy).Contents (Elt F) → (⟨S1024x256, .f32⟩ : BufTy).Contents (Elt F))
  :: StableHlo.nullary main_while0b_cst_26 (constant S_ .f32 0x3F800000#32)
  :: StableHlo.unary main_while0b_cst_26 main_while0b_v87 (broadcastInDim S1024x256 ![] bcast_S_S1024x256 : (⟨S_, .f32⟩ : BufTy).Contents (Elt F) → (⟨S1024x256, .f32⟩ : BufTy).Contents (Elt F))
  :: StableHlo.binary main_while0b_v87 main_while0b_v86 main_while0b_v88 (Host.divf : (⟨S1024x256, .f32⟩ : BufTy).Contents (Elt F) → (⟨S1024x256, .f32⟩ : BufTy).Contents (Elt F) → (⟨S1024x256, .f32⟩ : BufTy).Contents (Elt F))
  :: StableHlo.unary main_while0b_v75 main_while0b_v89 (Host.tanh : (⟨S1024x256, .f32⟩ : BufTy).Contents (Elt F) → (⟨S1024x256, .f32⟩ : BufTy).Contents (Elt F))
  :: StableHlo.unary main_while0b_v76 main_while0b_v90 (Host.negf : (⟨S1024x256, .f32⟩ : BufTy).Contents (Elt F) → (⟨S1024x256, .f32⟩ : BufTy).Contents (Elt F))
  :: StableHlo.unary main_while0b_v90 main_while0b_v91 (Host.exp : (⟨S1024x256, .f32⟩ : BufTy).Contents (Elt F) → (⟨S1024x256, .f32⟩ : BufTy).Contents (Elt F))
  :: StableHlo.nullary main_while0b_cst_27 (constant S_ .f32 0x3F800000#32)
  :: StableHlo.unary main_while0b_cst_27 main_while0b_v92 (broadcastInDim S1024x256 ![] bcast_S_S1024x256 : (⟨S_, .f32⟩ : BufTy).Contents (Elt F) → (⟨S1024x256, .f32⟩ : BufTy).Contents (Elt F))
  :: StableHlo.binary main_while0b_v92 main_while0b_v91 main_while0b_v93 (addf : (⟨S1024x256, .f32⟩ : BufTy).Contents (Elt F) → (⟨S1024x256, .f32⟩ : BufTy).Contents (Elt F) → (⟨S1024x256, .f32⟩ : BufTy).Contents (Elt F))
  :: StableHlo.nullary main_while0b_cst_28 (constant S_ .f32 0x3F800000#32)
  :: StableHlo.unary main_while0b_cst_28 main_while0b_v94 (broadcastInDim S1024x256 ![] bcast_S_S1024x256 : (⟨S_, .f32⟩ : BufTy).Contents (Elt F) → (⟨S1024x256, .f32⟩ : BufTy).Contents (Elt F))
  :: StableHlo.binary main_while0b_v94 main_while0b_v93 main_while0b_v95 (Host.divf : (⟨S1024x256, .f32⟩ : BufTy).Contents (Elt F) → (⟨S1024x256, .f32⟩ : BufTy).Contents (Elt F) → (⟨S1024x256, .f32⟩ : BufTy).Contents (Elt F))
  :: StableHlo.binary main_while0b_v88 main_v26_7 main_while0b_v96 (mulf : (⟨S1024x256, .f32⟩ : BufTy).Contents (Elt F) → (⟨S1024x256, .f32⟩ : BufTy).Contents (Elt F) → (⟨S1024x256, .f32⟩ : BufTy).Contents (Elt F))
  :: StableHlo.binary main_while0b_v82 main_while0b_v89 main_while0b_v97 (mulf : (⟨S1024x256, .f32⟩ : BufTy).Contents (Elt F) → (⟨S1024x256, .f32⟩ : BufTy).Contents (Elt F) → (⟨S1024x256, .f32⟩ : BufTy).Contents (Elt F))
  :: StableHlo.binary main_while0b_v96 main_while0b_v97 main_while0b_v98 (addf : (⟨S1024x256, .f32⟩ : BufTy).Contents (Elt F) → (⟨S1024x256, .f32⟩ : BufTy).Contents (Elt F) → (⟨S1024x256, .f32⟩ : BufTy).Contents (Elt F))
  :: StableHlo.unary main_while0b_v98 main_while0b_v99 (Host.tanh : (⟨S1024x256, .f32⟩ : BufTy).Contents (Elt F) → (⟨S1024x256, .f32⟩ : BufTy).Contents (Elt F))
  :: StableHlo.binary main_while0b_v95 main_while0b_v99 main_while0b_v100 (mulf : (⟨S1024x256, .f32⟩ : BufTy).Contents (Elt F) → (⟨S1024x256, .f32⟩ : BufTy).Contents (Elt F) → (⟨S1024x256, .f32⟩ : BufTy).Contents (Elt F))
  :: StableHlo.unary main_while0b_v66 main_while0b_v101 (broadcastInDim S1024x1 ![0] bcast_S1024_S1024x1_0 : (⟨S1024, .i1⟩ : BufTy).Contents (Elt F) → (⟨S1024x1, .i1⟩ : BufTy).Contents (Elt F))
  :: [] )
theorem while0Ops0_2_sub : (while0Ops0_2 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub ..⟩
theorem while0Ops0_2_fresh : (while0Ops0_2 : List (HloOp τ sig (Elt F))).Forall fun op => op.fresh = ∅ :=
  StableHlo.forall_fresh_of_map rfl
/-- What `while0Ops0_2` writes. -/
abbrev while0Ops0_2_W : List (Ref sig .tc) := [main_while0b_v67, main_while0b_v68, main_while0b_v69, main_while0b_v70, main_while0b_v71, main_while0b_v72, main_while0b_v73, main_while0b_v74, main_while0b_v75, main_while0b_v76, main_while0b_v77, main_while0b_v78, main_while0b_cst_23, main_while0b_v79, main_while0b_v80, main_while0b_cst_24, main_while0b_v81, main_while0b_v82, main_while0b_v83, main_while0b_v84, main_while0b_cst_25, main_while0b_v85, main_while0b_v86, main_while0b_cst_26, main_while0b_v87, main_while0b_v88, main_while0b_v89, main_while0b_v90, main_while0b_v91, main_while0b_cst_27, main_while0b_v92, main_while0b_v93, main_while0b_cst_28, main_while0b_v94, main_while0b_v95, main_while0b_v96, main_while0b_v97, main_while0b_v98, main_while0b_v99, main_while0b_v100, main_while0b_v101]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- 2 host operations, in order. -/
abbrev while0Ops0_3 : List (HloOp τ sig (Elt F)) :=
  [ StableHlo.TRef.unary (.of main_while0b_v101 : StableHlo.TRef sig ⟨S1024x1, .i1⟩) (.of main_while0b_call4_v0 : StableHlo.TRef sig ⟨S1024x256, .i1⟩) (broadcastInDim S1024x256 ![0, 1] bcast_S1024x1_S1024x256_0_1),
    StableHlo.TRef.ternary (.of main_while0b_call4_v0 : StableHlo.TRef sig ⟨S1024x256, .i1⟩) (.of main_while0b_v100 : StableHlo.TRef sig ⟨S1024x256, .f32⟩) (.of main_v26_6 : StableHlo.TRef sig ⟨S1024x256, .f32⟩) (.of main_while0b_v102 : StableHlo.TRef sig ⟨S1024x256, .f32⟩) select ]
theorem while0Ops0_3_sub : (while0Ops0_3 : List (HloOp τ sig (Elt F))).Forall fun op => op.bufs ⊆ StableHlo.tcRefs τ sig :=
  ⟨StableHlo.unary_bufs_sub .., StableHlo.ternary_bufs_sub ..⟩
theorem while0Ops0_3_fresh : (while0Ops0_3 : List (HloOp τ sig (Elt F))).Forall fun op => op.fresh = ∅ :=
  StableHlo.forall_fresh_of_map rfl
/-- What `while0Ops0_3` writes. -/
abbrev while0Ops0_3_W : List (Ref sig .tc) := [main_while0b_call4_v0, main_while0b_v102]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- 2 host operations, in order. -/
abbrev while0Ops0_4 : List (HloOp τ sig (Elt F)) :=
  [ StableHlo.TRef.unary (.of main_while0b_v101 : StableHlo.TRef sig ⟨S1024x1, .i1⟩) (.of main_while0b_call5_v0 : StableHlo.TRef sig ⟨S1024x256, .i1⟩) (broadcastInDim S1024x256 ![0, 1] bcast_S1024x1_S1024x256_0_1),
    StableHlo.TRef.ternary (.of main_while0b_call5_v0 : StableHlo.TRef sig ⟨S1024x256, .i1⟩) (.of main_while0b_v98 : StableHlo.TRef sig ⟨S1024x256, .f32⟩) (.of main_v26_7 : StableHlo.TRef sig ⟨S1024x256, .f32⟩) (.of main_while0b_v103 : StableHlo.TRef sig ⟨S1024x256, .f32⟩) select ]
theorem while0Ops0_4_sub : (while0Ops0_4 : List (HloOp τ sig (Elt F))).Forall fun op => op.bufs ⊆ StableHlo.tcRefs τ sig :=
  ⟨StableHlo.unary_bufs_sub .., StableHlo.ternary_bufs_sub ..⟩
theorem while0Ops0_4_fresh : (while0Ops0_4 : List (HloOp τ sig (Elt F))).Forall fun op => op.fresh = ∅ :=
  StableHlo.forall_fresh_of_map rfl
/-- What `while0Ops0_4` writes. -/
abbrev while0Ops0_4_W : List (Ref sig .tc) := [main_while0b_call5_v0, main_while0b_v103]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- 5 host operations, in order. -/
abbrev while0Ops0_5 : List (HloOp τ sig (Elt F)) :=
  [ StableHlo.nullary main_while0b_c_29 (constantI S_ 32 1#32),
    StableHlo.binary main_v26_5 main_while0b_c_29 main_while0b_v104 (addi : (⟨S_, .i32⟩ : BufTy).Contents (Elt F) → (⟨S_, .i32⟩ : BufTy).Contents (Elt F) → (⟨S_, .i32⟩ : BufTy).Contents (Elt F)),
    StableHlo.unary main_while0b_v104 main_v26_5 id,
    StableHlo.unary main_while0b_v102 main_v26_6 id,
    StableHlo.unary main_while0b_v103 main_v26_7 id ]
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while0Ops0_5_fresh : (while0Ops0_5 : List (HloOp τ sig (Elt F))).Forall fun op => op.fresh = ∅ :=
  StableHlo.forall_fresh_of_map rfl
/-- What `while0Ops0_5` writes. -/
abbrev while0Ops0_5_W : List (Ref sig .tc) := [main_while0b_c_29, main_while0b_v104, main_v26_5, main_v26_6, main_v26_7]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- The forward loop body as a chain of stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl
/-- 4 host operations, in order. -/
abbrev while1Ops0 : List (HloOp τ sig (Elt F)) :=
  [ StableHlo.nullary main_while1b_c_23 (constantI S_ 32 200#32),
    StableHlo.binary main_while1b_c_23 main_v29_5 main_while1b_v65 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v65 main_while1b_c_24 main_while1b_v66 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem while1Ops0_fresh : (while1Ops0 : List (HloOp τ sig (Elt F))).Forall fun op => op.fresh = ∅ :=
  StableHlo.forall_fresh_of_map rfl
/-- What `while1Ops0` writes. -/
abbrev while1Ops0_W : List (Ref sig .tc) := [main_while1b_c_23, main_while1b_v65, main_while1b_c_24, main_while1b_v66]
theorem while1Ops0_writes : (while1Ops0 : List (HloOp τ sig (Elt F))).Forall fun op => op.writes ⊆ (while1Ops0_W.map (Proc.devRef (τ := τ) .tc)).toFinset :=
  StableHlo.forall_writes_sub_of_map rfl
/-- 4 host operations, in order. -/
abbrev while1Ops0_1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v29_0 : StableHlo.TRef sig ⟨S200x1024x128, .f32⟩) ![(.of main_while1b_v66 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x1024x128, .f32⟩) (fun x i => Host.dynamicSlice S1x1024x128 x (fun k => (i k (Shape.Idx.first h_S_)).toInt) sliceFits_S200x1024x128_S1x1024x128),
    StableHlo.TRef.reshape (.of main_while1b_call6_v0 : StableHlo.TRef sig ⟨S1x1024x128, .f32⟩) (.of main_while1b_v67 : StableHlo.TRef sig ⟨S1024x128, .f32⟩) (rfl : (.f32 : EltTy) = .f32) shapeCasts_S1x1024x128_S1024x128 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem while1Ops0_1_fresh : (while1Ops0_1 : List (HloOp τ sig (Elt F))).Forall fun op => op.fresh = ∅ :=
  StableHlo.forall_fresh_of_map rfl
/-- What `while1Ops0_1` writes. -/
abbrev while1Ops0_1_W : List (Ref sig .tc) := [main_while1b_call6_c, main_while1b_call6_c_0, main_while1b_call6_v0, main_while1b_v67]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- 3 host operations, in order. -/
abbrev while1Ops0_2 : List (HloOp τ sig (Elt F)) :=
  [ StableHlo.TRef.nullary (.of main_while1b_call7_c : StableHlo.TRef sig ⟨S_, .i32⟩) (constantI S_ 32 0#32),
    StableHlo.TRef.unaryIndexed (.of main_v29_1 : StableHlo.TRef sig ⟨S200x1024, .i1⟩) ![(.of main_while1b_v66 : StableHlo.TRef sig ⟨S_, .i32⟩), (.of main_while1b_call7_c : StableHlo.TRef sig ⟨S_, .i32⟩)] (.of main_while1b_call7_v0 : StableHlo.TRef sig ⟨S1x1024, .i1⟩) (fun x i => Host.dynamicSlice S1x1024 x (fun k => (i k (Shape.Idx.first h_S_)).toInt) sliceFits_S200x1024_S1x1024),
    StableHlo.TRef.reshape (.of main_while1b_call7_v0 : StableHlo.TRef sig ⟨S1x1024, .i1⟩) (.of main_while1b_v68 : StableHlo.TRef sig ⟨S1024, .i1⟩) (rfl : (.i1 : EltTy) = .i1) shapeCasts_S1x1024_S1024 ]
theorem while1Ops0_2_sub : (while1Ops0_2 : List (HloOp τ sig (Elt F))).Forall fun op => op.bufs ⊆ StableHlo.tcRefs τ sig :=
  ⟨StableHlo.nullary_bufs_sub .., StableHlo.unaryIndexed_bufs_sub .., StableHlo.reshape_bufs_sub ..⟩
theorem while1Ops0_2_fresh : (while1Ops0_2 : List (HloOp τ sig (Elt F))).Forall fun op => op.fresh = ∅ :=
  StableHlo.forall_fresh_of_map rfl
/-- What `while1Ops0_2` writes. -/
abbrev while1Ops0_2_W : List (Ref sig .tc) := [main_while1b_call7_c, main_while1b_call7_v0, main_while1b_v68]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- 41 host operations, in order. -/
abbrev while1Ops0_3 : List (HloOp τ sig (Elt F)) :=
  ( StableHlo.binary main_while1b_v67 main_v29_2 main_while1b_v69 ((fun l r => Host.dotGeneral dot_S1024x128_S128x1024_S1024x1024_1_0_0_1_n_n none l r) : (⟨S1024x128, .f32⟩ : BufTy).Contents (Elt F) → (⟨S128x1024, .f32⟩ : BufTy).Contents (Elt F) → (⟨S1024x1024, .f32⟩ : BufTy).Contents (Elt F))
  :: StableHlo.binary main_v29_6 main_v29_3 main_while1b_v70 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F))
  :: StableHlo.binary main_while1b_v69 main_while1b_v70 main_while1b_v71 (addf : (⟨S1024x1024, .f32⟩ : BufTy).Contents (Elt F) → (⟨S1024x1024, .f32⟩ : BufTy).Contents (Elt F) → (⟨S1024x1024, .f32⟩ : BufTy).Contents (Elt F))
  :: StableHlo.unary main_v29_4 main_while1b_v72 (broadcastInDim S1x1024 ![1] bcast_S1024_S1x1024_1 : (⟨S1024, .f32⟩ : BufTy).Contents (Elt F) → (⟨S1x1024, .f32⟩ : BufTy).Contents (Elt F))
  :: StableHlo.unary main_while1b_v72 main_while1b_v73 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_while1b_v71 main_while1b_v73 main_while1b_v74 (addf : (⟨S1024x1024, .f32⟩ : BufTy).Contents (Elt F) → (⟨S1024x1024, .f32⟩ : BufTy).Contents (Elt F) → (⟨S1024x1024, .f32⟩ : BufTy).Contents (Elt F))
  :: StableHlo.unary main_while1b_v74 main_while1b_v75 ((extractStridedSlice S1024x256 ![0, 0] · slices_S1024x1024_S1024x256_0_0) : (⟨S1024x1024, .f32⟩ : BufTy).Contents (Elt F) → (⟨S1024x256, .f32⟩ : BufTy).Contents (Elt F))
  :: StableHlo.unary main_while1b_v74 main_while1b_v76 ((extractStridedSlice S1024x256 ![0, 256] · slices_S1024x1024_S1024x256_0_256) : (⟨S1024x1024, .f32⟩ : BufTy).Contents (Elt F) → (⟨S1024x256, .f32⟩ : BufTy).Contents (Elt F))
  :: StableHlo.unary main_while1b_v74 main_while1b_v77 ((extractStridedSlice S1024x256 ![0, 512] · slices_S1024x1024_S1024x256_0_512) : (⟨S1024x1024, .f32⟩ : BufTy).Contents (Elt F) → (⟨S1024x256, .f32⟩ : BufTy).Contents (Elt F))
  :: StableHlo.unary main_while1b_v74 main_while1b_v78 ((extractStridedSlice S1024x256 ![0, 768] · slices_S1024x1024_S1024x256_0_768) : (⟨S1024x1024, .f32⟩ : BufTy).Contents (Elt F) → (⟨S1024x256, .f32⟩ : BufTy).Contents (Elt F))
  :: StableHlo.unary main_while1b_v75 main_while1b_v79 (Host.negf : (⟨S1024x256, .f32⟩ : BufTy).Contents (Elt F) → (⟨S1024x256, .f32⟩ : BufTy).Contents (Elt F))
  :: StableHlo.unary main_while1b_v79 main_while1b_v80 (Host.exp : (⟨S1024x256, .f32⟩ : BufTy).Contents (Elt F) → (⟨S1024x256, .f32⟩ : BufTy).Contents (Elt F))
  :: StableHlo.nullary main_while1b_cst_25 (constant S_ .f32 0x3F800000#32)
  :: StableHlo.unary main_while1b_cst_25 main_while1b_v81 (broadcastInDim S1024x256 ![] bcast_S_S1024x256 : (⟨S_, .f32⟩ : BufTy).Contents (Elt F) → (⟨S1024x256, .f32⟩ : BufTy).Contents (Elt F))
  :: StableHlo.binary main_while1b_v81 main_while1b_v80 main_while1b_v82 (addf : (⟨S1024x256, .f32⟩ : BufTy).Contents (Elt F) → (⟨S1024x256, .f32⟩ : BufTy).Contents (Elt F) → (⟨S1024x256, .f32⟩ : BufTy).Contents (Elt F))
  :: StableHlo.nullary main_while1b_cst_26 (constant S_ .f32 0x3F800000#32)
  :: StableHlo.unary main_while1b_cst_26 main_while1b_v83 (broadcastInDim S1024x256 ![] bcast_S_S1024x256 : (⟨S_, .f32⟩ : BufTy).Contents (Elt F) → (⟨S1024x256, .f32⟩ : BufTy).Contents (Elt F))
  :: StableHlo.binary main_while1b_v83 main_while1b_v82 main_while1b_v84 (Host.divf : (⟨S1024x256, .f32⟩ : BufTy).Contents (Elt F) → (⟨S1024x256, .f32⟩ : BufTy).Contents (Elt F) → (⟨S1024x256, .f32⟩ : BufTy).Contents (Elt F))
  :: StableHlo.unary main_while1b_v76 main_while1b_v85 (Host.negf : (⟨S1024x256, .f32⟩ : BufTy).Contents (Elt F) → (⟨S1024x256, .f32⟩ : BufTy).Contents (Elt F))
  :: StableHlo.unary main_while1b_v85 main_while1b_v86 (Host.exp : (⟨S1024x256, .f32⟩ : BufTy).Contents (Elt F) → (⟨S1024x256, .f32⟩ : BufTy).Contents (Elt F))
  :: StableHlo.nullary main_while1b_cst_27 (constant S_ .f32 0x3F800000#32)
  :: StableHlo.unary main_while1b_cst_27 main_while1b_v87 (broadcastInDim S1024x256 ![] bcast_S_S1024x256 : (⟨S_, .f32⟩ : BufTy).Contents (Elt F) → (⟨S1024x256, .f32⟩ : BufTy).Contents (Elt F))
  :: StableHlo.binary main_while1b_v87 main_while1b_v86 main_while1b_v88 (addf : (⟨S1024x256, .f32⟩ : BufTy).Contents (Elt F) → (⟨S1024x256, .f32⟩ : BufTy).Contents (Elt F) → (⟨S1024x256, .f32⟩ : BufTy).Contents (Elt F))
  :: StableHlo.nullary main_while1b_cst_28 (constant S_ .f32 0x3F800000#32)
  :: StableHlo.unary main_while1b_cst_28 main_while1b_v89 (broadcastInDim S1024x256 ![] bcast_S_S1024x256 : (⟨S_, .f32⟩ : BufTy).Contents (Elt F) → (⟨S1024x256, .f32⟩ : BufTy).Contents (Elt F))
  :: StableHlo.binary main_while1b_v89 main_while1b_v88 main_while1b_v90 (Host.divf : (⟨S1024x256, .f32⟩ : BufTy).Contents (Elt F) → (⟨S1024x256, .f32⟩ : BufTy).Contents (Elt F) → (⟨S1024x256, .f32⟩ : BufTy).Contents (Elt F))
  :: StableHlo.unary main_while1b_v77 main_while1b_v91 (Host.tanh : (⟨S1024x256, .f32⟩ : BufTy).Contents (Elt F) → (⟨S1024x256, .f32⟩ : BufTy).Contents (Elt F))
  :: StableHlo.unary main_while1b_v78 main_while1b_v92 (Host.negf : (⟨S1024x256, .f32⟩ : BufTy).Contents (Elt F) → (⟨S1024x256, .f32⟩ : BufTy).Contents (Elt F))
  :: StableHlo.unary main_while1b_v92 main_while1b_v93 (Host.exp : (⟨S1024x256, .f32⟩ : BufTy).Contents (Elt F) → (⟨S1024x256, .f32⟩ : BufTy).Contents (Elt F))
  :: StableHlo.nullary main_while1b_cst_29 (constant S_ .f32 0x3F800000#32)
  :: StableHlo.unary main_while1b_cst_29 main_while1b_v94 (broadcastInDim S1024x256 ![] bcast_S_S1024x256 : (⟨S_, .f32⟩ : BufTy).Contents (Elt F) → (⟨S1024x256, .f32⟩ : BufTy).Contents (Elt F))
  :: StableHlo.binary main_while1b_v94 main_while1b_v93 main_while1b_v95 (addf : (⟨S1024x256, .f32⟩ : BufTy).Contents (Elt F) → (⟨S1024x256, .f32⟩ : BufTy).Contents (Elt F) → (⟨S1024x256, .f32⟩ : BufTy).Contents (Elt F))
  :: StableHlo.nullary main_while1b_cst_30 (constant S_ .f32 0x3F800000#32)
  :: StableHlo.unary main_while1b_cst_30 main_while1b_v96 (broadcastInDim S1024x256 ![] bcast_S_S1024x256 : (⟨S_, .f32⟩ : BufTy).Contents (Elt F) → (⟨S1024x256, .f32⟩ : BufTy).Contents (Elt F))
  :: StableHlo.binary main_while1b_v96 main_while1b_v95 main_while1b_v97 (Host.divf : (⟨S1024x256, .f32⟩ : BufTy).Contents (Elt F) → (⟨S1024x256, .f32⟩ : BufTy).Contents (Elt F) → (⟨S1024x256, .f32⟩ : BufTy).Contents (Elt F))
  :: StableHlo.binary main_while1b_v90 main_v29_7 main_while1b_v98 (mulf : (⟨S1024x256, .f32⟩ : BufTy).Contents (Elt F) → (⟨S1024x256, .f32⟩ : BufTy).Contents (Elt F) → (⟨S1024x256, .f32⟩ : BufTy).Contents (Elt F))
  :: StableHlo.binary main_while1b_v84 main_while1b_v91 main_while1b_v99 (mulf : (⟨S1024x256, .f32⟩ : BufTy).Contents (Elt F) → (⟨S1024x256, .f32⟩ : BufTy).Contents (Elt F) → (⟨S1024x256, .f32⟩ : BufTy).Contents (Elt F))
  :: StableHlo.binary main_while1b_v98 main_while1b_v99 main_while1b_v100 (addf : (⟨S1024x256, .f32⟩ : BufTy).Contents (Elt F) → (⟨S1024x256, .f32⟩ : BufTy).Contents (Elt F) → (⟨S1024x256, .f32⟩ : BufTy).Contents (Elt F))
  :: StableHlo.unary main_while1b_v100 main_while1b_v101 (Host.tanh : (⟨S1024x256, .f32⟩ : BufTy).Contents (Elt F) → (⟨S1024x256, .f32⟩ : BufTy).Contents (Elt F))
  :: StableHlo.binary main_while1b_v97 main_while1b_v101 main_while1b_v102 (mulf : (⟨S1024x256, .f32⟩ : BufTy).Contents (Elt F) → (⟨S1024x256, .f32⟩ : BufTy).Contents (Elt F) → (⟨S1024x256, .f32⟩ : BufTy).Contents (Elt F))
  :: StableHlo.unary main_while1b_v68 main_while1b_v103 (broadcastInDim S1024x1 ![0] bcast_S1024_S1024x1_0 : (⟨S1024, .i1⟩ : BufTy).Contents (Elt F) → (⟨S1024x1, .i1⟩ : BufTy).Contents (Elt F))
  :: [] )
theorem while1Ops0_3_sub : (while1Ops0_3 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub ..⟩
theorem while1Ops0_3_fresh : (while1Ops0_3 : List (HloOp τ sig (Elt F))).Forall fun op => op.fresh = ∅ :=
  StableHlo.forall_fresh_of_map rfl
/-- What `while1Ops0_3` writes. -/
abbrev while1Ops0_3_W : List (Ref sig .tc) := [main_while1b_v69, main_while1b_v70, main_while1b_v71, main_while1b_v72, main_while1b_v73, main_while1b_v74, main_while1b_v75, main_while1b_v76, main_while1b_v77, main_while1b_v78, main_while1b_v79, main_while1b_v80, main_while1b_cst_25, main_while1b_v81, main_while1b_v82, main_while1b_cst_26, main_while1b_v83, main_while1b_v84, main_while1b_v85, main_while1b_v86, main_while1b_cst_27, main_while1b_v87, main_while1b_v88, main_while1b_cst_28, main_while1b_v89, main_while1b_v90, main_while1b_v91, main_while1b_v92, main_while1b_v93, main_while1b_cst_29, main_while1b_v94, main_while1b_v95, main_while1b_cst_30, main_while1b_v96, main_while1b_v97, main_while1b_v98, main_while1b_v99, main_while1b_v100, main_while1b_v101, main_while1b_v102, main_while1b_v103]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- 2 host operations, in order. -/
abbrev while1Ops0_4 : List (HloOp τ sig (Elt F)) :=
  [ StableHlo.TRef.unary (.of main_while1b_v103 : StableHlo.TRef sig ⟨S1024x1, .i1⟩) (.of main_while1b_call8_v0 : StableHlo.TRef sig ⟨S1024x256, .i1⟩) (broadcastInDim S1024x256 ![0, 1] bcast_S1024x1_S1024x256_0_1),
    StableHlo.TRef.ternary (.of main_while1b_call8_v0 : StableHlo.TRef sig ⟨S1024x256, .i1⟩) (.of main_while1b_v102 : StableHlo.TRef sig ⟨S1024x256, .f32⟩) (.of main_v29_6 : StableHlo.TRef sig ⟨S1024x256, .f32⟩) (.of main_while1b_v104 : StableHlo.TRef sig ⟨S1024x256, .f32⟩) select ]
theorem while1Ops0_4_sub : (while1Ops0_4 : List (HloOp τ sig (Elt F))).Forall fun op => op.bufs ⊆ StableHlo.tcRefs τ sig :=
  ⟨StableHlo.unary_bufs_sub .., StableHlo.ternary_bufs_sub ..⟩
theorem while1Ops0_4_fresh : (while1Ops0_4 : List (HloOp τ sig (Elt F))).Forall fun op => op.fresh = ∅ :=
  StableHlo.forall_fresh_of_map rfl
/-- What `while1Ops0_4` writes. -/
abbrev while1Ops0_4_W : List (Ref sig .tc) := [main_while1b_call8_v0, main_while1b_v104]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- 2 host operations, in order. -/
abbrev while1Ops0_5 : List (HloOp τ sig (Elt F)) :=
  [ StableHlo.TRef.unary (.of main_while1b_v103 : StableHlo.TRef sig ⟨S1024x1, .i1⟩) (.of main_while1b_call9_v0 : StableHlo.TRef sig ⟨S1024x256, .i1⟩) (broadcastInDim S1024x256 ![0, 1] bcast_S1024x1_S1024x256_0_1),
    StableHlo.TRef.ternary (.of main_while1b_call9_v0 : StableHlo.TRef sig ⟨S1024x256, .i1⟩) (.of main_while1b_v100 : StableHlo.TRef sig ⟨S1024x256, .f32⟩) (.of main_v29_7 : StableHlo.TRef sig ⟨S1024x256, .f32⟩) (.of main_while1b_v105 : StableHlo.TRef sig ⟨S1024x256, .f32⟩) select ]
theorem while1Ops0_5_sub : (while1Ops0_5 : List (HloOp τ sig (Elt F))).Forall fun op => op.bufs ⊆ StableHlo.tcRefs τ sig :=
  ⟨StableHlo.unary_bufs_sub .., StableHlo.ternary_bufs_sub ..⟩
theorem while1Ops0_5_fresh : (while1Ops0_5 : List (HloOp τ sig (Elt F))).Forall fun op => op.fresh = ∅ :=
  StableHlo.forall_fresh_of_map rfl
/-- What `while1Ops0_5` writes. -/
abbrev while1Ops0_5_W : List (Ref sig .tc) := [main_while1b_call9_v0, main_while1b_v105]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- 5 host operations, in order. -/
abbrev while1Ops0_6 : List (HloOp τ sig (Elt F)) :=
  [ StableHlo.nullary main_while1b_c_31 (constantI S_ 32 1#32),
    StableHlo.binary main_v29_5 main_while1b_c_31 main_while1b_v106 (addi : (⟨S_, .i32⟩ : BufTy).Contents (Elt F) → (⟨S_, .i32⟩ : BufTy).Contents (Elt F) → (⟨S_, .i32⟩ : BufTy).Contents (Elt F)),
    StableHlo.unary main_while1b_v106 main_v29_5 id,
    StableHlo.unary main_while1b_v104 main_v29_6 id,
    StableHlo.unary main_while1b_v105 main_v29_7 id ]
theorem while1Ops0_6_sub : (while1Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while1Ops0_6_fresh : (while1Ops0_6 : List (HloOp τ sig (Elt F))).Forall fun op => op.fresh = ∅ :=
  StableHlo.forall_fresh_of_map rfl
/-- What `while1Ops0_6` writes. -/
abbrev while1Ops0_6_W : List (Ref sig .tc) := [main_while1b_c_31, main_while1b_v106, main_v29_5, main_v29_6, main_v29_7]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- The backward loop body as a chain of stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons, Pipeline.chain_cons, Pipeline.chain_cons, StableHlo.chain_seq_cons]
  chain_rfl

end Cert.ReferenceIdeal.Ops

end
-- ==== Proof.RefFold.lean ====
/-
  The run of the plain program: the stretches before the forward scan, the forward scan, the stretch between, the backward
  scan, the stretches after. Every buffer ends at the fold `FINAL` of the operation lists.
-/
module

public import proofs.«01_k».proof.Proof.RefOps
public import Idealize.ShloMosaic.Lib.Pipeline.RegionsLoop
public import Idealize.ShloMosaic.Lib.StableHlo.RunClose

@[expose] public section

set_option maxRecDepth 2000

noncomputable section

namespace Cert.ReferenceIdeal.Ops

open Cert.ReferenceIdeal.Gen
open Idealize.ShloMosaic Idealize.ShloMosaic.TcCoe
open Idealize.ShloMosaic.StableHlo
open Idealize.ShloMosaic.Pipeline (CSeg Ticket ucRefs sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The lists -/

/-- What the forward scan's condition runs. -/
abbrev condA : List (HloOp τ sig (Elt F)) :=
  [ StableHlo.nullary main_while0c_c_23 (constantI S_ 32 200#32),
    StableHlo.binary main_v26_5 main_while0c_c_23 main_while0c_v65 (cmpi .slt) ]
/-- What the backward scan's condition runs. -/
abbrev condB : List (HloOp τ sig (Elt F)) :=
  [ StableHlo.nullary main_while1c_c_23 (constantI S_ 32 200#32),
    StableHlo.binary main_v29_5 main_while1c_c_23 main_while1c_v65 (cmpi .slt) ]
/-- What each condition writes. -/
abbrev condA_W : List (Ref sig .tc) := [main_while0c_c_23, main_while0c_v65]
abbrev condB_W : List (Ref sig .tc) := [main_while1c_c_23, main_while1c_v65]
theorem condA_writes : (condA : List (HloOp τ sig (Elt F))).Forall fun op => op.writes ⊆ (condA_W.map (Proc.devRef (τ := τ) .tc)).toFinset :=
  StableHlo.forall_writes_sub_of_map rfl
theorem condB_writes : (condB : List (HloOp τ sig (Elt F))).Forall fun op => op.writes ⊆ (condB_W.map (Proc.devRef (τ := τ) .tc)).toFinset :=
  StableHlo.forall_writes_sub_of_map rfl

/-- The stretches before the scans, between them and after them. -/
abbrev preI : List (List (HloOp τ sig (Elt F))) := [main_part0_ops0, main_part0_ops1, main_part0_ops2, main_part0_ops3, main_part0_ops4]
abbrev midI : List (List (HloOp τ sig (Elt F))) := [main_part0_ops5]
abbrev postI : List (List (HloOp τ sig (Elt F))) := [main_part0_ops6, main_part1_ops0, main_part1_ops1, main_part1_ops2]
/-- The two scans' bodies. -/
abbrev bodyA : List (List (HloOp τ sig (Elt F))) := [while0Ops0, while0Ops0_1, while0Ops0_2, while0Ops0_3, while0Ops0_4, while0Ops0_5]
abbrev bodyB : List (List (HloOp τ sig (Elt F))) :=
  [while1Ops0, while1Ops0_1, while1Ops0_2, while1Ops0_3, while1Ops0_4, while1Ops0_5, while1Ops0_6]

theorem mem_of {ops : List (HloOp τ sig (Elt F))} (h : ops.Forall fun op => op.fresh = ∅) : ∀ op ∈ ops, op.fresh = ∅ :=
  List.forall_iff_forall_mem.mp h

theorem plainPre : Plain (preI (F := F)) :=
  .cons main_part0_ops0_sub (hf := mem_of main_part0_ops0_fresh) <| .cons main_part0_ops1_sub (hf := mem_of main_part0_ops1_fresh) <|
  .cons main_part0_ops2_sub (hf := mem_of main_part0_ops2_fresh) <| .cons main_part0_ops3_sub (hf := mem_of main_part0_ops3_fresh) <|
  .cons main_part0_ops4_sub (hf := mem_of main_part0_ops4_fresh) .nil
theorem plainMid : Plain (midI (F := F)) := .cons main_part0_ops5_sub (hf := mem_of main_part0_ops5_fresh) .nil
theorem plainPost : Plain (postI (F := F)) :=
  .cons main_part0_ops6_sub (hf := mem_of main_part0_ops6_fresh) <| .cons main_part1_ops0_sub (hf := mem_of main_part1_ops0_fresh) <|
  .cons main_part1_ops1_sub (hf := mem_of main_part1_ops1_fresh) <| .cons main_part1_ops2_sub (hf := mem_of main_part1_ops2_fresh) .nil
theorem plainA : Plain (bodyA (F := F)) :=
  .cons while0Ops0_sub (hf := mem_of while0Ops0_fresh) <| .cons while0Ops0_1_sub (hf := mem_of while0Ops0_1_fresh) <|
  .cons while0Ops0_2_sub (hf := mem_of while0Ops0_2_fresh) <| .cons while0Ops0_3_sub (hf := mem_of while0Ops0_3_fresh) <|
  .cons while0Ops0_4_sub (hf := mem_of while0Ops0_4_fresh) <| .cons while0Ops0_5_sub (hf := mem_of while0Ops0_5_fresh) .nil
theorem plainB : Plain (bodyB (F := F)) :=
  .cons while1Ops0_sub (hf := mem_of while1Ops0_fresh) <| .cons while1Ops0_1_sub (hf := mem_of while1Ops0_1_fresh) <|
  .cons while1Ops0_2_sub (hf := mem_of while1Ops0_2_fresh) <| .cons while1Ops0_3_sub (hf := mem_of while1Ops0_3_fresh) <|
  .cons while1Ops0_4_sub (hf := mem_of while1Ops0_4_fresh) <| .cons while1Ops0_5_sub (hf := mem_of while1Ops0_5_fresh) <|
  .cons while1Ops0_6_sub (hf := mem_of while1Ops0_6_fresh) .nil

/-! ## The fold -/

variable (m : (ℓ : Loc nD τ sig) → Buf (Elt F) ℓ) (ρ : Dev nD → PrngReg)

/-- The buffers as the forward scan is entered. -/
def atA (c : Dev nD) : Valuation τ sig (Elt F) := afterL preI (launchContents m c)
/-- The buffers before the forward condition's run number `k`. -/
def tripA (k : ℕ) (c : Dev nD) : Valuation τ sig (Elt F) := atTrip condA bodyA (atA m) k c
/-- The buffers as the backward scan is entered. -/
def atB (c : Dev nD) : Valuation τ sig (Elt F) := afterL midI (after condA (tripA m 200 c))
/-- The buffers before the backward condition's run number `k`. -/
def tripB (k : ℕ) (c : Dev nD) : Valuation τ sig (Elt F) := atTrip condB bodyB (atB m) k c
/-- The buffers at the end. -/
def FINAL (c : Dev nD) : Valuation τ sig (Elt F) := afterL postI (after condB (tripB m 200 c))

theorem tripA_zero (c : Dev nD) : tripA m 0 c = atA m c := rfl
theorem tripB_zero (c : Dev nD) : tripB m 0 c = atB m c := rfl
theorem tripA_succ (k : ℕ) (c : Dev nD) : tripA m (k + 1) c = afterL bodyA (after condA (tripA m k c)) := rfl
theorem tripB_succ (k : ℕ) (c : Dev nD) : tripB m (k + 1) c = afterL bodyB (after condB (tripB m k c)) := rfl

/-! ## The counters -/

theorem ctrA_body (V : Valuation τ sig (Elt F)) :
    afterL bodyA V (Proc.devRef .tc main_v26_5) = addi (V (Proc.devRef .tc main_v26_5)) (constantI S_ 32 1#32) := by
  simp only [afterL_cons, afterL_nil]
  rw [show ∀ X : Valuation τ sig (Elt F), after while0Ops0_5 X (Proc.devRef .tc main_v26_5) = addi (X (Proc.devRef .tc main_v26_5)) (constantI S_ 32 1#32) from
    fun X => by after_results; rfl]
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel)]

theorem ctrB_body (V : Valuation τ sig (Elt F)) :
    afterL bodyB V (Proc.devRef .tc main_v29_5) = addi (V (Proc.devRef .tc main_v29_5)) (constantI S_ 32 1#32) := by
  simp only [afterL_cons, afterL_nil]
  rw [show ∀ X : Valuation τ sig (Elt F), after while1Ops0_6 X (Proc.devRef .tc main_v29_5) = addi (X (Proc.devRef .tc main_v29_5)) (constantI S_ 32 1#32) from
    fun X => by after_results; rfl]
  rw [after_of_writes_sub while1Ops0_5 _ while1Ops0_5_writes (by decide +kernel),
    after_of_writes_sub while1Ops0_4 _ while1Ops0_4_writes (by decide +kernel),
    after_of_writes_sub while1Ops0_3 _ while1Ops0_3_writes (by decide +kernel),
    after_of_writes_sub while1Ops0_2 _ while1Ops0_2_writes (by decide +kernel),
    after_of_writes_sub while1Ops0_1 _ while1Ops0_1_writes (by decide +kernel),
    after_of_writes_sub while1Ops0 _ while1Ops0_writes (by decide +kernel)]

theorem ctrA_entry (c : Dev nD) : atA m c (Proc.devRef .tc main_v26_5) = fun _ => (0#32 : BitVec 32) := by
  simp only [atA, afterL_cons, afterL_nil]
  after_reads_simp
  rfl

theorem ctrB_entry (c : Dev nD) : atB m c (Proc.devRef .tc main_v29_5) = fun _ => (0#32 : BitVec 32) := by
  simp only [atB, afterL_cons, afterL_nil]
  after_reads_simp
  rfl

theorem ctrA (c : Dev nD) : ∀ k, tripA m k c (Proc.devRef .tc main_v26_5) = fun _ => Scf.iv 0#32 1#32 k
  | 0 => by rw [tripA_zero, ctrA_entry, Scf.iv_zero]
  | k + 1 => by
    rw [tripA_succ, ctrA_body, after_of_writes_sub condA _ condA_writes (by decide +kernel), ctrA c k, Scf.iv_succ]
    rfl

theorem ctrB (c : Dev nD) : ∀ k, tripB m k c (Proc.devRef .tc main_v29_5) = fun _ => Scf.iv 0#32 1#32 k
  | 0 => by rw [tripB_zero, ctrB_entry, Scf.iv_zero]
  | k + 1 => by
    rw [tripB_succ, ctrB_body, after_of_writes_sub condB _ condB_writes (by decide +kernel), ctrB c k, Scf.iv_succ]
    rfl

/-! ## The conditions -/

local notation "𝕄" => MT nD τ sig Unit (Elt F) ℕ (Option PUnit) ℕ

/-- What rides beside the buffers: the core's `owes`. -/
abbrev Rw (c : Dev nD) : sProp 𝕄 := iprop(∃ W, owes (c : Thread nD τ) (0 : CellTallies nD τ sig Unit) W)

set_option backward.isDefEq.respectTransparency.types false in
theorem condA_spec : LoopCond (pcfgs (F := F)) defs₀ Variants.none loops Rw (main_while0_cond (F := F)) condA bodyA (atA m) 200 := by
  intro k hk c bd
  have hctr := ctrA m c k
  unfold tripA at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip condA bodyA (atA m) k c) main_v26_5 HostLoop.idx0)
        (HloOp.result _ (atTrip condA bodyA (atA m) k c) main_while0c_c_23 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  rw [after_cons, after_cons, after_nil]
  isplitl [Hh] <;> iassumption

set_option backward.isDefEq.respectTransparency.types false in
theorem condB_spec : LoopCond (pcfgs (F := F)) defs₀ Variants.none loops Rw (main_while1_cond (F := F)) condB bodyB (atB m) 200 := by
  intro k hk c bd
  have hctr := ctrB m c k
  unfold tripB at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip condB bodyB (atB m) k c) main_v29_5 HostLoop.idx0)
        (HloOp.result _ (atTrip condB bodyB (atB m) k c) main_while1c_c_23 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  rw [after_cons, after_cons, after_nil]
  isplitl [Hh] <;> iassumption

/-! ## The segments -/

abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev lvs : GSem nD τ sig → Finset Unit := fun _ => ∅
abbrev lev : GSem nD τ sig → Unit → ℕ := fun _ _ => 0

/-- The program's segments in order. -/
def segs : List (CSeg (pcfgs (F := F)) adm defs₀ Variants.none lvs lev loops tk) :=
  segsOf _ _ _ _ _ _ _ _ Rw preI plainPre (launchContents m)
    ++ loopSeg _ _ _ _ _ _ _ _ 0 main_while0_cond main_while0_body rfl condA bodyA plainA (by rw [while0_body_chain]; rfl) 200 (atA m) Rw (condA_spec m)
      :: (segsOf _ _ _ _ _ _ _ _ Rw midI plainMid (fun c => after condA (tripA m 200 c))
        ++ loopSeg _ _ _ _ _ _ _ _ 1 main_while1_cond main_while1_body rfl condB bodyB plainB (by rw [while1_body_chain]; rfl) 200 (atB m) Rw (condB_spec m)
          :: segsOf _ _ _ _ _ _ _ _ Rw postI plainPost (fun c => after condB (tripB m 200 c)))

theorem segs_prog : (segs (F := F) m).map CSeg.prog
    = (preI.map fun ops => (seq ops : Prog _ PUnit)) ++ HostLoop.enter 0 :: ((midI.map fun ops => (seq ops : Prog _ PUnit))
        ++ HostLoop.enter 1 :: postI.map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs (F := F) m)
    (fun c => iprop(iprop(held (c : Thread nD τ) (ucRefs τ sig) (FINAL m c)) ∗ ∃ W, owes (c : Thread nD τ) (0 : CellTallies nD τ sig Unit) W)) := by
  unfold segs
  exact CSeg.Chains.append (segsOf_chains _ _ _ _ _ _ _ _ Rw preI plainPre _) ⟨fun _ => .rfl,
    CSeg.Chains.append (segsOf_chains _ _ _ _ _ _ _ _ Rw midI plainMid _) ⟨fun _ => .rfl, segsOf_chains _ _ _ _ _ _ _ _ Rw postI plainPost _⟩⟩

theorem cells_inj : Function.Injective (Pipeline.cellOf (nD := nD) (τ := τ) (Pipeline.pin (pcfgs (F := F)) adm)) := fun k => k.1.elim0

set_option maxRecDepth 100000 in
/-- Every execution ends, with every buffer at the fold. -/
theorem run_fold [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = FINAL m c (Proc.devRef .tc b)) :=
  Pipeline.θ_run_regions_loop_kit (Ix := Unit) (Name := ℕ) (U := Option PUnit) (Lvl := ℕ) (J := Fin 0) (P := Fin 0) (Val := Elt F)
    (pcfgs (F := F)) adm cells_inj defs₀ Variants.none lvs lev loops tk m ρ main (segs m)
    (fun c Q => by
      rw [main_chain_windows c]
      show wp _ _ _ (Pipeline.chain ((segs m).map CSeg.prog)) Q ⊢ _
      rw [segs_prog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (FINAL m c)))
    (hch := segs_chains m)
    (hinit := by
      refine Pipeline.initEach lvs lev fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = FINAL m c b)
    (hfin := fun c s' => by
      unfold held
      iintro ⟨Hh, HSI⟩
      ihave Hr := (pointsTo_read_all (ucRefs τ sig) (fun b => ((c : Dev nD), b)) (fun b => FINAL m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Ops

end
-- ==== Proof.RefKept.lean ====
/-
  What the reference program keeps, and its frame.
-/
module

public import proofs.«01_k».proof.Proof.RefFold
public import proofs.«01_k».proof.Defs
public import Idealize.ShloMosaic.Lib.Pipeline.RegionsLoop
public import Idealize.ShloMosaic.Lib.StableHlo.RunClose

@[expose] public section

set_option maxRecDepth 2000

noncomputable section

namespace Cert.ReferenceIdeal.Ops

open Cert.ReferenceIdeal.Gen
open Idealize.ShloMosaic Idealize.ShloMosaic.TcCoe
open Idealize.ShloMosaic.StableHlo
open Idealize.ShloMosaic.Pipeline (CSeg Ticket ucRefs sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- What `preI` writes. -/
abbrev preW : List (List (Ref sig .tc)) := [main_part0_ops0_W, main_part0_ops1_W, main_part0_ops2_W, main_part0_ops3_W, main_part0_ops4_W]
theorem pre_of (V : Valuation τ sig (Elt F)) (r : Ref sig .tc) (h : ∀ W ∈ preW, r ∉ W) : afterL preI V (Proc.devRef .tc r) = V (Proc.devRef .tc r) := by
  simp only [afterL_cons, afterL_nil]
  rw [after_of_writes_sub main_part0_ops4 _ main_part0_ops4_writes (h _ (by simp only [List.mem_cons, true_or, or_true])),
    after_of_writes_sub main_part0_ops3 _ main_part0_ops3_writes (h _ (by simp only [List.mem_cons, true_or, or_true])),
    after_of_writes_sub main_part0_ops2 _ main_part0_ops2_writes (h _ (by simp only [List.mem_cons, true_or, or_true])),
    after_of_writes_sub main_part0_ops1 _ main_part0_ops1_writes (h _ (by simp only [List.mem_cons, true_or, or_true])),
    after_of_writes_sub main_part0_ops0 _ main_part0_ops0_writes (h _ (by simp only [List.mem_cons, true_or, or_true]))]
/-- What `midI` writes. -/
abbrev midW : List (List (Ref sig .tc)) := [main_part0_ops5_W]
theorem mid_of (V : Valuation τ sig (Elt F)) (r : Ref sig .tc) (h : ∀ W ∈ midW, r ∉ W) : afterL midI V (Proc.devRef .tc r) = V (Proc.devRef .tc r) := by
  simp only [afterL_cons, afterL_nil]
  rw [after_of_writes_sub main_part0_ops5 _ main_part0_ops5_writes (h _ (by simp only [List.mem_cons, true_or, or_true]))]
/-- What `postI` writes. -/
abbrev postW : List (List (Ref sig .tc)) := [main_part0_ops6_W, main_part1_ops0_W, main_part1_ops1_W, main_part1_ops2_W]
theorem post_of (V : Valuation τ sig (Elt F)) (r : Ref sig .tc) (h : ∀ W ∈ postW, r ∉ W) : afterL postI V (Proc.devRef .tc r) = V (Proc.devRef .tc r) := by
  simp only [afterL_cons, afterL_nil]
  rw [after_of_writes_sub main_part1_ops2 _ main_part1_ops2_writes (h _ (by simp only [List.mem_cons, true_or, or_true])),
    after_of_writes_sub main_part1_ops1 _ main_part1_ops1_writes (h _ (by simp only [List.mem_cons, true_or, or_true])),
    after_of_writes_sub main_part1_ops0 _ main_part1_ops0_writes (h _ (by simp only [List.mem_cons, true_or, or_true])),
    after_of_writes_sub main_part0_ops6 _ main_part0_ops6_writes (h _ (by simp only [List.mem_cons, true_or, or_true]))]
/-- What `bodyA` writes. -/
abbrev AW : List (List (Ref sig .tc)) := [while0Ops0_W, while0Ops0_1_W, while0Ops0_2_W, while0Ops0_3_W, while0Ops0_4_W, while0Ops0_5_W]
theorem A_of (V : Valuation τ sig (Elt F)) (r : Ref sig .tc) (h : ∀ W ∈ AW, r ∉ W) : afterL bodyA V (Proc.devRef .tc r) = V (Proc.devRef .tc r) := by
  simp only [afterL_cons, afterL_nil]
  rw [after_of_writes_sub while0Ops0_5 _ while0Ops0_5_writes (h _ (by simp only [List.mem_cons, true_or, or_true])),
    after_of_writes_sub while0Ops0_4 _ while0Ops0_4_writes (h _ (by simp only [List.mem_cons, true_or, or_true])),
    after_of_writes_sub while0Ops0_3 _ while0Ops0_3_writes (h _ (by simp only [List.mem_cons, true_or, or_true])),
    after_of_writes_sub while0Ops0_2 _ while0Ops0_2_writes (h _ (by simp only [List.mem_cons, true_or, or_true])),
    after_of_writes_sub while0Ops0_1 _ while0Ops0_1_writes (h _ (by simp only [List.mem_cons, true_or, or_true])),
    after_of_writes_sub while0Ops0 _ while0Ops0_writes (h _ (by simp only [List.mem_cons, true_or, or_true]))]
/-- What `bodyB` writes. -/
abbrev BW : List (List (Ref sig .tc)) := [while1Ops0_W, while1Ops0_1_W, while1Ops0_2_W, while1Ops0_3_W, while1Ops0_4_W, while1Ops0_5_W, while1Ops0_6_W]
theorem B_of (V : Valuation τ sig (Elt F)) (r : Ref sig .tc) (h : ∀ W ∈ BW, r ∉ W) : afterL bodyB V (Proc.devRef .tc r) = V (Proc.devRef .tc r) := by
  simp only [afterL_cons, afterL_nil]
  rw [after_of_writes_sub while1Ops0_6 _ while1Ops0_6_writes (h _ (by simp only [List.mem_cons, true_or, or_true])),
    after_of_writes_sub while1Ops0_5 _ while1Ops0_5_writes (h _ (by simp only [List.mem_cons, true_or, or_true])),
    after_of_writes_sub while1Ops0_4 _ while1Ops0_4_writes (h _ (by simp only [List.mem_cons, true_or, or_true])),
    after_of_writes_sub while1Ops0_3 _ while1Ops0_3_writes (h _ (by simp only [List.mem_cons, true_or, or_true])),
    after_of_writes_sub while1Ops0_2 _ while1Ops0_2_writes (h _ (by simp only [List.mem_cons, true_or, or_true])),
    after_of_writes_sub while1Ops0_1 _ while1Ops0_1_writes (h _ (by simp only [List.mem_cons, true_or, or_true])),
    after_of_writes_sub while1Ops0 _ while1Ops0_writes (h _ (by simp only [List.mem_cons, true_or, or_true]))]

theorem condA_of (V : Valuation τ sig (Elt F)) (r : Ref sig .tc) (h : r ∉ condA_W) : after condA V (Proc.devRef .tc r) = V (Proc.devRef .tc r) :=
  after_of_writes_sub condA _ condA_writes h
theorem condB_of (V : Valuation τ sig (Elt F)) (r : Ref sig .tc) (h : r ∉ condB_W) : after condB V (Proc.devRef .tc r) = V (Proc.devRef .tc r) :=
  after_of_writes_sub condB _ condB_writes h

/-- What no trip of the forward scan writes is as it was on entry, -/
theorem tripA_of (r : Ref sig .tc) (h : ∀ W ∈ condA_W :: AW, r ∉ W) (c : Dev nD) : ∀ k, tripA m k c (Proc.devRef .tc r) = atA m c (Proc.devRef .tc r)
  | 0 => by rw [tripA_zero]
  | k + 1 => by
    rw [tripA_succ, A_of _ _ fun W hW => h W (List.mem_cons_of_mem _ hW), condA_of _ _ (h _ List.mem_cons_self), tripA_of r h c k]
/-- and so for the backward scan. -/
theorem tripB_of (r : Ref sig .tc) (h : ∀ W ∈ condB_W :: BW, r ∉ W) (c : Dev nD) : ∀ k, tripB m k c (Proc.devRef .tc r) = atB m c (Proc.devRef .tc r)
  | 0 => by rw [tripB_zero]
  | k + 1 => by
    rw [tripB_succ, B_of _ _ fun W hW => h W (List.mem_cons_of_mem _ hW), condB_of _ _ (h _ List.mem_cons_self), tripB_of r h c k]
theorem atB_of (r : Ref sig .tc) (h : ∀ W ∈ midW ++ (condA_W :: AW), r ∉ W) (c : Dev nD) : atB m c (Proc.devRef .tc r) = atA m c (Proc.devRef .tc r) := by
  unfold atB
  rw [mid_of _ _ fun W hW => h W (List.mem_append_left _ hW), condA_of _ _ (h _ (List.mem_append_right _ List.mem_cons_self)),
    tripA_of m r fun W hW => h W (List.mem_append_right _ hW)]
theorem FINAL_of (r : Ref sig .tc) (h : ∀ W ∈ postW ++ (condB_W :: BW), r ∉ W) (c : Dev nD) : FINAL m c (Proc.devRef .tc r) = atB m c (Proc.devRef .tc r) := by
  unfold FINAL
  rw [post_of _ _ fun W hW => h W (List.mem_append_left _ hW), condB_of _ _ (h _ (List.mem_append_right _ List.mem_cons_self)),
    tripB_of m r fun W hW => h W (List.mem_append_right _ hW)]

/-- No operation writes `r`. -/
abbrev Kept (r : Ref sig .tc) : Prop := ∀ W ∈ preW ++ (midW ++ (condA_W :: AW)) ++ (postW ++ (condB_W :: BW)), r ∉ W

theorem atA_kept {r : Ref sig .tc} (h : Kept r) (c : Dev nD) : atA m c (Proc.devRef .tc r) = m (c, Proc.devRef .tc r) := by
  unfold atA
  rw [pre_of _ _ fun W hW => h W (List.mem_append_left _ (List.mem_append_left _ hW))]
theorem atB_kept {r : Ref sig .tc} (h : Kept r) (c : Dev nD) : atB m c (Proc.devRef .tc r) = m (c, Proc.devRef .tc r) :=
  (atB_of m r (fun W hW => h W (List.mem_append_left _ (List.mem_append_right _ hW))) c).trans (atA_kept m h c)
theorem tripA_kept {r : Ref sig .tc} (h : Kept r) (c : Dev nD) (k : ℕ) : tripA m k c (Proc.devRef .tc r) = m (c, Proc.devRef .tc r) :=
  (tripA_of m r (fun W hW => h W (List.mem_append_left _ (List.mem_append_right _ (List.mem_append_right _ hW)))) c k).trans (atA_kept m h c)
theorem tripB_kept {r : Ref sig .tc} (h : Kept r) (c : Dev nD) (k : ℕ) : tripB m k c (Proc.devRef .tc r) = m (c, Proc.devRef .tc r) :=
  (tripB_of m r (fun W hW => h W (List.mem_append_right _ (List.mem_append_right _ hW))) c k).trans (atB_kept m h c)
theorem FINAL_kept {r : Ref sig .tc} (h : Kept r) (c : Dev nD) : FINAL m c (Proc.devRef .tc r) = m (c, Proc.devRef .tc r) :=
  (FINAL_of m r (fun W hW => h W (List.mem_append_right _ hW)) c).trans (atB_kept m h c)

theorem kept0 : Kept main_arg0 := by decide +kernel
theorem kept1 : Kept main_arg1 := by decide +kernel
theorem kept2 : Kept main_arg2 := by decide +kernel
theorem kept3 : Kept main_arg3 := by decide +kernel
theorem kept4 : Kept main_arg4 := by decide +kernel
theorem kept5 : Kept main_arg5 := by decide +kernel
theorem kept6 : Kept main_arg6 := by decide +kernel
theorem kept7 : Kept main_arg7 := by decide +kernel
theorem kept8 : Kept main_arg8 := by decide +kernel
theorem kept9 : Kept main_arg9 := by decide +kernel
theorem kept10 : Kept main_arg10 := by decide +kernel
theorem kept11 : Kept main_arg11 := by decide +kernel
theorem kept12 : Kept main_arg12 := by decide +kernel
theorem kept13 : Kept main_arg13 := by decide +kernel

/-- The program declares no semaphore. -/
theorem sem_zero (s : MemSt nD τ sig (Elt F)) : s.sem = fun _ => 0 := funext fun g => by
  obtain ⟨_, s⟩ := g
  match s with
  | .reg s => exact s.elim0
  | .dma s => exact s.elim0

/-- The arguments are as they were. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)

theorem args_kept {r : PUnit × MemSt nD τ sig (Elt F)}
    (h : ∀ (c : Dev nD) (b : Ref sig .tc), (Proc.devRef .tc b : DevRef τ sig).isScoped = false → r.2.mem ((c.tc : Thread nD τ).loc b) = FINAL m c (Proc.devRef .tc b))
    (c : Dev nD) : ArgsKept m r c :=
  ⟨(h c main_arg0 (by decide)).trans (FINAL_kept m kept0 c), (h c main_arg1 (by decide)).trans (FINAL_kept m kept1 c), (h c main_arg2 (by decide)).trans (FINAL_kept m kept2 c), (h c main_arg3 (by decide)).trans (FINAL_kept m kept3 c), (h c main_arg4 (by decide)).trans (FINAL_kept m kept4 c), (h c main_arg5 (by decide)).trans (FINAL_kept m kept5 c), (h c main_arg6 (by decide)).trans (FINAL_kept m kept6 c), (h c main_arg7 (by decide)).trans (FINAL_kept m kept7 c), (h c main_arg8 (by decide)).trans (FINAL_kept m kept8 c), (h c main_arg9 (by decide)).trans (FINAL_kept m kept9 c), (h c main_arg10 (by decide)).trans (FINAL_kept m kept10 c), (h c main_arg11 (by decide)).trans (FINAL_kept m kept11 c), (h c main_arg12 (by decide)).trans (FINAL_kept m kept12 c), (h c main_arg13 (by decide)).trans (FINAL_kept m kept13 c)⟩

theorem frame_reference : Cert.quiescent_ReferenceIdeal := fun m ρ _ =>
  (θ_run Cert.ReferenceIdeal.defs _ _).mono (fun r h => ⟨fun c => args_kept (F := Ideal) m h c, sem_zero r.2⟩) (run_fold (F := Ideal) m ρ)

theorem frame_reference_finite [Cert.Pre_in_vocab_finite.Facts] : Cert.quiescent_ReferenceIdeal_pre_in_vocab_finite := fun m ρ _ =>
  (θ_run Cert.ReferenceIdeal.defs _ _).mono (fun r h => ⟨fun c => args_kept (F := Ideal) m h c, sem_zero r.2⟩) (run_fold (F := Ideal) m ρ)

end Cert.ReferenceIdeal.Ops

end
-- ==== Proof.RefRead.lean ====
/-
  What the plain program's stretches compute, element by element, over the extended reals.
-/
module

public import proofs.«01_k».proof.Proof.RefKept
public import Idealize.ShloMosaic.Lib.Pointwise
public import Idealize.ShloMosaic.Lib.StableHlo.ReadAt

@[expose] public section

set_option maxRecDepth 16384

noncomputable section

namespace Cert.ReferenceIdeal.Read

open Cert.ReferenceIdeal.Gen Cert.ReferenceIdeal.Ops
open Idealize.ShloMosaic Idealize.ShloMosaic.TcCoe
open Idealize.ShloMosaic.StableHlo

abbrev NN : EReal := (Scalar.ofBits (F := Ideal) .f32 0x48480000#32 : Ideal .f32)
abbrev NB : EReal := (Scalar.ofBits (F := Ideal) .f32 0x44800000#32 : Ideal .f32)
abbrev EPS : EReal := (Scalar.ofBits (F := Ideal) .f32 0x3A83126F#32 : Ideal .f32)

/-- A float over the extended reals, as one. -/
abbrev re (x : EReal) : EReal := x

/-- A sum over the two leading axes. -/
theorem reduce01 (v : S1024x200x128.Idx → EReal) (init : EReal) (e : Fin 128) :
    Ideal.hostReduceAdd reducesTo_S1024x200x128_S128_d0_1 v init (ix1 e) = init + ∑ p : Fin 1024, ∑ t : Fin 200, v (ix3 p t e) := by
  refine congrArg (init + ·) ?_
  refine (Finset.sum_filter_eq_sum_of_fiber _ (fun k : Fin 1024 × Fin 200 => (ix3 k.1 k.2 e : S1024x200x128.Idx))
    (fun _ _ h => Prod.ext (congrFun h 0) (congrFun h 1)) (fun i => ⟨fun h => ?_, fun h => ?_⟩) v).trans (Fintype.sum_prod_type _)
  · refine ⟨(i 0, i 1), ?_⟩
    funext b
    match b with
    | ⟨0, _⟩ => rfl
    | ⟨1, _⟩ => rfl
    | ⟨2, _⟩ => exact Fin.ext (congrArg Fin.val (congrFun h 0)).symm
  · obtain ⟨k, rfl⟩ := h
    funext b
    match b with
    | ⟨0, _⟩ => rfl

theorem NN_eq : NN = ((204800 : ℝ) : EReal) := by
  show Ideal.ofBits .f32 0x48480000#32 = _
  simp [Ideal.ofBits, Ideal.ieee]
  rw [← EReal.coe_mul]
  norm_num
theorem NB_eq : NB = ((1024 : ℝ) : EReal) := by
  show Ideal.ofBits .f32 0x44800000#32 = _
  simp [Ideal.ofBits, Ideal.ieee]
  rw [← EReal.coe_mul]
  norm_num
theorem EPS_pos : ∃ ε : ℝ, 0 < ε ∧ EPS = (ε : EReal) := by
  refine ⟨8589935 / 8589934592, by norm_num, ?_⟩
  show Ideal.ofBits .f32 0x3A83126F#32 = _
  simp [Ideal.ofBits, Ideal.ieee]
  rw [← EReal.coe_mul]
  norm_num

theorem EReal.sub_zero' (x : EReal) : x - 0 = x := by simp
theorem NN_pos : (0 : EReal) < Ideal.ofBits .f32 0x48480000#32 := by
  rw [show Ideal.ofBits .f32 0x48480000#32 = ((204800 : ℝ) : EReal) from NN_eq]
  exact EReal.coe_pos.2 (by norm_num)
theorem NB_pos : (0 : EReal) < Ideal.ofBits .f32 0x44800000#32 := by
  rw [show Ideal.ofBits .f32 0x44800000#32 = ((1024 : ℝ) : EReal) from NB_eq]
  exact EReal.coe_pos.2 (by norm_num)
theorem sitofp0 : (FloatOps.sitofp (F := Ideal) FTy.f32 (0#32 : BitVec 32) : EReal) = 0 := by
  show (((0#32 : BitVec 32).toInt : ℝ) : EReal) = 0
  simp

/-- The softmax of a row, as either program writes it. -/
def smax (l : Fin 64 → EReal) (q : Fin 64) : EReal :=
  Ideal.div (Ideal.exp (l q - max (Ideal.ofBits .f32 0xFF800000#32) (Finset.fold max (Ideal.ofBits .f32 0xFF800000#32) l Finset.univ)))
    (∑ x : Fin 64, Ideal.exp (l x - max (Ideal.ofBits .f32 0xFF800000#32) (Finset.fold max (Ideal.ofBits .f32 0xFF800000#32) l Finset.univ)))

variable (V : Valuation τ sig (Elt Ideal))

theorem mask (p : Fin 1024) (t : Fin 200) : after main_part0_ops0 V (Proc.devRef .tc main_v1) (ix2 p t) =
    IntOp.cmpi .ne ((V (Proc.devRef .tc main_arg0)) (ix2 p t)) 0#32 := by
  after_reads_at

theorem mean1 (e : Fin 128) : after main_part0_ops2 V (Proc.devRef .tc main_v5) (ix1 e) =
    Ideal.div (0 + ∑ p : Fin 1024, ∑ t : Fin 200, re ((V (Proc.devRef .tc main_v2)) (ix3 p t e))) NN := by
  dsimp only [re]
  after_reads_at
  rw [reduce01, zero_add]

theorem zero1  : after main_part0_ops2 V (Proc.devRef .tc main_c_1) ix0 =
    0#32 := by
  after_reads_at

theorem var1 (h : (V (Proc.devRef .tc main_c_1)) ix0 = 0#32) (e : Fin 128) : after main_part0_ops3 V (Proc.devRef .tc main_v6) (ix1 e) =
    Ideal.div (0 + ∑ p : Fin 1024, ∑ t : Fin 200, (re ((V (Proc.devRef .tc main_v2)) (ix3 p t e)) - Ideal.div (0 + ∑ p : Fin 1024, ∑ t : Fin 200, re ((V (Proc.devRef .tc main_v2)) (ix3 p t e))) NN) * (re ((V (Proc.devRef .tc main_v2)) (ix3 p t e)) - Ideal.div (0 + ∑ p : Fin 1024, ∑ t : Fin 200, re ((V (Proc.devRef .tc main_v2)) (ix3 p t e))) NN)) NN := by
  dsimp only [re]
  after_reads_at
  pointwise [reduce01, h, id_eq]
  rw [sitofp0, EReal.sub_zero', if_pos NN_pos]

theorem norm1 (t : Fin 200) (p : Fin 1024) (e : Fin 128) : after main_part0_ops4 V (Proc.devRef .tc main_v26_0) (ix3 t p e) =
    Ideal.div (re ((V (Proc.devRef .tc main_arg2)) (ix1 e)) * (re ((V (Proc.devRef .tc main_v2)) (ix3 p t e)) - re ((V (Proc.devRef .tc main_v5)) (ix1 e)))) (Ideal.sqrt (re ((V (Proc.devRef .tc main_v6)) (ix1 e)) + EPS)) + re ((V (Proc.devRef .tc main_arg3)) (ix1 e)) := by
  dsimp only [re]
  after_reads_at
  simp only [id_eq]
  pointwise

theorem norm1' (t : Fin 200) (p : Fin 1024) (e : Fin 128) : after main_part0_ops4 V (Proc.devRef .tc main_v22) (ix3 t p e) =
    Ideal.div (re ((V (Proc.devRef .tc main_arg2)) (ix1 e)) * (re ((V (Proc.devRef .tc main_v2)) (ix3 p t e)) - re ((V (Proc.devRef .tc main_v5)) (ix1 e)))) (Ideal.sqrt (re ((V (Proc.devRef .tc main_v6)) (ix1 e)) + EPS)) + re ((V (Proc.devRef .tc main_arg3)) (ix1 e)) := by
  dsimp only [re]
  after_reads_at

theorem maskT (t : Fin 200) (p : Fin 1024) : after main_part0_ops4 V (Proc.devRef .tc main_v26_1) (ix2 t p) =
    (V (Proc.devRef .tc main_v1)) (ix2 p t) := by
  after_reads_at
  simp only [id_eq]
  pointwise

theorem maskT' (t : Fin 200) (p : Fin 1024) : after main_part0_ops4 V (Proc.devRef .tc main_v23) (ix2 t p) =
    (V (Proc.devRef .tc main_v1)) (ix2 p t) := by
  after_reads_at

theorem carA2  : after main_part0_ops4 V (Proc.devRef .tc main_v26_2) =
    (V (Proc.devRef .tc main_arg4)) := by
  after_reads_at
  rfl

theorem carA3  : after main_part0_ops4 V (Proc.devRef .tc main_v26_3) =
    (V (Proc.devRef .tc main_arg5)) := by
  after_reads_at
  rfl

theorem carA4  : after main_part0_ops4 V (Proc.devRef .tc main_v26_4) =
    (V (Proc.devRef .tc main_arg6)) := by
  after_reads_at
  rfl

theorem carA6 (j : S1024x256.Idx) : after main_part0_ops4 V (Proc.devRef .tc main_v26_6) j =
    (0 : EReal) := by
  after_reads_at
  simp only [id_eq]
  pointwise

theorem carA7 (j : S1024x256.Idx) : after main_part0_ops4 V (Proc.devRef .tc main_v26_7) j =
    (0 : EReal) := by
  after_reads_at
  simp only [id_eq]
  pointwise

theorem carB0  : after main_part0_ops5 V (Proc.devRef .tc main_v29_0) =
    (V (Proc.devRef .tc main_v22)) := by
  after_reads_at
  rfl

theorem carB1  : after main_part0_ops5 V (Proc.devRef .tc main_v29_1) =
    (V (Proc.devRef .tc main_v23)) := by
  after_reads_at
  rfl

theorem carB2  : after main_part0_ops5 V (Proc.devRef .tc main_v29_2) =
    (V (Proc.devRef .tc main_arg7)) := by
  after_reads_at
  rfl

theorem carB3  : after main_part0_ops5 V (Proc.devRef .tc main_v29_3) =
    (V (Proc.devRef .tc main_arg8)) := by
  after_reads_at
  rfl

theorem carB4  : after main_part0_ops5 V (Proc.devRef .tc main_v29_4) =
    (V (Proc.devRef .tc main_arg9)) := by
  after_reads_at
  rfl

theorem carB6 (j : S1024x256.Idx) : after main_part0_ops5 V (Proc.devRef .tc main_v29_6) j =
    (0 : EReal) := by
  after_reads_at
  simp only [id_eq]
  pointwise

theorem carB7 (j : S1024x256.Idx) : after main_part0_ops5 V (Proc.devRef .tc main_v29_7) j =
    (0 : EReal) := by
  after_reads_at
  simp only [id_eq]
  pointwise

theorem toInt_small (n : Fin 200) : (BitVec.ofNat 32 n.val).toInt = (n.val : Int) := by
  have := n.isLt
  rw [BitVec.toInt_eq_toNat_of_lt (by rw [BitVec.toNat_ofNat]; omega), BitVec.toNat_ofNat]
  omega

theorem row3 (x : Vec Ideal S200x1024x128 .f32) (i : Fin 3 → Vec Ideal S_ .i32) (hf) (hs) (n : Fin 200)
    (h0 : i 0 ix0 = BitVec.ofNat 32 n.val) (h1 : i 1 ix0 = 0#32) (h2 : i 2 ix0 = 0#32) (p : Fin 1024) (e : Fin 128) :
    shapeCast S1024x128 (Host.dynamicSlice S1x1024x128 x (fun k => BitVec.toInt (i k (Shape.Idx.first h_S_))) hf) hs (ix2 p e) = x (ix3 n p e) := by
  pointwise
  have hix : (ix0 : S_.Idx) = Shape.Idx.first h_S_ := funext fun a => a.elim0
  rw [hix] at h0 h1 h2
  have e0 : BitVec.toInt (i 0 (Shape.Idx.first h_S_)) = ((n.val : Nat) : Int) := (congrArg BitVec.toInt h0).trans (toInt_small n)
  have e1 : BitVec.toInt (i 1 (Shape.Idx.first h_S_)) = ((0 : Nat) : Int) := (congrArg BitVec.toInt h1).trans (by decide)
  have e2 : BitVec.toInt (i 2 (Shape.Idx.first h_S_)) = ((0 : Nat) : Int) := (congrArg BitVec.toInt h2).trans (by decide)
  revert e0 e1 e2
  generalize hst : (fun k => BitVec.toInt (i k (Shape.Idx.first h_S_))) = st
  intro e0 e1 e2
  refine congrArg x (funext fun a => Fin.ext ?_)
  match a with
  | ⟨0, _⟩ => exact Host.clampedStart_of_le (s := S200x1024x128) (t := S1x1024x128) rfl st 0 n.val (by rw [← hst]; exact e0) (by have := n.isLt; show n.val + 1 ≤ 200; omega)
  | ⟨1, _⟩ => exact (congrArg (· + p.val) (Host.clampedStart_of_le (s := S200x1024x128) (t := S1x1024x128) rfl st 1 0 (by rw [← hst]; exact e1) (by show 0 + 1024 ≤ 1024; omega))).trans (Nat.zero_add _)
  | ⟨2, _⟩ => exact (congrArg (· + e.val) (Host.clampedStart_of_le (s := S200x1024x128) (t := S1x1024x128) rfl st 2 0 (by rw [← hst]; exact e2) (by show 0 + 128 ≤ 128; omega))).trans (Nat.zero_add _)

theorem row2 (x : Vec Ideal S200x1024 .i1) (i : Fin 2 → Vec Ideal S_ .i32) (hf) (hs) (n : Fin 200)
    (h0 : i 0 ix0 = BitVec.ofNat 32 n.val) (h1 : i 1 ix0 = 0#32) (p : Fin 1024) :
    shapeCast S1024 (Host.dynamicSlice S1x1024 x (fun k => BitVec.toInt (i k (Shape.Idx.first h_S_))) hf) hs (ix1 p) = x (ix2 n p) := by
  pointwise
  have hix : (ix0 : S_.Idx) = Shape.Idx.first h_S_ := funext fun a => a.elim0
  rw [hix] at h0 h1
  have e0 : BitVec.toInt (i 0 (Shape.Idx.first h_S_)) = ((n.val : Nat) : Int) := (congrArg BitVec.toInt h0).trans (toInt_small n)
  have e1 : BitVec.toInt (i 1 (Shape.Idx.first h_S_)) = ((0 : Nat) : Int) := (congrArg BitVec.toInt h1).trans (by decide)
  revert e0 e1
  generalize hst : (fun k => BitVec.toInt (i k (Shape.Idx.first h_S_))) = st
  intro e0 e1
  refine congrArg x (funext fun a => Fin.ext ?_)
  match a with
  | ⟨0, _⟩ => exact Host.clampedStart_of_le (s := S200x1024) (t := S1x1024) rfl st 0 n.val (by rw [← hst]; exact e0) (by have := n.isLt; show n.val + 1 ≤ 200; omega)
  | ⟨1, _⟩ => exact (congrArg (· + p.val) (Host.clampedStart_of_le (s := S200x1024) (t := S1x1024) rfl st 1 0 (by rw [← hst]; exact e1) (by show 0 + 1024 ≤ 1024; omega))).trans (Nat.zero_add _)

theorem xA (n : Fin 200) (h : V (Proc.devRef .tc main_v26_5) ix0 = BitVec.ofNat 32 n.val) (p : Fin 1024) (e : Fin 128) : after while0Ops0 V (Proc.devRef .tc main_while0b_v65) (ix2 p e) =
    (V (Proc.devRef .tc main_v26_0)) (ix3 n p e) := by
  after_results
  exact row3 _ _ sliceFits_S200x1024x128_S1x1024x128 shapeCasts_S1x1024x128_S1024x128 n h rfl rfl p e

theorem mA (n : Fin 200) (h : V (Proc.devRef .tc main_v26_5) ix0 = BitVec.ofNat 32 n.val) (p : Fin 1024) : after while0Ops0_1 V (Proc.devRef .tc main_while0b_v66) (ix1 p) =
    (V (Proc.devRef .tc main_v26_1)) (ix2 n p) := by
  after_results
  exact row2 _ _ sliceFits_S200x1024_S1x1024 shapeCasts_S1x1024_S1024 n h rfl p

/-- The four gates' sums. -/
def ZA (p q : Fin 1024) : EReal := ∑ i : Fin 128, re ((V (Proc.devRef .tc main_while0b_v65)) (ix2 p i)) * re ((V (Proc.devRef .tc main_v26_2)) (ix2 i q)) + ∑ i : Fin 256, re ((V (Proc.devRef .tc main_v26_6)) (ix2 p i)) * re ((V (Proc.devRef .tc main_v26_3)) (ix2 i q)) + re ((V (Proc.devRef .tc main_v26_4)) (ix1 q))
theorem cA (p : Fin 1024) (u : Fin 256) : after while0Ops0_2 V (Proc.devRef .tc main_while0b_v98) (ix2 p u) =
    Ideal.logistic (ZA V p ⟨256 + u.val, by omega⟩) * re ((V (Proc.devRef .tc main_v26_7)) (ix2 p u)) + Ideal.logistic (ZA V p ⟨u.val, by omega⟩) * Ideal.tanh (ZA V p ⟨512 + u.val, by omega⟩) := by
  unfold ZA Ideal.logistic
  dsimp only [re]
  after_reads_at

theorem hA (p : Fin 1024) (u : Fin 256) : after while0Ops0_2 V (Proc.devRef .tc main_while0b_v100) (ix2 p u) =
    Ideal.logistic (ZA V p ⟨768 + u.val, by omega⟩) * Ideal.tanh (Ideal.logistic (ZA V p ⟨256 + u.val, by omega⟩) * re ((V (Proc.devRef .tc main_v26_7)) (ix2 p u)) + Ideal.logistic (ZA V p ⟨u.val, by omega⟩) * Ideal.tanh (ZA V p ⟨512 + u.val, by omega⟩)) := by
  unfold ZA Ideal.logistic
  dsimp only [re]
  after_reads_at

theorem mmA (p : Fin 1024) : after while0Ops0_2 V (Proc.devRef .tc main_while0b_v101) (ix2 p 0) =
    (V (Proc.devRef .tc main_while0b_v66)) (ix1 p) := by
  after_reads_at

theorem h2A (p : Fin 1024) (u : Fin 256) : after while0Ops0_3 V (Proc.devRef .tc main_while0b_v102) (ix2 p u) =
    Scalar.select ((V (Proc.devRef .tc main_while0b_v101)) (ix2 p 0)) ((V (Proc.devRef .tc main_while0b_v100)) (ix2 p u)) ((V (Proc.devRef .tc main_v26_6)) (ix2 p u)) := by
  after_reads_at

theorem c2A (p : Fin 1024) (u : Fin 256) : after while0Ops0_4 V (Proc.devRef .tc main_while0b_v103) (ix2 p u) =
    Scalar.select ((V (Proc.devRef .tc main_while0b_v101)) (ix2 p 0)) ((V (Proc.devRef .tc main_while0b_v98)) (ix2 p u)) ((V (Proc.devRef .tc main_v26_7)) (ix2 p u)) := by
  after_reads_at

theorem st6A  : after while0Ops0_5 V (Proc.devRef .tc main_v26_6) =
    (V (Proc.devRef .tc main_while0b_v102)) := by
  after_reads_at
  rfl

theorem st7A  : after while0Ops0_5 V (Proc.devRef .tc main_v26_7) =
    (V (Proc.devRef .tc main_while0b_v103)) := by
  after_reads_at
  rfl

theorem xB (n : Fin 200) (h : V (Proc.devRef .tc main_while1b_v66) ix0 = BitVec.ofNat 32 n.val) (p : Fin 1024) (e : Fin 128) : after while1Ops0_1 V (Proc.devRef .tc main_while1b_v67) (ix2 p e) =
    (V (Proc.devRef .tc main_v29_0)) (ix3 n p e) := by
  after_results
  exact row3 _ _ sliceFits_S200x1024x128_S1x1024x128 shapeCasts_S1x1024x128_S1024x128 n h rfl rfl p e

theorem mB (n : Fin 200) (h : V (Proc.devRef .tc main_while1b_v66) ix0 = BitVec.ofNat 32 n.val) (p : Fin 1024) : after while1Ops0_2 V (Proc.devRef .tc main_while1b_v68) (ix1 p) =
    (V (Proc.devRef .tc main_v29_1)) (ix2 n p) := by
  after_results
  exact row2 _ _ sliceFits_S200x1024_S1x1024 shapeCasts_S1x1024_S1024 n h rfl p

/-- The four gates' sums. -/
def ZB (p q : Fin 1024) : EReal := ∑ i : Fin 128, re ((V (Proc.devRef .tc main_while1b_v67)) (ix2 p i)) * re ((V (Proc.devRef .tc main_v29_2)) (ix2 i q)) + ∑ i : Fin 256, re ((V (Proc.devRef .tc main_v29_6)) (ix2 p i)) * re ((V (Proc.devRef .tc main_v29_3)) (ix2 i q)) + re ((V (Proc.devRef .tc main_v29_4)) (ix1 q))
theorem cB (p : Fin 1024) (u : Fin 256) : after while1Ops0_3 V (Proc.devRef .tc main_while1b_v100) (ix2 p u) =
    Ideal.logistic (ZB V p ⟨256 + u.val, by omega⟩) * re ((V (Proc.devRef .tc main_v29_7)) (ix2 p u)) + Ideal.logistic (ZB V p ⟨u.val, by omega⟩) * Ideal.tanh (ZB V p ⟨512 + u.val, by omega⟩) := by
  unfold ZB Ideal.logistic
  dsimp only [re]
  after_reads_at

theorem hB (p : Fin 1024) (u : Fin 256) : after while1Ops0_3 V (Proc.devRef .tc main_while1b_v102) (ix2 p u) =
    Ideal.logistic (ZB V p ⟨768 + u.val, by omega⟩) * Ideal.tanh (Ideal.logistic (ZB V p ⟨256 + u.val, by omega⟩) * re ((V (Proc.devRef .tc main_v29_7)) (ix2 p u)) + Ideal.logistic (ZB V p ⟨u.val, by omega⟩) * Ideal.tanh (ZB V p ⟨512 + u.val, by omega⟩)) := by
  unfold ZB Ideal.logistic
  dsimp only [re]
  after_reads_at

theorem mmB (p : Fin 1024) : after while1Ops0_3 V (Proc.devRef .tc main_while1b_v103) (ix2 p 0) =
    (V (Proc.devRef .tc main_while1b_v68)) (ix1 p) := by
  after_reads_at

theorem h2B (p : Fin 1024) (u : Fin 256) : after while1Ops0_4 V (Proc.devRef .tc main_while1b_v104) (ix2 p u) =
    Scalar.select ((V (Proc.devRef .tc main_while1b_v103)) (ix2 p 0)) ((V (Proc.devRef .tc main_while1b_v102)) (ix2 p u)) ((V (Proc.devRef .tc main_v29_6)) (ix2 p u)) := by
  after_reads_at

theorem c2B (p : Fin 1024) (u : Fin 256) : after while1Ops0_5 V (Proc.devRef .tc main_while1b_v105) (ix2 p u) =
    Scalar.select ((V (Proc.devRef .tc main_while1b_v103)) (ix2 p 0)) ((V (Proc.devRef .tc main_while1b_v100)) (ix2 p u)) ((V (Proc.devRef .tc main_v29_7)) (ix2 p u)) := by
  after_reads_at

theorem st6B  : after while1Ops0_6 V (Proc.devRef .tc main_v29_6) =
    (V (Proc.devRef .tc main_while1b_v104)) := by
  after_reads_at
  rfl

theorem st7B  : after while1Ops0_6 V (Proc.devRef .tc main_v29_7) =
    (V (Proc.devRef .tc main_while1b_v105)) := by
  after_reads_at
  rfl

/-- The concatenated states. -/
def CAT (p : Fin 1024) (e : Fin 512) : EReal :=
  if h : e.val < 256 then V (Proc.devRef .tc main_v26_6) (ix2 p ⟨e.val, h⟩) else V (Proc.devRef .tc main_v29_6) (ix2 p ⟨e.val - 256, by omega⟩)
/-- The concatenated states, read. -/
abbrev HH (p : Fin 1024) (e : Fin 512) : EReal := V (Proc.devRef .tc main_v30) (ix2 p e)
theorem cat (p : Fin 1024) (e : Fin 512) : after main_part0_ops6 V (Proc.devRef .tc main_v30) (ix2 p e) =
    CAT V p e := by
  unfold CAT
  after_reads_at

theorem sum2 (e : Fin 512) : after main_part0_ops6 V (Proc.devRef .tc main_v31) (ix1 e) =
    ∑ p : Fin 1024, CAT V p e := by
  unfold CAT
  after_reads_at
  rfl

theorem mean2 (e : Fin 512) : after main_part1_ops0 V (Proc.devRef .tc main_v33) (ix1 e) =
    Ideal.div ((V (Proc.devRef .tc main_v31)) (ix1 e)) NB := by
  after_reads_at

theorem zero2  : after main_part1_ops0 V (Proc.devRef .tc main_c_11) ix0 =
    0#32 := by
  after_reads_at

theorem var2 (h : V (Proc.devRef .tc main_c_11) ix0 = 0#32) (e : Fin 512) : after main_part1_ops1 V (Proc.devRef .tc main_v34) (ix1 e) =
    Ideal.div (∑ p : Fin 1024, (HH V p e - Ideal.div (∑ p : Fin 1024, HH V p e) NB) * (HH V p e - Ideal.div (∑ p : Fin 1024, HH V p e) NB)) NB := by
  unfold HH
  after_reads_at
  pointwise [h, id_eq]
  rw [sitofp0, EReal.sub_zero', if_pos NB_pos]

/-- The second normalisation and the dense layer. -/
def nrm2 (p : Fin 1024) (e : Fin 512) : EReal := Ideal.div (re ((V (Proc.devRef .tc main_arg10)) (ix1 e)) * (HH V p e - re ((V (Proc.devRef .tc main_v33)) (ix1 e)))) (Ideal.sqrt (re ((V (Proc.devRef .tc main_v34)) (ix1 e)) + EPS)) + re ((V (Proc.devRef .tc main_arg11)) (ix1 e))
def lin (p : Fin 1024) (q : Fin 64) : EReal := ∑ e : Fin 512, nrm2 V p e * re ((V (Proc.devRef .tc main_arg12)) (ix2 e q)) + re ((V (Proc.devRef .tc main_arg13)) (ix1 q))
theorem out (p : Fin 1024) (q : Fin 64) : after main_part1_ops2 V (Proc.devRef .tc main_v64) (ix2 p q) =
    smax (lin V p) q := by
  unfold smax lin nrm2 HH re
  after_reads_at

end Cert.ReferenceIdeal.Read

end
-- ==== Proof.RefTake.lean ====
/-
  The gather of the reference read at an index, and the reversed counter.
-/
module

public import proofs.«01_k».proof.Proof.RefKept
public import proofs.«01_k».proof.Proof.RefRead
public import Idealize.ShloMosaic.Lib.Pointwise
public import Idealize.ShloMosaic.Lib.StableHlo.ReadAt

@[expose] public section

set_option maxRecDepth 16384

noncomputable section

namespace Cert.ReferenceIdeal.Read

open Cert.ReferenceIdeal.Gen Cert.ReferenceIdeal.Ops
open Idealize.ShloMosaic Idealize.ShloMosaic.TcCoe
open Idealize.ShloMosaic.StableHlo

theorem gather_at (x : Vec Ideal S100000x128 .f32) (idx : IVec S1024x200x1 32) (p : Fin 1024) (t : Fin 200) (e : Fin 128) :
    Host.gather gather_S100000x128_S1024x200x1_S1024x200x128_2_0_n_n_0_2_1128 x idx (ix3 p t e)
      = x (ix2 ⟨min (idx (ix3 p t 0)).toInt.toNat 99999, by omega⟩ e) := by
  unfold Host.gather
  congr 1
  funext a
  refine Fin.ext ?_
  set D := gather_S100000x128_S1024x200x1_S1024x200x128_2_0_n_n_0_2_1128 with hD
  show D.start (ix3 p t e) idx a + D.batchCoord (ix3 p t e) a + D.offCoord (ix3 p t e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix3 p t e) ⟨List.idxOf (0 : Fin 2) D.startIndexMap,
        List.idxOf_lt_length_iff.2 (List.mem_singleton.mpr rfl)⟩ = ix3 p t 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ D.startIndexMap from fun h => absurd (List.mem_singleton.mp h) (by decide))]
    simp only [Nat.zero_add, Nat.add_zero]
    rfl

theorem takeW (w : BitVec 32) (h : w.toNat < 100000) (x : Vec Ideal S100000x128 .f32) (e : Fin 128) (nan : EReal) :
    Scalar.select (α := EReal)
      (Finset.fold IntOp.andi (1#1)
        (fun x : Fin 1 =>
          IntOp.andi
            (IntOp.cmpi CmpIPredicate.sge
              (Scalar.select (IntOp.cmpi CmpIPredicate.slt w 0#32) (IntOp.addi w 100000#32) w) 0#32)
            (IntOp.cmpi CmpIPredicate.sle
              (Scalar.select (IntOp.cmpi CmpIPredicate.slt w 0#32) (IntOp.addi w 100000#32) w) 99999#32))
        Finset.univ)
      (x (ix2 ⟨min (Scalar.select (IntOp.cmpi CmpIPredicate.slt w 0#32) (IntOp.addi w 100000#32) w).toInt.toNat 99999, by omega⟩ e))
      nan = x (ix2 ⟨w.toNat, h⟩ e) := by
  have h' : BitVec.toNat w < 100000 := h
  have hi : BitVec.toInt w = (BitVec.toNat w : Int) := BitVec.toInt_eq_toNat_of_lt (by omega)
  have c1 : IntOp.cmpi CmpIPredicate.slt w 0#32 = 0#1 := by
    have : ¬ (BitVec.toInt w < 0) := by omega
    simp [IntOp.cmpi, BitVec.slt, this]
  have c2 : IntOp.cmpi CmpIPredicate.sge w 0#32 = 1#1 := by
    have : (0 ≤ BitVec.toInt w) := by omega
    simp [IntOp.cmpi, BitVec.sle, this]
  have c3 : IntOp.cmpi CmpIPredicate.sle w 99999#32 = 1#1 := by
    have : (BitVec.toInt w ≤ 99999) := by omega
    simp [IntOp.cmpi, BitVec.sle, this]
  have s0 : Scalar.select (0#1) (IntOp.addi w 100000#32) w = w := rfl
  simp only [c1, s0, c2, c3]
  have f : Finset.fold IntOp.andi (1#1) (fun x : Fin 1 => IntOp.andi (1#1) (1#1)) Finset.univ = 1#1 := by decide
  rw [f]
  show x _ = _
  refine congrArg (fun k => x (ix2 k e)) (Fin.ext ?_)
  show min (BitVec.toInt w).toNat 99999 = BitVec.toNat w
  omega

variable (V : Valuation τ sig (Elt Ideal))
theorem ixB (n : Fin 200) (h : V (Proc.devRef .tc main_v29_5) ix0 = BitVec.ofNat 32 n.val) : after while1Ops0 V (Proc.devRef .tc main_while1b_v66) ix0 = BitVec.ofNat 32 (199 - n.val) := by
  after_reads_at
  rw [h]
  have := n.isLt
  apply BitVec.eq_of_toNat_eq
  simp only [IntOp.subi, BitVec.toNat_sub, BitVec.toNat_ofNat]
  omega

theorem take (p : Fin 1024) (t : Fin 200) (e : Fin 128) (h : (V (Proc.devRef .tc main_arg0) (ix2 p t) : BitVec 32).toNat < 100000) :
   after main_part0_ops1 V (Proc.devRef .tc main_v2) (ix3 p t e) = V (Proc.devRef .tc main_arg1) (ix2 ⟨(V (Proc.devRef .tc main_arg0) (ix2 p t) : BitVec 32).toNat, h⟩ e) := by
  after_reads_at
  rw [gather_at]
  have hw : broadcastInDim S1024x200x1 ![0, 1] bcast_S1024x200_S1024x200x1_0_1
          (select
            (cmpi CmpIPredicate.slt (V (Proc.devRef .tc main_arg0))
              (broadcastInDim S1024x200 ![] bcast_S_S1024x200 (constantI S_ 32 0#32)))
            (addi (V (Proc.devRef .tc main_arg0))
              (broadcastInDim S1024x200 ![] bcast_S_S1024x200 (constantI S_ 32 100000#32)))
            (V (Proc.devRef .tc main_arg0))) (ix3 p t 0) = Scalar.select (IntOp.cmpi CmpIPredicate.slt (V (Proc.devRef .tc main_arg0) (ix2 p t)) 0#32)
                (IntOp.addi (V (Proc.devRef .tc main_arg0) (ix2 p t)) 100000#32)
                (V (Proc.devRef .tc main_arg0) (ix2 p t)) := by
    pointwise
  simp only [hw]
  exact takeW _ h (V (Proc.devRef .tc main_arg1)) e _
end Cert.ReferenceIdeal.Read
end
-- ==== Proof.RefStep.lean ====
/-
  One pass of each scan's body, from the carried buffers to the carried buffers, element by element.
-/
module

public import proofs.«01_k».proof.Proof.RefTake
public import proofs.«01_k».proof.Proof.Alg
public import Idealize.ShloMosaic.Lib.Pointwise
public import Idealize.ShloMosaic.Lib.StableHlo.ReadAt

@[expose] public section

set_option maxRecDepth 16384

noncomputable section

namespace Cert.ReferenceIdeal.Step

open Cert.ReferenceIdeal.Gen Cert.ReferenceIdeal.Ops Cert.ReferenceIdeal.Read
open Cert.Alg hiding re
open Idealize.ShloMosaic Idealize.ShloMosaic.TcCoe
open Idealize.ShloMosaic.StableHlo

variable (V : Valuation τ sig (Elt Ideal))
theorem A0_of (r : Ref sig .tc) (h : r ∉ while0Ops0_W) : after while0Ops0 V (Proc.devRef .tc r) = V (Proc.devRef .tc r) :=
  after_of_writes_sub while0Ops0 V while0Ops0_writes h
theorem A1_of (r : Ref sig .tc) (h : r ∉ while0Ops0_1_W) : after while0Ops0_1 V (Proc.devRef .tc r) = V (Proc.devRef .tc r) :=
  after_of_writes_sub while0Ops0_1 V while0Ops0_1_writes h
theorem A2_of (r : Ref sig .tc) (h : r ∉ while0Ops0_2_W) : after while0Ops0_2 V (Proc.devRef .tc r) = V (Proc.devRef .tc r) :=
  after_of_writes_sub while0Ops0_2 V while0Ops0_2_writes h
theorem A3_of (r : Ref sig .tc) (h : r ∉ while0Ops0_3_W) : after while0Ops0_3 V (Proc.devRef .tc r) = V (Proc.devRef .tc r) :=
  after_of_writes_sub while0Ops0_3 V while0Ops0_3_writes h
theorem A4_of (r : Ref sig .tc) (h : r ∉ while0Ops0_4_W) : after while0Ops0_4 V (Proc.devRef .tc r) = V (Proc.devRef .tc r) :=
  after_of_writes_sub while0Ops0_4 V while0Ops0_4_writes h
theorem A5_of (r : Ref sig .tc) (h : r ∉ while0Ops0_5_W) : after while0Ops0_5 V (Proc.devRef .tc r) = V (Proc.devRef .tc r) :=
  after_of_writes_sub while0Ops0_5 V while0Ops0_5_writes h

theorem zA (n : Fin 200) (h : V (Proc.devRef .tc main_v26_5) ix0 = BitVec.ofNat 32 n.val) (p q : Fin 1024) :
    ZA (after while0Ops0_1 (after while0Ops0 V)) p q = (gz (fun p e => re (V (Proc.devRef .tc main_v26_0) (ix3 n p e))) (fun p u => re (V (Proc.devRef .tc main_v26_6) (ix2 p u))) (fun i q => re (V (Proc.devRef .tc main_v26_2) (ix2 i q))) (fun i q => re (V (Proc.devRef .tc main_v26_3) (ix2 i q))) (fun q => re (V (Proc.devRef .tc main_v26_4) (ix1 q)))) p q := by
  unfold ZA gz
  rw [A1_of _ main_v26_2 (by decide +kernel), A0_of _ main_v26_2 (by decide +kernel), A1_of _ main_v26_3 (by decide +kernel), A0_of _ main_v26_3 (by decide +kernel), A1_of _ main_v26_4 (by decide +kernel), A0_of _ main_v26_4 (by decide +kernel), A1_of _ main_v26_6 (by decide +kernel), A0_of _ main_v26_6 (by decide +kernel), A1_of _ main_while0b_v65 (by decide +kernel)]
  refine congrArg (fun s => s + _ + _) (Finset.sum_congr rfl fun i _ => ?_)
  dsimp only [re]
  rw [xA _ n h]

theorem bodyA6 (n : Fin 200) (h : V (Proc.devRef .tc main_v26_5) ix0 = BitVec.ofNat 32 n.val) (p : Fin 1024) (u : Fin 256) :
    afterL bodyA V (Proc.devRef .tc main_v26_6) (ix2 p u) =
      Scalar.select (V (Proc.devRef .tc main_v26_1) (ix2 n p)) (nH (gz (fun p e => re (V (Proc.devRef .tc main_v26_0) (ix3 n p e))) (fun p u => re (V (Proc.devRef .tc main_v26_6) (ix2 p u))) (fun i q => re (V (Proc.devRef .tc main_v26_2) (ix2 i q))) (fun i q => re (V (Proc.devRef .tc main_v26_3) (ix2 i q))) (fun q => re (V (Proc.devRef .tc main_v26_4) (ix1 q)))) (fun p u => re (V (Proc.devRef .tc main_v26_7) (ix2 p u))) p u) (V (Proc.devRef .tc main_v26_6) (ix2 p u)) := by
  simp only [afterL_cons, afterL_nil]
  rw [st6A,
    A4_of _ main_while0b_v102 (by decide +kernel),
    h2A,
    A2_of _ main_v26_6 (by decide +kernel),
    A1_of _ main_v26_6 (by decide +kernel),
    A0_of _ main_v26_6 (by decide +kernel),
    mmA,
    mA _ n (by rw [A0_of _ main_v26_5 (by decide +kernel)]; exact h),
    A0_of _ main_v26_1 (by decide +kernel),
    hA,
    A1_of _ main_v26_7 (by decide +kernel),
    A0_of _ main_v26_7 (by decide +kernel)]
  unfold nH nC
  simp only [zA V n h]

theorem bodyA7 (n : Fin 200) (h : V (Proc.devRef .tc main_v26_5) ix0 = BitVec.ofNat 32 n.val) (p : Fin 1024) (u : Fin 256) :
    afterL bodyA V (Proc.devRef .tc main_v26_7) (ix2 p u) =
      Scalar.select (V (Proc.devRef .tc main_v26_1) (ix2 n p)) (nC (gz (fun p e => re (V (Proc.devRef .tc main_v26_0) (ix3 n p e))) (fun p u => re (V (Proc.devRef .tc main_v26_6) (ix2 p u))) (fun i q => re (V (Proc.devRef .tc main_v26_2) (ix2 i q))) (fun i q => re (V (Proc.devRef .tc main_v26_3) (ix2 i q))) (fun q => re (V (Proc.devRef .tc main_v26_4) (ix1 q)))) (fun p u => re (V (Proc.devRef .tc main_v26_7) (ix2 p u))) p u) (V (Proc.devRef .tc main_v26_7) (ix2 p u)) := by
  simp only [afterL_cons, afterL_nil]
  rw [st7A,
    c2A,
    A3_of _ main_while0b_v101 (by decide +kernel),
    A3_of _ main_while0b_v98 (by decide +kernel),
    A3_of _ main_v26_7 (by decide +kernel),
    A2_of _ main_v26_7 (by decide +kernel),
    A1_of _ main_v26_7 (by decide +kernel),
    A0_of _ main_v26_7 (by decide +kernel),
    mmA,
    mA _ n (by rw [A0_of _ main_v26_5 (by decide +kernel)]; exact h),
    A0_of _ main_v26_1 (by decide +kernel),
    cA,
    A1_of _ main_v26_7 (by decide +kernel),
    A0_of _ main_v26_7 (by decide +kernel)]
  unfold nC
  simp only [zA V n h]
theorem B0_of (r : Ref sig .tc) (h : r ∉ while1Ops0_W) : after while1Ops0 V (Proc.devRef .tc r) = V (Proc.devRef .tc r) :=
  after_of_writes_sub while1Ops0 V while1Ops0_writes h
theorem B1_of (r : Ref sig .tc) (h : r ∉ while1Ops0_1_W) : after while1Ops0_1 V (Proc.devRef .tc r) = V (Proc.devRef .tc r) :=
  after_of_writes_sub while1Ops0_1 V while1Ops0_1_writes h
theorem B2_of (r : Ref sig .tc) (h : r ∉ while1Ops0_2_W) : after while1Ops0_2 V (Proc.devRef .tc r) = V (Proc.devRef .tc r) :=
  after_of_writes_sub while1Ops0_2 V while1Ops0_2_writes h
theorem B3_of (r : Ref sig .tc) (h : r ∉ while1Ops0_3_W) : after while1Ops0_3 V (Proc.devRef .tc r) = V (Proc.devRef .tc r) :=
  after_of_writes_sub while1Ops0_3 V while1Ops0_3_writes h
theorem B4_of (r : Ref sig .tc) (h : r ∉ while1Ops0_4_W) : after while1Ops0_4 V (Proc.devRef .tc r) = V (Proc.devRef .tc r) :=
  after_of_writes_sub while1Ops0_4 V while1Ops0_4_writes h
theorem B5_of (r : Ref sig .tc) (h : r ∉ while1Ops0_5_W) : after while1Ops0_5 V (Proc.devRef .tc r) = V (Proc.devRef .tc r) :=
  after_of_writes_sub while1Ops0_5 V while1Ops0_5_writes h
theorem B6_of (r : Ref sig .tc) (h : r ∉ while1Ops0_6_W) : after while1Ops0_6 V (Proc.devRef .tc r) = V (Proc.devRef .tc r) :=
  after_of_writes_sub while1Ops0_6 V while1Ops0_6_writes h

theorem zB (n : Fin 200) (h : V (Proc.devRef .tc main_v29_5) ix0 = BitVec.ofNat 32 n.val) (p q : Fin 1024) :
    ZB (after while1Ops0_2 (after while1Ops0_1 (after while1Ops0 V))) p q = (gz (fun p e => re (V (Proc.devRef .tc main_v29_0) (ix3 ⟨199 - n.val, by omega⟩ p e))) (fun p u => re (V (Proc.devRef .tc main_v29_6) (ix2 p u))) (fun i q => re (V (Proc.devRef .tc main_v29_2) (ix2 i q))) (fun i q => re (V (Proc.devRef .tc main_v29_3) (ix2 i q))) (fun q => re (V (Proc.devRef .tc main_v29_4) (ix1 q)))) p q := by
  unfold ZB gz
  rw [B2_of _ main_v29_2 (by decide +kernel), B1_of _ main_v29_2 (by decide +kernel), B0_of _ main_v29_2 (by decide +kernel), B2_of _ main_v29_3 (by decide +kernel), B1_of _ main_v29_3 (by decide +kernel), B0_of _ main_v29_3 (by decide +kernel), B2_of _ main_v29_4 (by decide +kernel), B1_of _ main_v29_4 (by decide +kernel), B0_of _ main_v29_4 (by decide +kernel), B2_of _ main_v29_6 (by decide +kernel), B1_of _ main_v29_6 (by decide +kernel), B0_of _ main_v29_6 (by decide +kernel), B2_of _ main_while1b_v67 (by decide +kernel)]
  refine congrArg (fun s => s + _ + _) (Finset.sum_congr rfl fun i _ => ?_)
  dsimp only [re]
  rw [xB _ ⟨199 - n.val, by omega⟩ (ixB V n h), B0_of _ main_v29_0 (by decide +kernel)]

theorem bodyB6 (n : Fin 200) (h : V (Proc.devRef .tc main_v29_5) ix0 = BitVec.ofNat 32 n.val) (p : Fin 1024) (u : Fin 256) :
    afterL bodyB V (Proc.devRef .tc main_v29_6) (ix2 p u) =
      Scalar.select (V (Proc.devRef .tc main_v29_1) (ix2 ⟨199 - n.val, by omega⟩ p)) (nH (gz (fun p e => re (V (Proc.devRef .tc main_v29_0) (ix3 ⟨199 - n.val, by omega⟩ p e))) (fun p u => re (V (Proc.devRef .tc main_v29_6) (ix2 p u))) (fun i q => re (V (Proc.devRef .tc main_v29_2) (ix2 i q))) (fun i q => re (V (Proc.devRef .tc main_v29_3) (ix2 i q))) (fun q => re (V (Proc.devRef .tc main_v29_4) (ix1 q)))) (fun p u => re (V (Proc.devRef .tc main_v29_7) (ix2 p u))) p u) (V (Proc.devRef .tc main_v29_6) (ix2 p u)) := by
  simp only [afterL_cons, afterL_nil]
  rw [st6B,
    B5_of _ main_while1b_v104 (by decide +kernel),
    h2B,
    B3_of _ main_v29_6 (by decide +kernel),
    B2_of _ main_v29_6 (by decide +kernel),
    B1_of _ main_v29_6 (by decide +kernel),
    B0_of _ main_v29_6 (by decide +kernel),
    mmB,
    mB _ ⟨199 - n.val, by omega⟩ (by rw [B1_of _ main_while1b_v66 (by decide +kernel)]; exact ixB V n h),
    B1_of _ main_v29_1 (by decide +kernel),
    B0_of _ main_v29_1 (by decide +kernel),
    hB,
    B2_of _ main_v29_7 (by decide +kernel),
    B1_of _ main_v29_7 (by decide +kernel),
    B0_of _ main_v29_7 (by decide +kernel)]
  unfold nH nC
  simp only [zB V n h]

theorem bodyB7 (n : Fin 200) (h : V (Proc.devRef .tc main_v29_5) ix0 = BitVec.ofNat 32 n.val) (p : Fin 1024) (u : Fin 256) :
    afterL bodyB V (Proc.devRef .tc main_v29_7) (ix2 p u) =
      Scalar.select (V (Proc.devRef .tc main_v29_1) (ix2 ⟨199 - n.val, by omega⟩ p)) (nC (gz (fun p e => re (V (Proc.devRef .tc main_v29_0) (ix3 ⟨199 - n.val, by omega⟩ p e))) (fun p u => re (V (Proc.devRef .tc main_v29_6) (ix2 p u))) (fun i q => re (V (Proc.devRef .tc main_v29_2) (ix2 i q))) (fun i q => re (V (Proc.devRef .tc main_v29_3) (ix2 i q))) (fun q => re (V (Proc.devRef .tc main_v29_4) (ix1 q)))) (fun p u => re (V (Proc.devRef .tc main_v29_7) (ix2 p u))) p u) (V (Proc.devRef .tc main_v29_7) (ix2 p u)) := by
  simp only [afterL_cons, afterL_nil]
  rw [st7B,
    c2B,
    B4_of _ main_while1b_v103 (by decide +kernel),
    B4_of _ main_while1b_v100 (by decide +kernel),
    B4_of _ main_v29_7 (by decide +kernel),
    B3_of _ main_v29_7 (by decide +kernel),
    B2_of _ main_v29_7 (by decide +kernel),
    B1_of _ main_v29_7 (by decide +kernel),
    B0_of _ main_v29_7 (by decide +kernel),
    mmB,
    mB _ ⟨199 - n.val, by omega⟩ (by rw [B1_of _ main_while1b_v66 (by decide +kernel)]; exact ixB V n h),
    B1_of _ main_v29_1 (by decide +kernel),
    B0_of _ main_v29_1 (by decide +kernel),
    cB,
    B2_of _ main_v29_7 (by decide +kernel),
    B1_of _ main_v29_7 (by decide +kernel),
    B0_of _ main_v29_7 (by decide +kernel)]
  unfold nC
  simp only [zB V n h]

end Cert.ReferenceIdeal.Step

end
-- ==== Proof.RefVals.lean ====
/-
  What the reference leaves, as functions of the arguments: the normalised rows, the two scans' states by recursion, and
  the head.
-/
module

public import proofs.«01_k».proof.Proof.RefStep

@[expose] public section

set_option maxRecDepth 16384

noncomputable section

namespace Cert.ReferenceIdeal.Vals

open Cert.ReferenceIdeal.Gen Cert.ReferenceIdeal.Ops Cert.ReferenceIdeal.Read Cert.ReferenceIdeal.Step
open Cert.Alg hiding re
open Idealize.ShloMosaic Idealize.ShloMosaic.TcCoe
open Idealize.ShloMosaic.StableHlo

variable (m : (ℓ : Loc nD τ sig) → Buf (Elt Ideal) ℓ) (c : Dev nD)

/-- The token of a row. -/
def tok (p : Fin 1024) (t : Fin 200) : BitVec 32 := (m (c, Proc.devRef .tc main_arg0) : IVec S1024x200 32) (ix2 p t)
/-- The row gathered for a token. -/
def X (p : Fin 1024) (t : Fin 200) (e : Fin 128) : EReal :=
  (m (c, Proc.devRef .tc main_arg1) : Vec Ideal S100000x128 .f32) (ix2 ⟨(tok m c p t).toNat % 100000, Nat.mod_lt _ (by decide)⟩ e)
def mk (p : Fin 1024) (t : Fin 200) : BitVec 1 := IntOp.cmpi .ne (tok m c p t) 0#32
def a2 (e : Fin 128) : EReal := (m (c, Proc.devRef .tc main_arg2) : Vec Ideal S128 .f32) (ix1 e)
def a3 (e : Fin 128) : EReal := (m (c, Proc.devRef .tc main_arg3) : Vec Ideal S128 .f32) (ix1 e)
def a4 (i : Fin 128) (q : Fin 1024) : EReal := (m (c, Proc.devRef .tc main_arg4) : Vec Ideal S128x1024 .f32) (ix2 i q)
def a5 (i : Fin 256) (q : Fin 1024) : EReal := (m (c, Proc.devRef .tc main_arg5) : Vec Ideal S256x1024 .f32) (ix2 i q)
def a6 (q : Fin 1024) : EReal := (m (c, Proc.devRef .tc main_arg6) : Vec Ideal S1024 .f32) (ix1 q)
def a7 (i : Fin 128) (q : Fin 1024) : EReal := (m (c, Proc.devRef .tc main_arg7) : Vec Ideal S128x1024 .f32) (ix2 i q)
def a8 (i : Fin 256) (q : Fin 1024) : EReal := (m (c, Proc.devRef .tc main_arg8) : Vec Ideal S256x1024 .f32) (ix2 i q)
def a9 (q : Fin 1024) : EReal := (m (c, Proc.devRef .tc main_arg9) : Vec Ideal S1024 .f32) (ix1 q)
def a10 (e : Fin 512) : EReal := (m (c, Proc.devRef .tc main_arg10) : Vec Ideal S512 .f32) (ix1 e)
def a11 (e : Fin 512) : EReal := (m (c, Proc.devRef .tc main_arg11) : Vec Ideal S512 .f32) (ix1 e)
def a12 (e : Fin 512) (q : Fin 64) : EReal := (m (c, Proc.devRef .tc main_arg12) : Vec Ideal S512x64 .f32) (ix2 e q)
def a13 (q : Fin 64) : EReal := (m (c, Proc.devRef .tc main_arg13) : Vec Ideal S64 .f32) (ix1 q)

/-- The first normalisation's mean and variance. -/
def M1 (e : Fin 128) : EReal := Ideal.div (∑ p : Fin 1024, ∑ t : Fin 200, X m c p t e) NN
def V1 (e : Fin 128) : EReal := Ideal.div (∑ p : Fin 1024, ∑ t : Fin 200, (X m c p t e - M1 m c e) * (X m c p t e - M1 m c e)) NN
/-- The normalised rows. -/
def nX (t : Fin 200) (p : Fin 1024) (e : Fin 128) : EReal :=
  Ideal.div (a2 m c e * (X m c p t e - M1 m c e)) (Ideal.sqrt (V1 m c e + EPS)) + a3 m c e

/-- The buffers after each stretch before the scans. -/
def W0 : Valuation τ sig (Elt Ideal) := after main_part0_ops0 (launchContents m c)
def W1 : Valuation τ sig (Elt Ideal) := after main_part0_ops1 (W0 m c)
def W2 : Valuation τ sig (Elt Ideal) := after main_part0_ops2 (W1 m c)
def W3 : Valuation τ sig (Elt Ideal) := after main_part0_ops3 (W2 m c)
theorem atA_eq : atA m c = after main_part0_ops4 (W3 m c) := rfl

theorem W0_of (r : Ref sig .tc) (h : r ∉ main_part0_ops0_W) : W0 m c (Proc.devRef .tc r) = m (c, Proc.devRef .tc r) :=
  after_of_writes_sub main_part0_ops0 _ main_part0_ops0_writes h
theorem W1_of (r : Ref sig .tc) (h : r ∉ main_part0_ops1_W) : W1 m c (Proc.devRef .tc r) = W0 m c (Proc.devRef .tc r) :=
  after_of_writes_sub main_part0_ops1 _ main_part0_ops1_writes h
theorem W2_of (r : Ref sig .tc) (h : r ∉ main_part0_ops2_W) : W2 m c (Proc.devRef .tc r) = W1 m c (Proc.devRef .tc r) :=
  after_of_writes_sub main_part0_ops2 _ main_part0_ops2_writes h
theorem W3_of (r : Ref sig .tc) (h : r ∉ main_part0_ops3_W) : W3 m c (Proc.devRef .tc r) = W2 m c (Proc.devRef .tc r) :=
  after_of_writes_sub main_part0_ops3 _ main_part0_ops3_writes h

variable (hT : ∀ p t, (tok m c p t).toNat < 100000)
include hT in
theorem w1_v2 (p : Fin 1024) (t : Fin 200) (e : Fin 128) : re (W1 m c (Proc.devRef .tc main_v2) (ix3 p t e)) = X m c p t e := by
  have e0 : W0 m c (Proc.devRef .tc main_arg0) (ix2 p t) = tok m c p t := by
    rw [W0_of m c main_arg0 (by decide +kernel)]; rfl
  have h : (W0 m c (Proc.devRef .tc main_arg0) (ix2 p t) : BitVec 32).toNat < 100000 := by rw [e0]; exact hT p t
  refine (take (W0 m c) p t e h).trans ?_
  rw [W0_of m c main_arg1 (by decide +kernel)]
  unfold X
  refine congrArg (fun k => (m (c, Proc.devRef .tc main_arg1) : Vec Ideal S100000x128 .f32) (ix2 k e)) (Fin.ext ?_)
  show (W0 m c (Proc.devRef .tc main_arg0) (ix2 p t) : BitVec 32).toNat = (tok m c p t).toNat % 100000
  rw [e0, Nat.mod_eq_of_lt (hT p t)]

include hT in
theorem w2_v2 (p : Fin 1024) (t : Fin 200) (e : Fin 128) : re (W2 m c (Proc.devRef .tc main_v2) (ix3 p t e)) = X m c p t e := by
  rw [W2_of m c main_v2 (by decide +kernel)]; exact w1_v2 m c hT p t e
include hT in
theorem w3_v2 (p : Fin 1024) (t : Fin 200) (e : Fin 128) : re (W3 m c (Proc.devRef .tc main_v2) (ix3 p t e)) = X m c p t e := by
  rw [W3_of m c main_v2 (by decide +kernel)]; exact w2_v2 m c hT p t e
include hT in
theorem w3_v5 (e : Fin 128) : re (W3 m c (Proc.devRef .tc main_v5) (ix1 e)) = M1 m c e := by
  rw [W3_of m c main_v5 (by decide +kernel)]
  refine (mean1 (W1 m c) e).trans ?_
  simp only [w1_v2 m c hT, zero_add]
  rfl
include hT in
theorem w3_v6 (e : Fin 128) : re (W3 m c (Proc.devRef .tc main_v6) (ix1 e)) = V1 m c e := by
  refine (var1 (W2 m c) (zero1 (W1 m c)) e).trans ?_
  simp only [w2_v2 m c hT, zero_add]
  rfl
include hT in
theorem a_v26_0 (t : Fin 200) (p : Fin 1024) (e : Fin 128) : re (atA m c (Proc.devRef .tc main_v26_0) (ix3 t p e)) = nX m c t p e := by
  rw [atA_eq]
  refine (norm1 (W3 m c) t p e).trans ?_
  rw [w3_v2 m c hT, w3_v5 m c hT, w3_v6 m c hT, W3_of m c main_arg2 (by decide +kernel), W2_of m c main_arg2 (by decide +kernel), W1_of m c main_arg2 (by decide +kernel), W0_of m c main_arg2 (by decide +kernel), W3_of m c main_arg3 (by decide +kernel), W2_of m c main_arg3 (by decide +kernel), W1_of m c main_arg3 (by decide +kernel), W0_of m c main_arg3 (by decide +kernel)]
  rfl
include hT in
theorem a_v22 (t : Fin 200) (p : Fin 1024) (e : Fin 128) : re (atA m c (Proc.devRef .tc main_v22) (ix3 t p e)) = nX m c t p e := by
  rw [atA_eq]
  refine (norm1' (W3 m c) t p e).trans ?_
  rw [w3_v2 m c hT, w3_v5 m c hT, w3_v6 m c hT, W3_of m c main_arg2 (by decide +kernel), W2_of m c main_arg2 (by decide +kernel), W1_of m c main_arg2 (by decide +kernel), W0_of m c main_arg2 (by decide +kernel), W3_of m c main_arg3 (by decide +kernel), W2_of m c main_arg3 (by decide +kernel), W1_of m c main_arg3 (by decide +kernel), W0_of m c main_arg3 (by decide +kernel)]
  rfl
theorem w0_v1 (p : Fin 1024) (t : Fin 200) : W0 m c (Proc.devRef .tc main_v1) (ix2 p t) = mk m c p t := mask (launchContents m c) p t
theorem a_v26_1 (t : Fin 200) (p : Fin 1024) : atA m c (Proc.devRef .tc main_v26_1) (ix2 t p) = mk m c p t := by
  rw [atA_eq]
  refine (maskT (W3 m c) t p).trans ?_
  rw [W3_of m c main_v1 (by decide +kernel), W2_of m c main_v1 (by decide +kernel), W1_of m c main_v1 (by decide +kernel)]
  exact w0_v1 m c p t
theorem a_v23 (t : Fin 200) (p : Fin 1024) : atA m c (Proc.devRef .tc main_v23) (ix2 t p) = mk m c p t := by
  rw [atA_eq]
  refine (maskT' (W3 m c) t p).trans ?_
  rw [W3_of m c main_v1 (by decide +kernel), W2_of m c main_v1 (by decide +kernel), W1_of m c main_v1 (by decide +kernel)]
  exact w0_v1 m c p t
theorem a_v26_2 : atA m c (Proc.devRef .tc main_v26_2) = m (c, Proc.devRef .tc main_arg4) := by
  rw [atA_eq, carA2, W3_of m c main_arg4 (by decide +kernel), W2_of m c main_arg4 (by decide +kernel), W1_of m c main_arg4 (by decide +kernel), W0_of m c main_arg4 (by decide +kernel)]
theorem a_v26_3 : atA m c (Proc.devRef .tc main_v26_3) = m (c, Proc.devRef .tc main_arg5) := by
  rw [atA_eq, carA3, W3_of m c main_arg5 (by decide +kernel), W2_of m c main_arg5 (by decide +kernel), W1_of m c main_arg5 (by decide +kernel), W0_of m c main_arg5 (by decide +kernel)]
theorem a_v26_4 : atA m c (Proc.devRef .tc main_v26_4) = m (c, Proc.devRef .tc main_arg6) := by
  rw [atA_eq, carA4, W3_of m c main_arg6 (by decide +kernel), W2_of m c main_arg6 (by decide +kernel), W1_of m c main_arg6 (by decide +kernel), W0_of m c main_arg6 (by decide +kernel)]

theorem iv_eq : ∀ k : ℕ, Scf.iv 0#32 1#32 k = BitVec.ofNat 32 k
  | 0 => Scf.iv_zero _ _
  | k + 1 => by rw [Scf.iv_succ, iv_eq k]; simp [BitVec.ofNat_add]

/-- The scans' states after `k` passes. -/
def hA (k : ℕ) (p : Fin 1024) (u : Fin 256) : EReal := re (tripA m k c (Proc.devRef .tc main_v26_6) (ix2 p u))
def cA (k : ℕ) (p : Fin 1024) (u : Fin 256) : EReal := re (tripA m k c (Proc.devRef .tc main_v26_7) (ix2 p u))
def hB (k : ℕ) (p : Fin 1024) (u : Fin 256) : EReal := re (tripB m k c (Proc.devRef .tc main_v29_6) (ix2 p u))
def cB (k : ℕ) (p : Fin 1024) (u : Fin 256) : EReal := re (tripB m k c (Proc.devRef .tc main_v29_7) (ix2 p u))

theorem zeroA (p : Fin 1024) (u : Fin 256) : hA m c 0 p u = 0 ∧ cA m c 0 p u = 0 := by
  unfold hA cA
  rw [tripA_zero, atA_eq]
  exact ⟨carA6 _ _, carA7 _ _⟩
theorem zeroB (p : Fin 1024) (u : Fin 256) : hB m c 0 p u = 0 ∧ cB m c 0 p u = 0 := by
  unfold hB cB
  rw [tripB_zero]
  exact ⟨carB6 _ _, carB7 _ _⟩

include hT in
theorem b_v29_0 (t : Fin 200) (p : Fin 1024) (e : Fin 128) : re (atB m c (Proc.devRef .tc main_v29_0) (ix3 t p e)) = nX m c t p e := by
  rw [show atB m c (Proc.devRef .tc main_v29_0) = after condA (tripA m 200 c) (Proc.devRef .tc main_v22) from carB0 _, condA_of _ main_v22 (by decide +kernel), tripA_of m main_v22 (by decide +kernel) c 200]
  exact a_v22 m c hT t p e
theorem b_v29_1 (t : Fin 200) (p : Fin 1024) : atB m c (Proc.devRef .tc main_v29_1) (ix2 t p) = mk m c p t := by
  rw [show atB m c (Proc.devRef .tc main_v29_1) = after condA (tripA m 200 c) (Proc.devRef .tc main_v23) from carB1 _, condA_of _ main_v23 (by decide +kernel), tripA_of m main_v23 (by decide +kernel) c 200]
  exact a_v23 m c t p
theorem b_v29_2 : atB m c (Proc.devRef .tc main_v29_2) = m (c, Proc.devRef .tc main_arg7) := by
  rw [show atB m c (Proc.devRef .tc main_v29_2) = after condA (tripA m 200 c) (Proc.devRef .tc main_arg7) from carB2 _,
    condA_of _ main_arg7 (by decide +kernel), tripA_kept m kept7 c]
theorem b_v29_3 : atB m c (Proc.devRef .tc main_v29_3) = m (c, Proc.devRef .tc main_arg8) := by
  rw [show atB m c (Proc.devRef .tc main_v29_3) = after condA (tripA m 200 c) (Proc.devRef .tc main_arg8) from carB3 _,
    condA_of _ main_arg8 (by decide +kernel), tripA_kept m kept8 c]
theorem b_v29_4 : atB m c (Proc.devRef .tc main_v29_4) = m (c, Proc.devRef .tc main_arg9) := by
  rw [show atB m c (Proc.devRef .tc main_v29_4) = after condA (tripA m 200 c) (Proc.devRef .tc main_arg9) from carB4 _,
    condA_of _ main_arg9 (by decide +kernel), tripA_kept m kept9 c]

/-- The gates' sums at pass `n`. -/
def gA (n : Fin 200) : Fin 1024 → Fin 1024 → EReal :=
  gz (nX m c n) (hA m c n.val) (a4 m c) (a5 m c) (a6 m c)
include hT in
theorem stepA (n : Fin 200) (p : Fin 1024) (u : Fin 256) :
    hA m c (n.val + 1) p u = Scalar.select (mk m c p n) (nH (gA m c n) (cA m c n.val) p u) (hA m c n.val p u)
    ∧ cA m c (n.val + 1) p u = Scalar.select (mk m c p n) (nC (gA m c n) (cA m c n.val) p u) (cA m c n.val p u) := by
  have hc : after condA (tripA m n.val c) (Proc.devRef .tc main_v26_5) ix0 = BitVec.ofNat 32 n.val := by
    rw [condA_of _ main_v26_5 (by decide +kernel), ctrA m c n.val]
    exact iv_eq n.val
  have hz : gz (fun p e => re (after condA (tripA m n.val c) (Proc.devRef .tc main_v26_0) (ix3 n p e)))
      (fun p u => re (after condA (tripA m n.val c) (Proc.devRef .tc main_v26_6) (ix2 p u)))
      (fun i q => re (after condA (tripA m n.val c) (Proc.devRef .tc main_v26_2) (ix2 i q)))
      (fun i q => re (after condA (tripA m n.val c) (Proc.devRef .tc main_v26_3) (ix2 i q)))
      (fun q => re (after condA (tripA m n.val c) (Proc.devRef .tc main_v26_4) (ix1 q))) = gA m c n := by
    rw [condA_of _ main_v26_0 (by decide +kernel), tripA_of m main_v26_0 (by decide +kernel) c n.val, condA_of _ main_v26_2 (by decide +kernel), tripA_of m main_v26_2 (by decide +kernel) c n.val, condA_of _ main_v26_3 (by decide +kernel), tripA_of m main_v26_3 (by decide +kernel) c n.val, condA_of _ main_v26_4 (by decide +kernel), tripA_of m main_v26_4 (by decide +kernel) c n.val, a_v26_2, a_v26_3, a_v26_4, condA_of _ main_v26_6 (by decide +kernel)]
    simp only [a_v26_0 m c hT]
    rfl
  have hm : after condA (tripA m n.val c) (Proc.devRef .tc main_v26_1) (ix2 n p) = mk m c p n := by
    rw [condA_of _ main_v26_1 (by decide +kernel), tripA_of m main_v26_1 (by decide +kernel) c n.val]; exact a_v26_1 m c _ p
  have hcc : (fun p u => re (after condA (tripA m n.val c) (Proc.devRef .tc main_v26_7) (ix2 p u))) = cA m c n.val := by
    rw [condA_of _ main_v26_7 (by decide +kernel)]; rfl
  have e6 := bodyA6 (after condA (tripA m n.val c)) n hc p u
  have e7 := bodyA7 (after condA (tripA m n.val c)) n hc p u
  rw [hz, hm, hcc] at e6 e7
  rw [condA_of _ main_v26_6 (by decide +kernel)] at e6
  rw [condA_of _ main_v26_7 (by decide +kernel)] at e7
  exact ⟨e6, e7⟩

/-- The gates' sums at pass `n`. -/
def gB (n : Fin 200) : Fin 1024 → Fin 1024 → EReal :=
  gz (nX m c ⟨199 - n.val, by omega⟩) (hB m c n.val) (a7 m c) (a8 m c) (a9 m c)
include hT in
theorem stepB (n : Fin 200) (p : Fin 1024) (u : Fin 256) :
    hB m c (n.val + 1) p u = Scalar.select (mk m c p ⟨199 - n.val, by omega⟩) (nH (gB m c n) (cB m c n.val) p u) (hB m c n.val p u)
    ∧ cB m c (n.val + 1) p u = Scalar.select (mk m c p ⟨199 - n.val, by omega⟩) (nC (gB m c n) (cB m c n.val) p u) (cB m c n.val p u) := by
  have hc : after condB (tripB m n.val c) (Proc.devRef .tc main_v29_5) ix0 = BitVec.ofNat 32 n.val := by
    rw [condB_of _ main_v29_5 (by decide +kernel), ctrB m c n.val]
    exact iv_eq n.val
  have hz : gz (fun p e => re (after condB (tripB m n.val c) (Proc.devRef .tc main_v29_0) (ix3 ⟨199 - n.val, by omega⟩ p e)))
      (fun p u => re (after condB (tripB m n.val c) (Proc.devRef .tc main_v29_6) (ix2 p u)))
      (fun i q => re (after condB (tripB m n.val c) (Proc.devRef .tc main_v29_2) (ix2 i q)))
      (fun i q => re (after condB (tripB m n.val c) (Proc.devRef .tc main_v29_3) (ix2 i q)))
      (fun q => re (after condB (tripB m n.val c) (Proc.devRef .tc main_v29_4) (ix1 q))) = gB m c n := by
    rw [condB_of _ main_v29_0 (by decide +kernel), tripB_of m main_v29_0 (by decide +kernel) c n.val, condB_of _ main_v29_2 (by decide +kernel), tripB_of m main_v29_2 (by decide +kernel) c n.val, condB_of _ main_v29_3 (by decide +kernel), tripB_of m main_v29_3 (by decide +kernel) c n.val, condB_of _ main_v29_4 (by decide +kernel), tripB_of m main_v29_4 (by decide +kernel) c n.val, b_v29_2, b_v29_3, b_v29_4, condB_of _ main_v29_6 (by decide +kernel)]
    simp only [b_v29_0 m c hT]
    rfl
  have hm : after condB (tripB m n.val c) (Proc.devRef .tc main_v29_1) (ix2 ⟨199 - n.val, by omega⟩ p) = mk m c p ⟨199 - n.val, by omega⟩ := by
    rw [condB_of _ main_v29_1 (by decide +kernel), tripB_of m main_v29_1 (by decide +kernel) c n.val]; exact b_v29_1 m c _ p
  have hcc : (fun p u => re (after condB (tripB m n.val c) (Proc.devRef .tc main_v29_7) (ix2 p u))) = cB m c n.val := by
    rw [condB_of _ main_v29_7 (by decide +kernel)]; rfl
  have e6 := bodyB6 (after condB (tripB m n.val c)) n hc p u
  have e7 := bodyB7 (after condB (tripB m n.val c)) n hc p u
  rw [hz, hm, hcc] at e6 e7
  rw [condB_of _ main_v29_6 (by decide +kernel)] at e6
  rw [condB_of _ main_v29_7 (by decide +kernel)] at e7
  exact ⟨e6, e7⟩

/-! ## The head -/

/-- The final states side by side. -/
def H (p : Fin 1024) (e : Fin 512) : EReal :=
  if h : e.val < 256 then hA m c 200 p ⟨e.val, h⟩ else hB m c 200 p ⟨e.val - 256, by omega⟩
def M2 (e : Fin 512) : EReal := Ideal.div (∑ p : Fin 1024, H m c p e) NB
def V2 (e : Fin 512) : EReal := Ideal.div (∑ p : Fin 1024, (H m c p e - M2 m c e) * (H m c p e - M2 m c e)) NB
def N2 (p : Fin 1024) (e : Fin 512) : EReal :=
  Ideal.div (a10 m c e * (H m c p e - M2 m c e)) (Ideal.sqrt (V2 m c e + EPS)) + a11 m c e
def L (p : Fin 1024) (q : Fin 64) : EReal := ∑ e : Fin 512, N2 m c p e * a12 m c e q + a13 m c q

def Y0 : Valuation τ sig (Elt Ideal) := after condB (tripB m 200 c)
def Y1 : Valuation τ sig (Elt Ideal) := after main_part0_ops6 (Y0 m c)
def Y2 : Valuation τ sig (Elt Ideal) := after main_part1_ops0 (Y1 m c)
def Y3 : Valuation τ sig (Elt Ideal) := after main_part1_ops1 (Y2 m c)
theorem FINAL_eq : FINAL m c = after main_part1_ops2 (Y3 m c) := rfl
theorem Y1_of (r : Ref sig .tc) (h : r ∉ main_part0_ops6_W) : Y1 m c (Proc.devRef .tc r) = Y0 m c (Proc.devRef .tc r) :=
  after_of_writes_sub main_part0_ops6 _ main_part0_ops6_writes h
theorem Y2_of (r : Ref sig .tc) (h : r ∉ main_part1_ops0_W) : Y2 m c (Proc.devRef .tc r) = Y1 m c (Proc.devRef .tc r) :=
  after_of_writes_sub main_part1_ops0 _ main_part1_ops0_writes h
theorem Y3_of (r : Ref sig .tc) (h : r ∉ main_part1_ops1_W) : Y3 m c (Proc.devRef .tc r) = Y2 m c (Proc.devRef .tc r) :=
  after_of_writes_sub main_part1_ops1 _ main_part1_ops1_writes h
theorem Y3_kept (r : Ref sig .tc) (h : Kept r) (h1 : r ∉ main_part0_ops6_W) (h2 : r ∉ main_part1_ops0_W) (h3 : r ∉ main_part1_ops1_W) (h4 : r ∉ condB_W) :
    Y3 m c (Proc.devRef .tc r) = m (c, Proc.devRef .tc r) := by
  rw [Y3_of m c r h3, Y2_of m c r h2, Y1_of m c r h1]
  exact (condB_of _ r h4).trans (tripB_kept m h c 200)

theorem cat_eq (p : Fin 1024) (e : Fin 512) : CAT (Y0 m c) p e = H m c p e := by
  have e6 : Y0 m c (Proc.devRef .tc main_v26_6) = tripA m 200 c (Proc.devRef .tc main_v26_6) := by
    refine (condB_of _ main_v26_6 (by decide +kernel)).trans ?_
    rw [tripB_of m main_v26_6 (by decide +kernel) c 200]
    exact (mid_of _ main_v26_6 (by decide +kernel)).trans (condA_of _ main_v26_6 (by decide +kernel))
  have e7 : Y0 m c (Proc.devRef .tc main_v29_6) = tripB m 200 c (Proc.devRef .tc main_v29_6) := condB_of _ main_v29_6 (by decide +kernel)
  unfold CAT H hA hB
  rw [e6, e7]
theorem hh1 (p : Fin 1024) (e : Fin 512) : re (Y1 m c (Proc.devRef .tc main_v30) (ix2 p e)) = H m c p e := (cat _ p e).trans (cat_eq m c p e)
theorem hh2 (p : Fin 1024) (e : Fin 512) : HH (Y2 m c) p e = H m c p e := by
  unfold HH
  rw [Y2_of m c main_v30 (by decide +kernel)]; exact hh1 m c p e
theorem hh3 (p : Fin 1024) (e : Fin 512) : HH (Y3 m c) p e = H m c p e := by
  unfold HH
  rw [Y3_of m c main_v30 (by decide +kernel)]; exact hh2 m c p e
theorem y3_v33 (e : Fin 512) : re (Y3 m c (Proc.devRef .tc main_v33) (ix1 e)) = M2 m c e := by
  rw [Y3_of m c main_v33 (by decide +kernel)]
  refine (mean2 (Y1 m c) e).trans ?_
  exact congrArg (fun s : EReal => Ideal.div s NB) ((sum2 (Y0 m c) e).trans
    (show (∑ p : Fin 1024, CAT (Y0 m c) p e : EReal) = ∑ p : Fin 1024, H m c p e from Finset.sum_congr rfl fun p _ => cat_eq m c p e))
theorem y3_v34 (e : Fin 512) : re (Y3 m c (Proc.devRef .tc main_v34) (ix1 e)) = V2 m c e := by
  exact (var2 (Y2 m c) (zero2 (Y1 m c)) e).trans (congrArg (fun f : Fin 1024 → EReal =>
    Ideal.div (∑ p, (f p - Ideal.div (∑ p, f p) NB) * (f p - Ideal.div (∑ p, f p) NB)) NB) (funext fun p => hh2 m c p e))
theorem lin_eq (p : Fin 1024) : lin (Y3 m c) p = L m c p := by
  funext q
  have hn : ∀ e, nrm2 (Y3 m c) p e = N2 m c p e := fun e => by
    unfold nrm2 N2
    rw [show HH (Y3 m c) p e = H m c p e from hh3 m c p e, y3_v33, y3_v34, Y3_kept m c main_arg10 kept10 (by decide +kernel) (by decide +kernel) (by decide +kernel) (by decide +kernel), Y3_kept m c main_arg11 kept11 (by decide +kernel) (by decide +kernel) (by decide +kernel) (by decide +kernel)]
    rfl
  unfold lin
  simp only [hn]
  rw [Y3_kept m c main_arg12 kept12 (by decide +kernel) (by decide +kernel) (by decide +kernel) (by decide +kernel), Y3_kept m c main_arg13 kept13 (by decide +kernel) (by decide +kernel) (by decide +kernel) (by decide +kernel)]
  rfl
theorem out_eq (p : Fin 1024) (q : Fin 64) : FINAL m c (Proc.devRef .tc main_v64) (ix2 p q) = smax (L m c p) q := by
  rw [FINAL_eq, ← lin_eq]
  exact out (Y3 m c) p q

end Cert.ReferenceIdeal.Vals

end
-- ==== Proof.Equal.lean ====
/-
  The two programs' results are equal, given that their arguments agree and that the table, the scale and the input
  weights are finite.
-/
module

public import proofs.«01_k».proof.Proof.KerVals
public import proofs.«01_k».proof.Proof.RefVals

@[expose] public section

set_option maxRecDepth 16384

noncomputable section

namespace Cert.Proof.Equal

open Idealize.ShloMosaic Idealize.ShloMosaic.TcCoe
open Cert.Alg hiding re
open Cert.Proof

abbrev EPS : EReal := Ideal.ofBits .f32 0x3A83126F#32
abbrev NB : EReal := Ideal.ofBits .f32 0x44800000#32
abbrev NN : EReal := Ideal.ofBits .f32 0x48480000#32
theorem NN_eq : NN = ((204800 : ℝ) : EReal) := Cert.ReferenceIdeal.Read.NN_eq
theorem NB_eq : NB = ((1024 : ℝ) : EReal) := Cert.ReferenceIdeal.Read.NB_eq
theorem EPS_pos : ∃ ε : ℝ, 0 < ε ∧ EPS = (ε : EReal) := Cert.ReferenceIdeal.Read.EPS_pos

theorem add_eps {v : ℝ} (hv : 0 ≤ v) : ∃ t : ℝ, 0 < t ∧ (v : EReal) + EPS = t := by
  obtain ⟨ε, hε, e⟩ := EPS_pos
  exact ⟨v + ε, by linarith, by rw [e, EReal.coe_add]⟩

/-! ## The head -/

theorem nrm_eq (h : Vec Ideal Cert.KernelIdeal.S1024x256 .f32) (g b : Fin 256 → EReal) (p : Fin 1024) (u : Fin 256)
    (H : Fin 1024 → EReal) (hH : ∀ p, h (ix2 p u) = H p) (hr : ∀ p, IsR (H p)) :
    KerHead.nrm h g b p u = Ideal.div (g u * (H p - Ideal.div (∑ p, H p) NB))
      (Ideal.sqrt (Ideal.div (∑ p, (H p - Ideal.div (∑ p, H p) NB) * (H p - Ideal.div (∑ p, H p) NB)) NB + EPS)) + b u := by
  obtain ⟨-, v, hv, e1, e2⟩ := variance H hr 1024 (by simp) (by norm_num)
  rw [← NB_eq] at e1 e2
  have em : KerHead.mu h u = Ideal.div (∑ p, H p) NB := by
    unfold KerHead.mu
    exact congrArg (fun s : EReal => Ideal.div s NB) (Finset.sum_congr rfl fun p _ => hH p)
  have ev : KerHead.va h u = (v : EReal) := by
    unfold KerHead.va
    rw [em, ← e1]
    exact congrArg (fun s : EReal => Ideal.div s NB - Ideal.div (∑ p, H p) NB * Ideal.div (∑ p, H p) NB)
      (Finset.sum_congr rfl fun p _ => congrArg₂ (· * ·) (hH p) (hH p))
  unfold KerHead.nrm
  rw [em, ev, e2]
  obtain ⟨t, ht, et⟩ := add_eps hv
  show g u * (h (ix2 p u) - Ideal.div (∑ p, H p) NB) * Ideal.rsqrt ((v : EReal) + EPS) + b u = _
  rw [et, div_sqrt _ ht, hH p]

theorem smax_eq (l : Fin 64 → EReal) (q : Fin 64) : KerHead.smax l q = Cert.ReferenceIdeal.Read.smax l q := by
  unfold KerHead.smax Cert.ReferenceIdeal.Read.smax
  have h : max (Ideal.ofBits .f32 0xFF800000#32 : EReal) (Finset.fold max (Ideal.ofBits .f32 0xFF800000#32) l Finset.univ)
      = Finset.fold max (Ideal.ofBits .f32 0xFF800000#32) l Finset.univ :=
    max_eq_right ((Finset.le_fold_max _).2 (Or.inl le_rfl))
  rw [h]

/-! ## The two results -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments agree, as the two programs' values read them. -/
structure Agree : Prop where
  X : ∀ p t e, Cert.ReferenceIdeal.Vals.X m' c p t e = KerVals.X m c p t e
  mask : ∀ p t, Cert.ReferenceIdeal.Vals.mk m' c p t = KerVals.mk m c p t
  a2 : ∀ e, Cert.ReferenceIdeal.Vals.a2 m' c e = KerVals.a2 m c e
  a3 : ∀ e, Cert.ReferenceIdeal.Vals.a3 m' c e = KerVals.a3 m c e
  a4 : ∀ i q, Cert.ReferenceIdeal.Vals.a4 m' c i q = KerVals.a4 m c i q
  a5 : ∀ i q, Cert.ReferenceIdeal.Vals.a5 m' c i q = KerVals.a5 m c i q
  a6 : ∀ q, Cert.ReferenceIdeal.Vals.a6 m' c q = KerVals.a6 m c q
  a7 : ∀ i q, Cert.ReferenceIdeal.Vals.a7 m' c i q = KerVals.a7 m c i q
  a8 : ∀ i q, Cert.ReferenceIdeal.Vals.a8 m' c i q = KerVals.a8 m c i q
  a9 : ∀ q, Cert.ReferenceIdeal.Vals.a9 m' c q = KerVals.a9 m c q
  a10 : ∀ e, Cert.ReferenceIdeal.Vals.a10 m' c e = KerVals.a10 m c e
  a11 : ∀ e, Cert.ReferenceIdeal.Vals.a11 m' c e = KerVals.a11 m c e
  a12 : ∀ e q, Cert.ReferenceIdeal.Vals.a12 m' c e q = KerVals.a12 m c e q
  a13 : ∀ q, Cert.ReferenceIdeal.Vals.a13 m' c q = KerVals.a13 m c q

/-- What has to be finite. -/
structure Finite : Prop where
  X : ∀ p t e, IsR (KerVals.X m c p t e)
  a2 : ∀ e, IsR (KerVals.a2 m c e)
  a4 : ∀ i q, IsR (KerVals.a4 m c i q)
  a7 : ∀ i q, IsR (KerVals.a7 m c i q)

variable (A : Agree m m' c) (R : Finite m c) (hT : ∀ p t, (Cert.ReferenceIdeal.Vals.tok m' c p t).toNat < 100000)

include A in
theorem M1_eq (e : Fin 128) : Cert.ReferenceIdeal.Vals.M1 m' c e = KerVals.M1 m c e := by
  unfold Cert.ReferenceIdeal.Vals.M1 KerVals.M1
  exact congrArg (fun s : EReal => Ideal.div s NN) (Finset.sum_congr rfl fun p _ => Finset.sum_congr rfl fun t _ => A.X p t e)

include A R in
theorem V1_eq (e : Fin 128) : IsR (KerVals.M1 m c e) ∧ ∃ v : ℝ, 0 ≤ v ∧ KerVals.V1 m c e = v ∧ Cert.ReferenceIdeal.Vals.V1 m' c e = v := by
  obtain ⟨hM, v, hv, e1, e2⟩ := variance (fun x : Fin 1024 × Fin 200 => KerVals.X m c x.1 x.2 e) (fun x => R.X x.1 x.2 e) 204800
    (by simp) (by norm_num)
  rw [← NN_eq] at hM e1 e2
  simp only [Fintype.sum_prod_type] at hM e1 e2
  refine ⟨hM, v, hv, e1, ?_⟩
  rw [← e2]
  unfold Cert.ReferenceIdeal.Vals.V1
  rw [M1_eq m m' c A]
  exact congrArg (fun s : EReal => Ideal.div s NN) (Finset.sum_congr rfl fun p _ => Finset.sum_congr rfl fun t _ => by
    rw [A.X p t e]; rfl)

include A R in
theorem nX_eq (t : Fin 200) (p : Fin 1024) (e : Fin 128) : Cert.ReferenceIdeal.Vals.nX m' c t p e
    = Ideal.div (KerVals.a2 m c e * (KerVals.X m c p t e - KerVals.M1 m c e)) (Ideal.sqrt (KerVals.V1 m c e + EPS)) + KerVals.a3 m c e := by
  obtain ⟨-, v, -, e1, e2⟩ := V1_eq m m' c A R e
  unfold Cert.ReferenceIdeal.Vals.nX
  rw [M1_eq m m' c A, e2, e1, A.X, A.a2, A.a3]
  rfl

include A R in
/-- The kernel's gates' sums over a block are the reference's over a normalised row. -/
theorem gate (t : Fin 200) (h : Fin 1024 → Fin 256 → EReal) (k : Fin 128 → Fin 1024 → EReal) (hk : ∀ i q, IsR (k i q))
    (r : Fin 256 → Fin 1024 → EReal) (b : Fin 1024 → EReal) :
    gz (fun p i => KerVals.X m c p t i) h (fun i q => KerVals.a2 m c i * Ideal.rsqrt (KerVals.V1 m c i + EPS) * k i q) r
      (fun q => ∑ i : Fin 128, (KerVals.a3 m c i - KerVals.M1 m c i * (KerVals.a2 m c i * Ideal.rsqrt (KerVals.V1 m c i + EPS))) * k i q + b q)
    = gz (Cert.ReferenceIdeal.Vals.nX m' c t) h k r b := by
  funext p q
  refine (fold_gz (fun p i => KerVals.X m c p t i) h k r b (KerVals.a2 m c) (KerVals.M1 m c) (fun i => KerVals.V1 m c i + EPS) (KerVals.a3 m c)
    (fun p i => R.X p t i) hk R.a2 (fun i => (V1_eq m m' c A R i).1) (fun i => ?_) p q).trans ?_
  · obtain ⟨-, v, hv, e1, -⟩ := V1_eq m m' c A R i
    rw [e1]
    exact add_eps hv
  · rw [show Cert.ReferenceIdeal.Vals.nX m' c t = fun p i => Ideal.div (KerVals.a2 m c i * (KerVals.X m c p t i - KerVals.M1 m c i))
      (Ideal.sqrt (KerVals.V1 m c i + EPS)) + KerVals.a3 m c i from funext fun p => funext fun i => nX_eq m m' c A R t p i]

abbrev VH : Cert.Proof.Stats.Vals Ideal := Cert.Proof.Segs.vals (Cert.Proof.Main.VH m)

include A R hT in
theorem fw_eq (p : Fin 1024) (u : Fin 256) : (Rec.fw (VH m) c 200).1 (ix2 p u) = Cert.ReferenceIdeal.Vals.hA m' c 200 p u
    ∧ IsR (Cert.ReferenceIdeal.Vals.hA m' c 200 p u) := by
  have h := KerSeq.seqF_eq (VH m c Cert.KernelIdeal.main_v32) (VH m c Cert.KernelIdeal.main_v37) (VH m c Cert.KernelIdeal.main_v22)
    (VH m c Cert.KernelIdeal.main_arg5) (VH m c Cert.KernelIdeal.main_v28)
    (Cert.ReferenceIdeal.Vals.hA m' c) (Cert.ReferenceIdeal.Vals.cA m' c) (fun n p => Cert.ReferenceIdeal.Vals.mk m' c p n)
    (Cert.ReferenceIdeal.Vals.gA m' c) (Cert.ReferenceIdeal.Vals.zeroA m' c) (Cert.ReferenceIdeal.Vals.stepA m' c hT)
    (fun n p => by rw [A.mask]; exact KerVals.H_v37 m c n p)
    (fun n => by
      unfold Cert.ReferenceIdeal.Vals.gA
      rw [show Cert.ReferenceIdeal.Vals.a4 m' c = KerVals.a4 m c from funext fun i => funext (A.a4 i),
        show Cert.ReferenceIdeal.Vals.a5 m' c = KerVals.a5 m c from funext fun i => funext (A.a5 i),
        show Cert.ReferenceIdeal.Vals.a6 m' c = KerVals.a6 m c from funext A.a6,
        ← gate m m' c A R n _ (KerVals.a4 m c) R.a4]
      refine congr (congr (congr (congrArg (fun x => gz x _) ?_) ?_) ?_) ?_
      · exact funext fun p => funext fun i => KerVals.H_v32 m c n p i
      · exact funext fun i => funext fun q => KerVals.H_v22 m c i q
      · exact funext fun i => funext fun q => congrFun (KerVals.H_arg5 m c) (ix2 i q)
      · exact funext fun q => KerVals.H_v28 m c q)
    200 (le_refl _) p u
  exact ⟨h.1, h.2.2.1⟩

include A R hT in
theorem bw_eq (p : Fin 1024) (u : Fin 256) : (Rec.bw (VH m) c 200).1 (ix2 p u) = Cert.ReferenceIdeal.Vals.hB m' c 200 p u
    ∧ IsR (Cert.ReferenceIdeal.Vals.hB m' c 200 p u) := by
  have h := KerSeq.seqB_eq (VH m c Cert.KernelIdeal.main_v32) (VH m c Cert.KernelIdeal.main_v37) (VH m c Cert.KernelIdeal.main_v25)
    (VH m c Cert.KernelIdeal.main_arg8) (VH m c Cert.KernelIdeal.main_v31)
    (Cert.ReferenceIdeal.Vals.hB m' c) (Cert.ReferenceIdeal.Vals.cB m' c) (fun n p => Cert.ReferenceIdeal.Vals.mk m' c p ⟨199 - n.val, by omega⟩)
    (Cert.ReferenceIdeal.Vals.gB m' c) (Cert.ReferenceIdeal.Vals.zeroB m' c) (Cert.ReferenceIdeal.Vals.stepB m' c hT)
    (fun n p => by rw [A.mask]; exact KerVals.H_v37 m c _ p)
    (fun n => by
      unfold Cert.ReferenceIdeal.Vals.gB
      rw [show Cert.ReferenceIdeal.Vals.a7 m' c = KerVals.a7 m c from funext fun i => funext (A.a7 i),
        show Cert.ReferenceIdeal.Vals.a8 m' c = KerVals.a8 m c from funext fun i => funext (A.a8 i),
        show Cert.ReferenceIdeal.Vals.a9 m' c = KerVals.a9 m c from funext A.a9,
        ← gate m m' c A R _ _ (KerVals.a7 m c) R.a7]
      refine congr (congr (congr (congrArg (fun x => gz x _) ?_) ?_) ?_) ?_
      · exact funext fun p => funext fun i => KerVals.H_v32 m c _ p i
      · exact funext fun i => funext fun q => KerVals.H_v25 m c i q
      · exact funext fun i => funext fun q => congrFun (KerVals.H_arg8 m c) (ix2 i q)
      · exact funext fun q => KerVals.H_v31 m c q)
    200 (le_refl _) p u
  exact ⟨h.1, h.2.2.1⟩

theorem H_lo (p : Fin 1024) (u : Fin 256) : Cert.ReferenceIdeal.Vals.H m' c p ⟨u.val, by omega⟩ = Cert.ReferenceIdeal.Vals.hA m' c 200 p u := by
  unfold Cert.ReferenceIdeal.Vals.H
  exact dif_pos u.isLt
theorem H_hi (p : Fin 1024) (u : Fin 256) : Cert.ReferenceIdeal.Vals.H m' c p ⟨256 + u.val, by omega⟩ = Cert.ReferenceIdeal.Vals.hB m' c 200 p u := by
  unfold Cert.ReferenceIdeal.Vals.H
  rw [dif_neg (by show ¬ 256 + u.val < 256; omega)]
  exact congrArg (Cert.ReferenceIdeal.Vals.hB m' c 200 p) (Fin.ext (by show 256 + u.val - 256 = u.val; omega))

include A R hT in
theorem N2_lo (p : Fin 1024) (u : Fin 256) (g b : Fin 256 → EReal) (hg : g u = KerVals.a10 m c ⟨u.val, by omega⟩)
    (hb : b u = KerVals.a11 m c ⟨u.val, by omega⟩) :
    KerHead.nrm (Rec.fw (VH m) c 200).1 g b p u = Cert.ReferenceIdeal.Vals.N2 m' c p ⟨u.val, by omega⟩ := by
  refine (nrm_eq _ g b p u (fun p => Cert.ReferenceIdeal.Vals.H m' c p ⟨u.val, by omega⟩)
    (fun p => (fw_eq m m' c A R hT p u).1.trans (H_lo m' c p u).symm)
    (fun p => by rw [H_lo m' c p u]; exact (fw_eq m m' c A R hT p u).2)).trans ?_
  unfold Cert.ReferenceIdeal.Vals.N2 Cert.ReferenceIdeal.Vals.V2 Cert.ReferenceIdeal.Vals.M2
  rw [A.a10, A.a11, hg, hb]
  rfl

include A R hT in
theorem N2_hi (p : Fin 1024) (u : Fin 256) (g b : Fin 256 → EReal) (hg : g u = KerVals.a10 m c ⟨256 + u.val, by omega⟩)
    (hb : b u = KerVals.a11 m c ⟨256 + u.val, by omega⟩) :
    KerHead.nrm (Rec.bw (VH m) c 200).1 g b p u = Cert.ReferenceIdeal.Vals.N2 m' c p ⟨256 + u.val, by omega⟩ := by
  refine (nrm_eq _ g b p u (fun p => Cert.ReferenceIdeal.Vals.H m' c p ⟨256 + u.val, by omega⟩)
    (fun p => (bw_eq m m' c A R hT p u).1.trans (H_hi m' c p u).symm)
    (fun p => by rw [H_hi m' c p u]; exact (bw_eq m m' c A R hT p u).2)).trans ?_
  unfold Cert.ReferenceIdeal.Vals.N2 Cert.ReferenceIdeal.Vals.V2 Cert.ReferenceIdeal.Vals.M2
  rw [A.a10, A.a11, hg, hb]
  rfl

include A R hT in
theorem lin_eq (p : Fin 1024) (q : Fin 64) :
    KerHead.lin (Rec.fw (VH m) c 200).1 (Rec.bw (VH m) c 200).1 (VH m c Cert.KernelIdeal.main_v38) (VH m c Cert.KernelIdeal.main_v39)
      (VH m c Cert.KernelIdeal.main_arg12) (VH m c Cert.KernelIdeal.main_v40) p q = Cert.ReferenceIdeal.Vals.L m' c p q := by
  unfold KerHead.lin Cert.ReferenceIdeal.Vals.L
  refine congrArg₂ (· + ·) (Eq.trans ?_ (Fin.sum_univ_add (a := 256) (b := 256)
    (fun e : Fin (256 + 256) => Cert.ReferenceIdeal.Vals.N2 m' c p e * Cert.ReferenceIdeal.Vals.a12 m' c e q)).symm) ?_
  · refine congrArg₂ (· + ·) (Finset.sum_congr rfl fun u _ => congrArg₂ (· * ·) ?_ ?_) (Finset.sum_congr rfl fun u _ => congrArg₂ (· * ·) ?_ ?_)
    · exact N2_lo m m' c A R hT p u _ _ (KerVals.H_v38 m c _) (KerVals.H_v39 m c _)
    · exact (congrFun (KerVals.H_arg12 m c) (ix2 _ q)).trans (A.a12 _ q).symm
    · exact N2_hi m m' c A R hT p u _ _ (KerVals.H_v38 m c _) (KerVals.H_v39 m c _)
    · exact (congrFun (KerVals.H_arg12 m c) (ix2 _ q)).trans (A.a12 _ q).symm
  · exact (KerVals.H_v40 m c q).trans (A.a13 q).symm

include A R hT in
/-- The two results are the same array. -/
theorem results : (Cert.Proof.Segs.vals (Cert.Proof.Main.VE m) c Cert.KernelIdeal.main_v41 : Vec Ideal Cert.KernelIdeal.S1024x64 .f32)
    = Cert.ReferenceIdeal.Ops.FINAL m' c (Proc.devRef .tc Cert.ReferenceIdeal.main_v64) := by
  funext j
  obtain ⟨p, q, rfl⟩ : ∃ (p : Fin 1024) (q : Fin 64), j = ix2 p q := ⟨j 0, j 1, funext fun a => by match a with | ⟨0, _⟩ => rfl | ⟨1, _⟩ => rfl⟩
  refine Eq.trans ?_ (Cert.ReferenceIdeal.Vals.out_eq m' c p q).symm
  refine (congrFun (Cert.Proof.Segs.VF_self (Cert.Proof.Main.VH m) c) (ix2 p q)).trans ?_
  refine (KerHead.head_at _ _ _ _ _ _ p q).trans ?_
  rw [smax_eq]
  exact congrArg (fun l => Cert.ReferenceIdeal.Read.smax l q) (funext fun q => lin_eq m m' c A R hT p q)

end

end Cert.Proof.Equal

end
-- ==== Proof.Algebraic.lean ====
/-
  The value claim: from one precondition and agreeing arguments, both programs end with the same result.
-/
module

public import proofs.«01_k».proof.Proof.Equal
public import proofs.«01_k».proof.Proof.Frames
public import proofs.«01_k».proof.Proof.RefKept

@[expose] public section

set_option maxRecDepth 16384

noncomputable section

namespace Cert.Proof.Algebraic

open Idealize.ShloMosaic Idealize.ShloMosaic.TcCoe Idealize.SL.Sem
open Cert.Alg (IsR)
open Cert.Proof

theorem inf_eq : Ideal.ofBits .f32 0x7F800000#32 = (⊤ : EReal) := by
  simp [Ideal.ofBits, Ideal.ieee]

/-- A number whose absolute value lies below infinity is real. -/
theorem real_of (x : EReal) (h : Ideal.cmp .olt (max x (-x)) (Ideal.ofBits .f32 0x7F800000#32) = 1#1) : IsR x := by
  rw [inf_eq] at h
  have hl : max x (-x) < ⊤ := by
    by_contra hn
    simp [Ideal.cmp, hn] at h
  induction x using EReal.rec with
  | bot => simp at hl
  | top => simp at hl
  | coe r => exact ⟨r, rfl⟩

section
variable (m : (ℓ : Loc Cert.KernelIdeal.nD Cert.KernelIdeal.τ Cert.KernelIdeal.sig) → Buf (Elt Ideal) ℓ)

theorem finite [Cert.Pre_in_vocab_finite.Facts] (h : Cert.Pre_KernelIdeal_in_vocab_finite m) (c : Dev Cert.KernelIdeal.nD) : Equal.Finite m c where
  X p t e := real_of _ (congrFun (h c).2.1 (ix2 ⟨(KerVals.tok m c p t).toNat % 100000, Nat.mod_lt _ (by decide)⟩ e))
  a2 e := real_of _ (congrFun (h c).2.2.1 (ix1 e))
  a4 i q := real_of _ (congrFun (h c).2.2.2.1 (ix2 i q))
  a7 i q := real_of _ (congrFun (h c).2.2.2.2 (ix2 i q))

end

theorem algebraic [Cert.Pre_in_vocab_finite.Facts] : Cert.algebraic_KernelIdeal_ReferenceIdeal_pre_in_vocab_finite := by
  intro m g m' g' hp ha
  have hok := Frames.tok_finite m hp
  refine ⟨fun c => Main.VE m c (Proc.devRef .tc Cert.KernelIdeal.main_v41), ?_, ?_⟩
  · exact (θ_run Cert.KernelIdeal.defs _ _).mono (fun r h c => ⟨h.1 c Cert.KernelIdeal.main_v41 (by decide), Frames.args_kept m h c⟩)
      (Main.run_main m g (Frames.inRange_of m hok))
  · refine (θ_run Cert.ReferenceIdeal.defs _ _).mono (fun r h c => ⟨(h c Cert.ReferenceIdeal.main_v64 (by decide)).trans ?_,
      Cert.ReferenceIdeal.Ops.args_kept (F := Ideal) m' h c⟩) (Cert.ReferenceIdeal.Ops.run_fold (F := Ideal) m' g')
    obtain ⟨h0, h1, h2, h3, h4, h5, h6, h7, h8, h9, h10, h11, h12, h13⟩ := ha c
    have ht : ∀ p t, Cert.ReferenceIdeal.Vals.tok m' c p t = KerVals.tok m c p t := fun p t => congrFun h0 (ix2 p t)
    have A : Equal.Agree m m' c := {
      X := fun p t e => by
        refine (congrFun h1 _).trans ?_
        show (m (c, Proc.devRef .tc Cert.KernelIdeal.main_arg1) : Vec Ideal Cert.KernelIdeal.S100000x128 .f32) _ = _
        unfold KerVals.X
        refine congrArg (fun n : Fin 100000 => (m (c, Proc.devRef .tc Cert.KernelIdeal.main_arg1) : Vec Ideal Cert.KernelIdeal.S100000x128 .f32) (ix2 n e)) (Fin.ext ?_)
        show _ % _ = _ % _
        rw [ht p t]
      mask := fun p t => by
        unfold Cert.ReferenceIdeal.Vals.mk KerVals.mk
        rw [ht p t]
      a2 := fun e => congrFun h2 (ix1 e)
      a3 := fun e => congrFun h3 (ix1 e)
      a4 := fun i q => congrFun h4 (ix2 i q)
      a5 := fun i q => congrFun h5 (ix2 i q)
      a6 := fun q => congrFun h6 (ix1 q)
      a7 := fun i q => congrFun h7 (ix2 i q)
      a8 := fun i q => congrFun h8 (ix2 i q)
      a9 := fun q => congrFun h9 (ix1 q)
      a10 := fun e => congrFun h10 (ix1 e)
      a11 := fun e => congrFun h11 (ix1 e)
      a12 := fun e q => congrFun h12 (ix2 e q)
      a13 := fun q => congrFun h13 (ix1 q) }
    exact (Equal.results m m' c A (finite m hp c) (fun p t => by rw [ht p t]; exact hok c (ix2 p t))).symm

end Cert.Proof.Algebraic

end
-- ==== Proof.lean ====
/- The proof of the claim, from the runs of the two programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_vocab
public import proofs.«01_k».proof.Proof.Gen.Pre_in_vocab_finite
public import proofs.«01_k».proof.Proof.Frames
public import proofs.«01_k».proof.Proof.Algebraic
public import proofs.«01_k».proof.Proof.RefKept
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts, Cert.Pre_in_vocab_finite.Gen.facts,
  Cert.Proof.Frames.frame_kernel, Cert.Proof.Frames.frame_ideal, Cert.Proof.Frames.frame_ideal_finite,
  Cert.ReferenceIdeal.Ops.frame_reference, Cert.ReferenceIdeal.Ops.frame_reference_finite, trivial,
  Cert.Proof.Algebraic.algebraic⟩

end Cert.Proof

end
